-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreReferenceIdeal (m : (ℓ : Loc Cert.PreReferenceIdeal.nD Cert.PreReferenceIdeal.τ Cert.PreReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4)
      ∧ r.2.mem ((c.tc : Thread Cert.PleKernel.nD Cert.PleKernel.τ).loc Cert.PleKernel.main_arg5) = m ((c.tc : Thread Cert.PleKernel.nD Cert.PleKernel.τ).loc Cert.PleKernel.main_arg5)
      ∧ r.2.mem ((c.tc : Thread Cert.PleKernel.nD Cert.PleKernel.τ).loc Cert.PleKernel.main_arg6) = m ((c.tc : Thread Cert.PleKernel.nD Cert.PleKernel.τ).loc Cert.PleKernel.main_arg6)
      ∧ r.2.mem ((c.tc : Thread Cert.PleKernel.nD Cert.PleKernel.τ).loc Cert.PleKernel.main_arg7) = m ((c.tc : Thread Cert.PleKernel.nD Cert.PleKernel.τ).loc Cert.PleKernel.main_arg7)
      ∧ r.2.mem ((c.tc : Thread Cert.PleKernel.nD Cert.PleKernel.τ).loc Cert.PleKernel.main_arg8) = m ((c.tc : Thread Cert.PleKernel.nD Cert.PleKernel.τ).loc Cert.PleKernel.main_arg8))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
      ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6)
      ∧ r.2.mem ((c.tc : Thread Cert.PleKernelIdeal.nD Cert.PleKernelIdeal.τ).loc Cert.PleKernelIdeal.main_arg7) = m ((c.tc : Thread Cert.PleKernelIdeal.nD Cert.PleKernelIdeal.τ).loc Cert.PleKernelIdeal.main_arg7)
      ∧ r.2.mem ((c.tc : Thread Cert.PleKernelIdeal.nD Cert.PleKernelIdeal.τ).loc Cert.PleKernelIdeal.main_arg8) = m ((c.tc : Thread Cert.PleKernelIdeal.nD Cert.PleKernelIdeal.τ).loc Cert.PleKernelIdeal.main_arg8))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6)
      ∧ r.2.mem ((c.tc : Thread Cert.PleReferenceIdeal.nD Cert.PleReferenceIdeal.τ).loc Cert.PleReferenceIdeal.main_arg7) = m ((c.tc : Thread Cert.PleReferenceIdeal.nD Cert.PleReferenceIdeal.τ).loc Cert.PleReferenceIdeal.main_arg7)
      ∧ r.2.mem ((c.tc : Thread Cert.PleReferenceIdeal.nD Cert.PleReferenceIdeal.τ).loc Cert.PleReferenceIdeal.main_arg8) = m ((c.tc : Thread Cert.PleReferenceIdeal.nD Cert.PleReferenceIdeal.τ).loc Cert.PleReferenceIdeal.main_arg8))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11)
      ∧ r.2.mem ((c.tc : Thread Cert.MergeKernel.nD Cert.MergeKernel.τ).loc Cert.MergeKernel.main_arg12) = m ((c.tc : Thread Cert.MergeKernel.nD Cert.MergeKernel.τ).loc Cert.MergeKernel.main_arg12)
      ∧ r.2.mem ((c.tc : Thread Cert.MergeKernel.nD Cert.MergeKernel.τ).loc Cert.MergeKernel.main_arg13) = m ((c.tc : Thread Cert.MergeKernel.nD Cert.MergeKernel.τ).loc Cert.MergeKernel.main_arg13))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
      ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4)
      ∧ r.2.mem ((c.tc : Thread Cert.PreKernel.nD Cert.PreKernel.τ).loc Cert.PreKernel.main_arg5) = m ((c.tc : Thread Cert.PreKernel.nD Cert.PreKernel.τ).loc Cert.PreKernel.main_arg5)
      ∧ r.2.mem ((c.tc : Thread Cert.PreKernel.nD Cert.PreKernel.τ).loc Cert.PreKernel.main_arg6) = m ((c.tc : Thread Cert.PreKernel.nD Cert.PreKernel.τ).loc Cert.PreKernel.main_arg6)
      ∧ r.2.mem ((c.tc : Thread Cert.PreKernel.nD Cert.PreKernel.τ).loc Cert.PreKernel.main_arg7) = m ((c.tc : Thread Cert.PreKernel.nD Cert.PreKernel.τ).loc Cert.PreKernel.main_arg7)
      ∧ r.2.mem ((c.tc : Thread Cert.PreKernel.nD Cert.PreKernel.τ).loc Cert.PreKernel.main_arg8) = m ((c.tc : Thread Cert.PreKernel.nD Cert.PreKernel.τ).loc Cert.PreKernel.main_arg8)
      ∧ r.2.mem ((c.tc : Thread Cert.PreKernel.nD Cert.PreKernel.τ).loc Cert.PreKernel.main_arg9) = m ((c.tc : Thread Cert.PreKernel.nD Cert.PreKernel.τ).loc Cert.PreKernel.main_arg9)
      ∧ r.2.mem ((c.tc : Thread Cert.PreKernel.nD Cert.PreKernel.τ).loc Cert.PreKernel.main_arg10) = m ((c.tc : Thread Cert.PreKernel.nD Cert.PreKernel.τ).loc Cert.PreKernel.main_arg10)
      ∧ r.2.mem ((c.tc : Thread Cert.PreKernel.nD Cert.PreKernel.τ).loc Cert.PreKernel.main_arg11) = m ((c.tc : Thread Cert.PreKernel.nD Cert.PreKernel.τ).loc Cert.PreKernel.main_arg11))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
      ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
      ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
      ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7)
      ∧ r.2.mem ((c.tc : Thread Cert.PreKernelIdeal.nD Cert.PreKernelIdeal.τ).loc Cert.PreKernelIdeal.main_arg8) = m ((c.tc : Thread Cert.PreKernelIdeal.nD Cert.PreKernelIdeal.τ).loc Cert.PreKernelIdeal.main_arg8)
      ∧ r.2.mem ((c.tc : Thread Cert.PreKernelIdeal.nD Cert.PreKernelIdeal.τ).loc Cert.PreKernelIdeal.main_arg9) = m ((c.tc : Thread Cert.PreKernelIdeal.nD Cert.PreKernelIdeal.τ).loc Cert.PreKernelIdeal.main_arg9)
      ∧ r.2.mem ((c.tc : Thread Cert.PreKernelIdeal.nD Cert.PreKernelIdeal.τ).loc Cert.PreKernelIdeal.main_arg10) = m ((c.tc : Thread Cert.PreKernelIdeal.nD Cert.PreKernelIdeal.τ).loc Cert.PreKernelIdeal.main_arg10)
      ∧ r.2.mem ((c.tc : Thread Cert.PreKernelIdeal.nD Cert.PreKernelIdeal.τ).loc Cert.PreKernelIdeal.main_arg11) = m ((c.tc : Thread Cert.PreKernelIdeal.nD Cert.PreKernelIdeal.τ).loc Cert.PreKernelIdeal.main_arg11))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5)
      ∧ r.2.mem ((c.tc : Thread Cert.PreReferenceIdeal.nD Cert.PreReferenceIdeal.τ).loc Cert.PreReferenceIdeal.main_arg6) = m ((c.tc : Thread Cert.PreReferenceIdeal.nD Cert.PreReferenceIdeal.τ).loc Cert.PreReferenceIdeal.main_arg6)
      ∧ r.2.mem ((c.tc : Thread Cert.PreReferenceIdeal.nD Cert.PreReferenceIdeal.τ).loc Cert.PreReferenceIdeal.main_arg7) = m ((c.tc : Thread Cert.PreReferenceIdeal.nD Cert.PreReferenceIdeal.τ).loc Cert.PreReferenceIdeal.main_arg7)
      ∧ r.2.mem ((c.tc : Thread Cert.PreReferenceIdeal.nD Cert.PreReferenceIdeal.τ).loc Cert.PreReferenceIdeal.main_arg8) = m ((c.tc : Thread Cert.PreReferenceIdeal.nD Cert.PreReferenceIdeal.τ).loc Cert.PreReferenceIdeal.main_arg8)
      ∧ r.2.mem ((c.tc : Thread Cert.PreReferenceIdeal.nD Cert.PreReferenceIdeal.τ).loc Cert.PreReferenceIdeal.main_arg9) = m ((c.tc : Thread Cert.PreReferenceIdeal.nD Cert.PreReferenceIdeal.τ).loc Cert.PreReferenceIdeal.main_arg9)
      ∧ r.2.mem ((c.tc : Thread Cert.PreReferenceIdeal.nD Cert.PreReferenceIdeal.τ).loc Cert.PreReferenceIdeal.main_arg10) = m ((c.tc : Thread Cert.PreReferenceIdeal.nD Cert.PreReferenceIdeal.τ).loc Cert.PreReferenceIdeal.main_arg10)
      ∧ r.2.mem ((c.tc : Thread Cert.PreReferenceIdeal.nD Cert.PreReferenceIdeal.τ).loc Cert.PreReferenceIdeal.main_arg11) = m ((c.tc : Thread Cert.PreReferenceIdeal.nD Cert.PreReferenceIdeal.τ).loc Cert.PreReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)
      ∧ m' ((c.tc : Thread Cert.PleReferenceIdeal.nD Cert.PleReferenceIdeal.τ).loc Cert.PleReferenceIdeal.main_arg5) = m ((c.tc : Thread Cert.PleKernelIdeal.nD Cert.PleKernelIdeal.τ).loc Cert.PleKernelIdeal.main_arg5)
      ∧ m' ((c.tc : Thread Cert.PleReferenceIdeal.nD Cert.PleReferenceIdeal.τ).loc Cert.PleReferenceIdeal.main_arg6) = m ((c.tc : Thread Cert.PleKernelIdeal.nD Cert.PleKernelIdeal.τ).loc Cert.PleKernelIdeal.main_arg6)
      ∧ m' ((c.tc : Thread Cert.PleReferenceIdeal.nD Cert.PleReferenceIdeal.τ).loc Cert.PleReferenceIdeal.main_arg7) = m ((c.tc : Thread Cert.PleKernelIdeal.nD Cert.PleKernelIdeal.τ).loc Cert.PleKernelIdeal.main_arg7)
      ∧ m' ((c.tc : Thread Cert.PleReferenceIdeal.nD Cert.PleReferenceIdeal.τ).loc Cert.PleReferenceIdeal.main_arg8) = m ((c.tc : Thread Cert.PleKernelIdeal.nD Cert.PleKernelIdeal.τ).loc Cert.PleKernelIdeal.main_arg8)) →
    ∃ (v0 : (c : Dev Cert.PleKernelIdeal.nD) → Buf (Elt Ideal) ((c.tc : Thread Cert.PleKernelIdeal.nD Cert.PleKernelIdeal.τ).loc Cert.PleKernelIdeal.main_v7)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v7) = v0 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
          ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
          ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6)
          ∧ r.2.mem ((c.tc : Thread Cert.PleKernelIdeal.nD Cert.PleKernelIdeal.τ).loc Cert.PleKernelIdeal.main_arg7) = m ((c.tc : Thread Cert.PleKernelIdeal.nD Cert.PleKernelIdeal.τ).loc Cert.PleKernelIdeal.main_arg7)
          ∧ r.2.mem ((c.tc : Thread Cert.PleKernelIdeal.nD Cert.PleKernelIdeal.τ).loc Cert.PleKernelIdeal.main_arg8) = m ((c.tc : Thread Cert.PleKernelIdeal.nD Cert.PleKernelIdeal.τ).loc Cert.PleKernelIdeal.main_arg8))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v44) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6)
          ∧ r.2.mem ((c.tc : Thread Cert.PleReferenceIdeal.nD Cert.PleReferenceIdeal.τ).loc Cert.PleReferenceIdeal.main_arg7) = m' ((c.tc : Thread Cert.PleReferenceIdeal.nD Cert.PleReferenceIdeal.τ).loc Cert.PleReferenceIdeal.main_arg7)
          ∧ r.2.mem ((c.tc : Thread Cert.PleReferenceIdeal.nD Cert.PleReferenceIdeal.τ).loc Cert.PleReferenceIdeal.main_arg8) = m' ((c.tc : Thread Cert.PleReferenceIdeal.nD Cert.PleReferenceIdeal.τ).loc Cert.PleReferenceIdeal.main_arg8))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v2_0)) (v1 : (c : Dev Cert.ConvKernelIdeal.nD) → Buf (Elt Ideal) ((c.tc : Thread Cert.ConvKernelIdeal.nD Cert.ConvKernelIdeal.τ).loc Cert.ConvKernelIdeal.main_v2_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v2_0) = v0 c
          ∧ r.2.mem ((c.tc : Thread Cert.ConvKernelIdeal.nD Cert.ConvKernelIdeal.τ).loc Cert.ConvKernelIdeal.main_v2_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v43) = v0 c
          ∧ r.2.mem ((c.tc : Thread Cert.ConvReferenceIdeal.nD Cert.ConvReferenceIdeal.τ).loc Cert.ConvReferenceIdeal.main_v42) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)
      ∧ m' ((c.tc : Thread Cert.MergeReferenceIdeal.nD Cert.MergeReferenceIdeal.τ).loc Cert.MergeReferenceIdeal.main_arg12) = m ((c.tc : Thread Cert.MergeKernelIdeal.nD Cert.MergeKernelIdeal.τ).loc Cert.MergeKernelIdeal.main_arg12)
      ∧ m' ((c.tc : Thread Cert.MergeReferenceIdeal.nD Cert.MergeReferenceIdeal.τ).loc Cert.MergeReferenceIdeal.main_arg13) = m ((c.tc : Thread Cert.MergeKernelIdeal.nD Cert.MergeKernelIdeal.τ).loc Cert.MergeKernelIdeal.main_arg13)) →
    ∃ (v0 : (c : Dev Cert.MergeKernelIdeal.nD) → Buf (Elt Ideal) ((c.tc : Thread Cert.MergeKernelIdeal.nD Cert.MergeKernelIdeal.τ).loc Cert.MergeKernelIdeal.main_v17)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v17) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
          ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
          ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v65) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)) →
    ∃ (v0 : (c : Dev Cert.ProjKernelIdeal.nD) → Buf (Elt Ideal) ((c.tc : Thread Cert.ProjKernelIdeal.nD Cert.ProjKernelIdeal.τ).loc Cert.ProjKernelIdeal.main_v55_0)) (v1 : (c : Dev Cert.ProjKernelIdeal.nD) → Buf (Elt Ideal) ((c.tc : Thread Cert.ProjKernelIdeal.nD Cert.ProjKernelIdeal.τ).loc Cert.ProjKernelIdeal.main_v55_1)) (v2 : (c : Dev Cert.ProjKernelIdeal.nD) → Buf (Elt Ideal) ((c.tc : Thread Cert.ProjKernelIdeal.nD Cert.ProjKernelIdeal.τ).loc Cert.ProjKernelIdeal.main_v55_2)) (v3 : (c : Dev Cert.ProjKernelIdeal.nD) → Buf (Elt Ideal) ((c.tc : Thread Cert.ProjKernelIdeal.nD Cert.ProjKernelIdeal.τ).loc Cert.ProjKernelIdeal.main_v55_3)) (v4 : (c : Dev Cert.ProjKernelIdeal.nD) → Buf (Elt Ideal) ((c.tc : Thread Cert.ProjKernelIdeal.nD Cert.ProjKernelIdeal.τ).loc Cert.ProjKernelIdeal.main_v55_4)) (v5 : (c : Dev Cert.ProjKernelIdeal.nD) → Buf (Elt Ideal) ((c.tc : Thread Cert.ProjKernelIdeal.nD Cert.ProjKernelIdeal.τ).loc Cert.ProjKernelIdeal.main_v55_5)) (v6 : (c : Dev Cert.ProjKernelIdeal.nD) → Buf (Elt Ideal) ((c.tc : Thread Cert.ProjKernelIdeal.nD Cert.ProjKernelIdeal.τ).loc Cert.ProjKernelIdeal.main_v55_6)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v55_0) = v0 c
          ∧ r.2.mem ((c.tc : Thread Cert.ProjKernelIdeal.nD Cert.ProjKernelIdeal.τ).loc Cert.ProjKernelIdeal.main_v55_1) = v1 c
          ∧ r.2.mem ((c.tc : Thread Cert.ProjKernelIdeal.nD Cert.ProjKernelIdeal.τ).loc Cert.ProjKernelIdeal.main_v55_2) = v2 c
          ∧ r.2.mem ((c.tc : Thread Cert.ProjKernelIdeal.nD Cert.ProjKernelIdeal.τ).loc Cert.ProjKernelIdeal.main_v55_3) = v3 c
          ∧ r.2.mem ((c.tc : Thread Cert.ProjKernelIdeal.nD Cert.ProjKernelIdeal.τ).loc Cert.ProjKernelIdeal.main_v55_4) = v4 c
          ∧ r.2.mem ((c.tc : Thread Cert.ProjKernelIdeal.nD Cert.ProjKernelIdeal.τ).loc Cert.ProjKernelIdeal.main_v55_5) = v5 c
          ∧ r.2.mem ((c.tc : Thread Cert.ProjKernelIdeal.nD Cert.ProjKernelIdeal.τ).loc Cert.ProjKernelIdeal.main_v55_6) = v6 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v213) = v0 c
          ∧ r.2.mem ((c.tc : Thread Cert.ProjReferenceIdeal.nD Cert.ProjReferenceIdeal.τ).loc Cert.ProjReferenceIdeal.main_v214) = v1 c
          ∧ r.2.mem ((c.tc : Thread Cert.ProjReferenceIdeal.nD Cert.ProjReferenceIdeal.τ).loc Cert.ProjReferenceIdeal.main_v215) = v2 c
          ∧ r.2.mem ((c.tc : Thread Cert.ProjReferenceIdeal.nD Cert.ProjReferenceIdeal.τ).loc Cert.ProjReferenceIdeal.main_v216) = v3 c
          ∧ r.2.mem ((c.tc : Thread Cert.ProjReferenceIdeal.nD Cert.ProjReferenceIdeal.τ).loc Cert.ProjReferenceIdeal.main_v218) = v4 c
          ∧ r.2.mem ((c.tc : Thread Cert.ProjReferenceIdeal.nD Cert.ProjReferenceIdeal.τ).loc Cert.ProjReferenceIdeal.main_v220) = v5 c
          ∧ r.2.mem ((c.tc : Thread Cert.ProjReferenceIdeal.nD Cert.ProjReferenceIdeal.τ).loc Cert.ProjReferenceIdeal.main_v221) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_PreKernel_PreKernelIdeal : Prop :=
  True

def algebraic_PreKernelIdeal_PreReferenceIdeal [hPreKernelIdeal : Cert.PreKernelIdeal.Facts] [hPreReferenceIdeal : Cert.PreReferenceIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreKernelIdeal m →
    (∀ c : Dev Cert.PreKernelIdeal.nD,
      m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0)
      ∧ m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1)
      ∧ m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2)
      ∧ m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3)
      ∧ m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4)
      ∧ m' ((c.tc : Thread Cert.PreReferenceIdeal.nD Cert.PreReferenceIdeal.τ).loc Cert.PreReferenceIdeal.main_arg5) = m ((c.tc : Thread Cert.PreKernelIdeal.nD Cert.PreKernelIdeal.τ).loc Cert.PreKernelIdeal.main_arg5)
      ∧ m' ((c.tc : Thread Cert.PreReferenceIdeal.nD Cert.PreReferenceIdeal.τ).loc Cert.PreReferenceIdeal.main_arg6) = m ((c.tc : Thread Cert.PreKernelIdeal.nD Cert.PreKernelIdeal.τ).loc Cert.PreKernelIdeal.main_arg6)
      ∧ m' ((c.tc : Thread Cert.PreReferenceIdeal.nD Cert.PreReferenceIdeal.τ).loc Cert.PreReferenceIdeal.main_arg7) = m ((c.tc : Thread Cert.PreKernelIdeal.nD Cert.PreKernelIdeal.τ).loc Cert.PreKernelIdeal.main_arg7)
      ∧ m' ((c.tc : Thread Cert.PreReferenceIdeal.nD Cert.PreReferenceIdeal.τ).loc Cert.PreReferenceIdeal.main_arg8) = m ((c.tc : Thread Cert.PreKernelIdeal.nD Cert.PreKernelIdeal.τ).loc Cert.PreKernelIdeal.main_arg8)
      ∧ m' ((c.tc : Thread Cert.PreReferenceIdeal.nD Cert.PreReferenceIdeal.τ).loc Cert.PreReferenceIdeal.main_arg9) = m ((c.tc : Thread Cert.PreKernelIdeal.nD Cert.PreKernelIdeal.τ).loc Cert.PreKernelIdeal.main_arg9)
      ∧ m' ((c.tc : Thread Cert.PreReferenceIdeal.nD Cert.PreReferenceIdeal.τ).loc Cert.PreReferenceIdeal.main_arg10) = m ((c.tc : Thread Cert.PreKernelIdeal.nD Cert.PreKernelIdeal.τ).loc Cert.PreKernelIdeal.main_arg10)
      ∧ m' ((c.tc : Thread Cert.PreReferenceIdeal.nD Cert.PreReferenceIdeal.τ).loc Cert.PreReferenceIdeal.main_arg11) = m ((c.tc : Thread Cert.PreKernelIdeal.nD Cert.PreKernelIdeal.τ).loc Cert.PreKernelIdeal.main_arg11)) →
    ∃ (v0 : (c : Dev Cert.PreKernelIdeal.nD) → Buf (Elt Ideal) ((c.tc : Thread Cert.PreKernelIdeal.nD Cert.PreKernelIdeal.τ).loc Cert.PreKernelIdeal.main_v23_0)) (v1 : (c : Dev Cert.PreKernelIdeal.nD) → Buf (Elt Ideal) ((c.tc : Thread Cert.PreKernelIdeal.nD Cert.PreKernelIdeal.τ).loc Cert.PreKernelIdeal.main_v23_1)) (v2 : (c : Dev Cert.PreKernelIdeal.nD) → Buf (Elt Ideal) ((c.tc : Thread Cert.PreKernelIdeal.nD Cert.PreKernelIdeal.τ).loc Cert.PreKernelIdeal.main_v23_2)) (v3 : (c : Dev Cert.PreKernelIdeal.nD) → Buf (Elt Ideal) ((c.tc : Thread Cert.PreKernelIdeal.nD Cert.PreKernelIdeal.τ).loc Cert.PreKernelIdeal.main_v23_3)) (v4 : (c : Dev Cert.PreKernelIdeal.nD) → Buf (Elt Ideal) ((c.tc : Thread Cert.PreKernelIdeal.nD Cert.PreKernelIdeal.τ).loc Cert.PreKernelIdeal.main_v23_4)) (v5 : (c : Dev Cert.PreKernelIdeal.nD) → Buf (Elt Ideal) ((c.tc : Thread Cert.PreKernelIdeal.nD Cert.PreKernelIdeal.τ).loc Cert.PreKernelIdeal.main_v23_5)) (v6 : (c : Dev Cert.PreKernelIdeal.nD) → Buf (Elt Ideal) ((c.tc : Thread Cert.PreKernelIdeal.nD Cert.PreKernelIdeal.τ).loc Cert.PreKernelIdeal.main_v23_6)) (v7 : (c : Dev Cert.PreKernelIdeal.nD) → Buf (Elt Ideal) ((c.tc : Thread Cert.PreKernelIdeal.nD Cert.PreKernelIdeal.τ).loc Cert.PreKernelIdeal.main_v23_7)) (v8 : (c : Dev Cert.PreKernelIdeal.nD) → Buf (Elt Ideal) ((c.tc : Thread Cert.PreKernelIdeal.nD Cert.PreKernelIdeal.τ).loc Cert.PreKernelIdeal.main_v23_8)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v23_0) = v0 c
          ∧ r.2.mem ((c.tc : Thread Cert.PreKernelIdeal.nD Cert.PreKernelIdeal.τ).loc Cert.PreKernelIdeal.main_v23_1) = v1 c
          ∧ r.2.mem ((c.tc : Thread Cert.PreKernelIdeal.nD Cert.PreKernelIdeal.τ).loc Cert.PreKernelIdeal.main_v23_2) = v2 c
          ∧ r.2.mem ((c.tc : Thread Cert.PreKernelIdeal.nD Cert.PreKernelIdeal.τ).loc Cert.PreKernelIdeal.main_v23_3) = v3 c
          ∧ r.2.mem ((c.tc : Thread Cert.PreKernelIdeal.nD Cert.PreKernelIdeal.τ).loc Cert.PreKernelIdeal.main_v23_4) = v4 c
          ∧ r.2.mem ((c.tc : Thread Cert.PreKernelIdeal.nD Cert.PreKernelIdeal.τ).loc Cert.PreKernelIdeal.main_v23_5) = v5 c
          ∧ r.2.mem ((c.tc : Thread Cert.PreKernelIdeal.nD Cert.PreKernelIdeal.τ).loc Cert.PreKernelIdeal.main_v23_6) = v6 c
          ∧ r.2.mem ((c.tc : Thread Cert.PreKernelIdeal.nD Cert.PreKernelIdeal.τ).loc Cert.PreKernelIdeal.main_v23_7) = v7 c
          ∧ r.2.mem ((c.tc : Thread Cert.PreKernelIdeal.nD Cert.PreKernelIdeal.τ).loc Cert.PreKernelIdeal.main_v23_8) = v8 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
          ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
          ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
          ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7)
          ∧ r.2.mem ((c.tc : Thread Cert.PreKernelIdeal.nD Cert.PreKernelIdeal.τ).loc Cert.PreKernelIdeal.main_arg8) = m ((c.tc : Thread Cert.PreKernelIdeal.nD Cert.PreKernelIdeal.τ).loc Cert.PreKernelIdeal.main_arg8)
          ∧ r.2.mem ((c.tc : Thread Cert.PreKernelIdeal.nD Cert.PreKernelIdeal.τ).loc Cert.PreKernelIdeal.main_arg9) = m ((c.tc : Thread Cert.PreKernelIdeal.nD Cert.PreKernelIdeal.τ).loc Cert.PreKernelIdeal.main_arg9)
          ∧ r.2.mem ((c.tc : Thread Cert.PreKernelIdeal.nD Cert.PreKernelIdeal.τ).loc Cert.PreKernelIdeal.main_arg10) = m ((c.tc : Thread Cert.PreKernelIdeal.nD Cert.PreKernelIdeal.τ).loc Cert.PreKernelIdeal.main_arg10)
          ∧ r.2.mem ((c.tc : Thread Cert.PreKernelIdeal.nD Cert.PreKernelIdeal.τ).loc Cert.PreKernelIdeal.main_arg11) = m ((c.tc : Thread Cert.PreKernelIdeal.nD Cert.PreKernelIdeal.τ).loc Cert.PreKernelIdeal.main_arg11))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v96) = v0 c
          ∧ r.2.mem ((c.tc : Thread Cert.PreReferenceIdeal.nD Cert.PreReferenceIdeal.τ).loc Cert.PreReferenceIdeal.main_v98) = v1 c
          ∧ r.2.mem ((c.tc : Thread Cert.PreReferenceIdeal.nD Cert.PreReferenceIdeal.τ).loc Cert.PreReferenceIdeal.main_v100) = v2 c
          ∧ r.2.mem ((c.tc : Thread Cert.PreReferenceIdeal.nD Cert.PreReferenceIdeal.τ).loc Cert.PreReferenceIdeal.main_v102) = v3 c
          ∧ r.2.mem ((c.tc : Thread Cert.PreReferenceIdeal.nD Cert.PreReferenceIdeal.τ).loc Cert.PreReferenceIdeal.main_v105) = v4 c
          ∧ r.2.mem ((c.tc : Thread Cert.PreReferenceIdeal.nD Cert.PreReferenceIdeal.τ).loc Cert.PreReferenceIdeal.main_v108) = v5 c
          ∧ r.2.mem ((c.tc : Thread Cert.PreReferenceIdeal.nD Cert.PreReferenceIdeal.τ).loc Cert.PreReferenceIdeal.main_v109) = v6 c
          ∧ r.2.mem ((c.tc : Thread Cert.PreReferenceIdeal.nD Cert.PreReferenceIdeal.τ).loc Cert.PreReferenceIdeal.main_v110) = v7 c
          ∧ r.2.mem ((c.tc : Thread Cert.PreReferenceIdeal.nD Cert.PreReferenceIdeal.τ).loc Cert.PreReferenceIdeal.main_v111) = v8 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4)
          ∧ r.2.mem ((c.tc : Thread Cert.PreReferenceIdeal.nD Cert.PreReferenceIdeal.τ).loc Cert.PreReferenceIdeal.main_arg5) = m' ((c.tc : Thread Cert.PreReferenceIdeal.nD Cert.PreReferenceIdeal.τ).loc Cert.PreReferenceIdeal.main_arg5)
          ∧ r.2.mem ((c.tc : Thread Cert.PreReferenceIdeal.nD Cert.PreReferenceIdeal.τ).loc Cert.PreReferenceIdeal.main_arg6) = m' ((c.tc : Thread Cert.PreReferenceIdeal.nD Cert.PreReferenceIdeal.τ).loc Cert.PreReferenceIdeal.main_arg6)
          ∧ r.2.mem ((c.tc : Thread Cert.PreReferenceIdeal.nD Cert.PreReferenceIdeal.τ).loc Cert.PreReferenceIdeal.main_arg7) = m' ((c.tc : Thread Cert.PreReferenceIdeal.nD Cert.PreReferenceIdeal.τ).loc Cert.PreReferenceIdeal.main_arg7)
          ∧ r.2.mem ((c.tc : Thread Cert.PreReferenceIdeal.nD Cert.PreReferenceIdeal.τ).loc Cert.PreReferenceIdeal.main_arg8) = m' ((c.tc : Thread Cert.PreReferenceIdeal.nD Cert.PreReferenceIdeal.τ).loc Cert.PreReferenceIdeal.main_arg8)
          ∧ r.2.mem ((c.tc : Thread Cert.PreReferenceIdeal.nD Cert.PreReferenceIdeal.τ).loc Cert.PreReferenceIdeal.main_arg9) = m' ((c.tc : Thread Cert.PreReferenceIdeal.nD Cert.PreReferenceIdeal.τ).loc Cert.PreReferenceIdeal.main_arg9)
          ∧ r.2.mem ((c.tc : Thread Cert.PreReferenceIdeal.nD Cert.PreReferenceIdeal.τ).loc Cert.PreReferenceIdeal.main_arg10) = m' ((c.tc : Thread Cert.PreReferenceIdeal.nD Cert.PreReferenceIdeal.τ).loc Cert.PreReferenceIdeal.main_arg10)
          ∧ r.2.mem ((c.tc : Thread Cert.PreReferenceIdeal.nD Cert.PreReferenceIdeal.τ).loc Cert.PreReferenceIdeal.main_arg11) = m' ((c.tc : Thread Cert.PreReferenceIdeal.nD Cert.PreReferenceIdeal.τ).loc Cert.PreReferenceIdeal.main_arg11))

def Claim : Prop :=
  ∃ (hKernel : Cert.Kernel.Facts) (hKernelIdeal : Cert.KernelIdeal.Facts) (hReferenceIdeal : Cert.ReferenceIdeal.Facts) (hPleKernel : Cert.PleKernel.Facts) (hPleKernelIdeal : Cert.PleKernelIdeal.Facts) (hPleReferenceIdeal : Cert.PleReferenceIdeal.Facts) (hConvKernel : Cert.ConvKernel.Facts) (hConvKernelIdeal : Cert.ConvKernelIdeal.Facts) (hConvReferenceIdeal : Cert.ConvReferenceIdeal.Facts) (hMergeKernel : Cert.MergeKernel.Facts) (hMergeKernelIdeal : Cert.MergeKernelIdeal.Facts) (hMergeReferenceIdeal : Cert.MergeReferenceIdeal.Facts) (hProjKernel : Cert.ProjKernel.Facts) (hProjKernelIdeal : Cert.ProjKernelIdeal.Facts) (hProjReferenceIdeal : Cert.ProjReferenceIdeal.Facts) (hPreKernel : Cert.PreKernel.Facts) (hPreKernelIdeal : Cert.PreKernelIdeal.Facts) (hPreReferenceIdeal : Cert.PreReferenceIdeal.Facts),
    quiescent_Kernel (hKernel := hKernel)
    ∧ quiescent_KernelIdeal (hKernelIdeal := hKernelIdeal)
    ∧ quiescent_ReferenceIdeal (hReferenceIdeal := hReferenceIdeal)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_PreKernel (hPreKernel := hPreKernel)
    ∧ quiescent_PreKernelIdeal (hPreKernelIdeal := hPreKernelIdeal)
    ∧ quiescent_PreReferenceIdeal (hPreReferenceIdeal := hPreReferenceIdeal)
    ∧ preserves_Kernel_KernelIdeal
    ∧ algebraic_KernelIdeal_ReferenceIdeal (hKernelIdeal := hKernelIdeal) (hReferenceIdeal := hReferenceIdeal)
    ∧ preserves_PleKernel_PleKernelIdeal
    ∧ algebraic_PleKernelIdeal_PleReferenceIdeal (hPleKernelIdeal := hPleKernelIdeal) (hPleReferenceIdeal := hPleReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_PreKernel_PreKernelIdeal
    ∧ algebraic_PreKernelIdeal_PreReferenceIdeal (hPreKernelIdeal := hPreKernelIdeal) (hPreReferenceIdeal := hPreReferenceIdeal)
-- ==== Kernel.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== PleKernel.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S65536x256 : Shape := ⟨2, ![65536, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 17
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x256, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PleReferenceIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S65536x256 : Shape := ⟨2, ![65536, 256]⟩
abbrev S1024x1024 : Shape := ⟨2, ![1024, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩
abbrev S32768x256 : Shape := ⟨2, ![32768, 256]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x256, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768x1024, .f32⟩
  | .hbm, ⟨66, _⟩ => ⟨S32768x1024, .f32⟩
  | .hbm, ⟨67, _⟩ => ⟨S32768x256, .f32⟩
  | .hbm, ⟨68, _⟩ => ⟨S32768x1024, .f32⟩
  | .hbm, ⟨69, _⟩ => ⟨S32768x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== ConvKernel.lean ====
abbrev S32768x1024 : Shape := ⟨2, ![32768, 1024]⟩
abbrev S1024 : Shape := ⟨1, ![1024]⟩
abbrev S1024x1536 : Shape := ⟨2, ![1024, 1536]⟩
abbrev S3x512 : Shape := ⟨2, ![3, 512]⟩
abbrev S1x1024 : Shape := ⟨2, ![1, 1024]⟩
abbrev S32768x512 : Shape := ⟨2, ![32768, 512]⟩
abbrev S16x2x512 : Shape := ⟨3, ![16, 2, 512]⟩
abbrev S512x1024 : Shape := ⟨2, ![512, 1024]⟩
abbrev S512x512 : Shape := ⟨2, ![512, 512]⟩
abbrev S1x2x512 : Shape := ⟨3, ![1, 2, 512]⟩
abbrev S8x512 : Shape := ⟨2, ![8, 512]⟩
abbrev S1x512 : Shape := ⟨2, ![1, 512]⟩
abbrev S128x1024 : Shape := ⟨2, ![128, 1024]⟩
abbrev S128 : Shape := ⟨1, ![128]⟩
abbrev S128x1 : Shape := ⟨2, ![128, 1]⟩
abbrev S128x1536 : Shape := ⟨2, ![128, 1536]⟩
abbrev S128x512 : Shape := ⟨2, ![128, 512]⟩
abbrev S2x512 : Shape := ⟨2, ![2, 512]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .f32⟩
  | .hbm, ⟨3, _⟩ => ⟨S3x512, .f32⟩
  | .hbm, ⟨4, _⟩ => ⟨S1x1024, .f32⟩
  | .hbm, ⟨5, _⟩ => ⟨S1024x1536, .bf16⟩
  | .hbm, ⟨6, _⟩ => ⟨S32768x512, .f32⟩
  | .hbm, ⟨7, _⟩ => ⟨S16x2x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S3x512, .f32⟩
  | .local _ .vmem, ⟨5, _⟩ => ⟨S512x512, .f32⟩
  | .local _ .vmem, ⟨6, _⟩ => ⟨S512x512, .f32⟩
  | .local _ .vmem, ⟨7, _⟩ => ⟨S1x2x512, .f32⟩
  | .local _ .vmem, ⟨8, _⟩ => ⟨S1x2x512, .f32⟩
  | .local _ .vmem, ⟨9, _⟩ => ⟨S8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ConvReferenceIdeal.lean ====
abbrev S32768x1024 : Shape := ⟨2, ![32768, 1024]⟩
abbrev S1024 : Shape := ⟨1, ![1024]⟩
abbrev S1024x1536 : Shape := ⟨2, ![1024, 1536]⟩
abbrev S3x512 : Shape := ⟨2, ![3, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1536 : Shape := ⟨2, ![32768, 1536]⟩
abbrev S16x2x512 : Shape := ⟨3, ![16, 2, 512]⟩
abbrev S16x2048x1536 : Shape := ⟨3, ![16, 2048, 1536]⟩
abbrev S16x2048x512 : Shape := ⟨3, ![16, 2048, 512]⟩
abbrev S16x2050x512 : Shape := ⟨3, ![16, 2050, 512]⟩
abbrev S1x512 : Shape := ⟨2, ![1, 512]⟩
abbrev S512 : Shape := ⟨1, ![512]⟩
abbrev S1x1x512 : Shape := ⟨3, ![1, 1, 512]⟩
abbrev S32768x512 : Shape := ⟨2, ![32768, 512]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .f32⟩
  | .hbm, ⟨3, _⟩ => ⟨S3x512, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1536, .f32⟩
  | .hbm, ⟨21, _⟩ => ⟨S_, .f32⟩
  | .hbm, ⟨22, _⟩ => ⟨S16x2x512, .f32⟩
  | .hbm, ⟨23, _⟩ => ⟨S16x2048x1536, .f32⟩
  | .hbm, ⟨24, _⟩ => ⟨S16x2048x512, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S16x2050x512, .f32⟩
  | .hbm, ⟨29, _⟩ => ⟨S16x2048x512, .f32⟩
  | .hbm, ⟨30, _⟩ => ⟨S1x512, .f32⟩
  | .hbm, ⟨31, _⟩ => ⟨S512, .f32⟩
  | .hbm, ⟨32, _⟩ => ⟨S1x1x512, .f32⟩
  | .hbm, ⟨33, _⟩ => ⟨S16x2048x512, .f32⟩
  | .hbm, ⟨34, _⟩ => ⟨S16x2048x512, .f32⟩
  | .hbm, ⟨35, _⟩ => ⟨S16x2048x512, .f32⟩
  | .hbm, ⟨36, _⟩ => ⟨S1x512, .f32⟩
  | .hbm, ⟨37, _⟩ => ⟨S512, .f32⟩
  | .hbm, ⟨38, _⟩ => ⟨S1x1x512, .f32⟩
  | .hbm, ⟨39, _⟩ => ⟨S16x2048x512, .f32⟩
  | .hbm, ⟨40, _⟩ => ⟨S16x2048x512, .f32⟩
  | .hbm, ⟨41, _⟩ => ⟨S16x2048x512, .f32⟩
  | .hbm, ⟨42, _⟩ => ⟨S16x2048x512, .f32⟩
  | .hbm, ⟨43, _⟩ => ⟨S1x512, .f32⟩
  | .hbm, ⟨44, _⟩ => ⟨S512, .f32⟩
  | .hbm, ⟨45, _⟩ => ⟨S1x1x512, .f32⟩
  | .hbm, ⟨46, _⟩ => ⟨S16x2048x512, .f32⟩
  | .hbm, ⟨47, _⟩ => ⟨S16x2048x512, .f32⟩
  | .hbm, ⟨48, _⟩ => ⟨S16x2048x512, .f32⟩
  | .hbm, ⟨49, _⟩ => ⟨S16x2048x512, .f32⟩
  | .hbm, ⟨50, _⟩ => ⟨S16x2x512, .f32⟩
  | .hbm, ⟨51, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== MergeKernel.lean ====
abbrev S32768x1024 : Shape := ⟨2, ![32768, 1024]⟩
abbrev S1024 : Shape := ⟨1, ![1024]⟩
abbrev S1024x3072 : Shape := ⟨2, ![1024, 3072]⟩
abbrev S2048x8192 : Shape := ⟨2, ![2048, 8192]⟩
abbrev S32768x512 : Shape := ⟨2, ![32768, 512]⟩
abbrev S512 : Shape := ⟨1, ![512]⟩
abbrev S512x1024 : Shape := ⟨2, ![512, 1024]⟩
abbrev S1024x1024 : Shape := ⟨2, ![1024, 1024]⟩
abbrev S1x1024 : Shape := ⟨2, ![1, 1024]⟩
abbrev S1x512 : Shape := ⟨2, ![1, 512]⟩
abbrev S8x64 : Shape := ⟨2, ![8, 64]⟩
abbrev S512x1 : Shape := ⟨2, ![512, 1]⟩
abbrev S512x512 : Shape := ⟨2, ![512, 512]⟩
abbrev S_ : Shape := ⟨0, ![]⟩
abbrev S512x3072 : Shape := ⟨2, ![512, 3072]⟩

abbrev nBuf : Space → Nat
  | .hbm => 36
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S2048x8192, .f32⟩
  | .hbm, ⟨4, _⟩ => ⟨S32768x512, .f32⟩
  | .hbm, ⟨5, _⟩ => ⟨S32768x512, .f32⟩
  | .hbm, ⟨6, _⟩ => ⟨S512, .f32⟩
  | .hbm, ⟨7, _⟩ => ⟨S512, .f32⟩
  | .hbm, ⟨8, _⟩ => ⟨S32768x512, .f32⟩
  | .hbm, ⟨9, _⟩ => ⟨S32768x512, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1x1024, .f32⟩
  | .hbm, ⟨15, _⟩ => ⟨S1024x3072, .bf16⟩
  | .hbm, ⟨16, _⟩ => ⟨S1x512, .f32⟩
  | .hbm, ⟨17, _⟩ => ⟨S1x512, .f32⟩
  | .hbm, ⟨18, _⟩ => ⟨S8x64, .i32⟩
  | .hbm, ⟨19, _⟩ => ⟨S512, .i32⟩
  | .hbm, ⟨20, _⟩ => ⟨S512x1, .i32⟩
  | .hbm, ⟨21, _⟩ => ⟨S1x512, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S_, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S512x512, .bf16⟩
  | .hbm, ⟨31, _⟩ => ⟨S512x1024, .bf16⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeReferenceIdeal.lean ====
abbrev S32768x1024 : Shape := ⟨2, ![32768, 1024]⟩
abbrev S1024 : Shape := ⟨1, ![1024]⟩
abbrev S1024x3072 : Shape := ⟨2, ![1024, 3072]⟩
abbrev S2048x8192 : Shape := ⟨2, ![2048, 8192]⟩
abbrev S32768x512 : Shape := ⟨2, ![32768, 512]⟩
abbrev S512 : Shape := ⟨1, ![512]⟩
abbrev S512x1024 : Shape := ⟨2, ![512, 1024]⟩
abbrev S1024x1024 : Shape := ⟨2, ![1024, 1024]⟩
abbrev S2048x16x8x64 : Shape := ⟨4, ![2048, 16, 8, 64]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S1x512 : Shape := ⟨2, ![1, 512]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩
abbrev S32768x3x1024 : Shape := ⟨3, ![32768, 3, 1024]⟩
abbrev S32768x1x1024 : Shape := ⟨3, ![32768, 1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S2048x8192, .f32⟩
  | .hbm, ⟨4, _⟩ => ⟨S32768x512, .f32⟩
  | .hbm, ⟨5, _⟩ => ⟨S32768x512, .f32⟩
  | .hbm, ⟨6, _⟩ => ⟨S512, .f32⟩
  | .hbm, ⟨7, _⟩ => ⟨S512, .f32⟩
  | .hbm, ⟨8, _⟩ => ⟨S32768x512, .f32⟩
  | .hbm, ⟨9, _⟩ => ⟨S32768x512, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S2048x16x8x64, .f32⟩
  | .hbm, ⟨15, _⟩ => ⟨S16x2048x8x64, .f32⟩
  | .hbm, ⟨16, _⟩ => ⟨S_, .f32⟩
  | .hbm, ⟨17, _⟩ => ⟨S16x2048x8, .f32⟩
  | .hbm, ⟨18, _⟩ => ⟨S16x2048x8x1, .f32⟩
  | .hbm, ⟨19, _⟩ => ⟨S_, .f32⟩
  | .hbm, ⟨20, _⟩ => ⟨S16x2048x8x1, .f32⟩
  | .hbm, ⟨21, _⟩ => ⟨S16x2048x8x1, .f32⟩
  | .hbm, ⟨22, _⟩ => ⟨S16x2048x8x64, .f32⟩
  | .hbm, ⟨23, _⟩ => ⟨S16x2048x8x64, .f32⟩
  | .hbm, ⟨24, _⟩ => ⟨S16x2048x8x64, .f32⟩
  | .hbm, ⟨25, _⟩ => ⟨S_, .f32⟩
  | .hbm, ⟨26, _⟩ => ⟨S16x2048x8, .f32⟩
  | .hbm, ⟨27, _⟩ => ⟨S16x2048x8x1, .f32⟩
  | .hbm, ⟨28, _⟩ => ⟨S_, .f32⟩
  | .hbm, ⟨29, _⟩ => ⟨S16x2048x8x1, .f32⟩
  | .hbm, ⟨30, _⟩ => ⟨S16x2048x8x1, .f32⟩
  | .hbm, ⟨31, _⟩ => ⟨S16x2048x8x64, .f32⟩
  | .hbm, ⟨32, _⟩ => ⟨S16x2048x8x64, .f32⟩
  | .hbm, ⟨33, _⟩ => ⟨S_, .f32⟩
  | .hbm, ⟨34, _⟩ => ⟨S16x2048x8x1, .f32⟩
  | .hbm, ⟨35, _⟩ => ⟨S16x2048x8x1, .f32⟩
  | .hbm, ⟨36, _⟩ => ⟨S16x2048x8x1, .f32⟩
  | .hbm, ⟨37, _⟩ => ⟨S16x2048x8x64, .f32⟩
  | .hbm, ⟨38, _⟩ => ⟨S16x2048x8x64, .f32⟩
  | .hbm, ⟨39, _⟩ => ⟨S32768x512, .f32⟩
  | .hbm, ⟨40, _⟩ => ⟨S1x512, .f32⟩
  | .hbm, ⟨41, _⟩ => ⟨S32768x512, .f32⟩
  | .hbm, ⟨42, _⟩ => ⟨S32768x512, .f32⟩
  | .hbm, ⟨43, _⟩ => ⟨S1x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S1x1024, .f32⟩
  | .hbm, ⟨62, _⟩ => ⟨S32768x1024, .f32⟩
  | .hbm, ⟨63, _⟩ => ⟨S32768x1024, .f32⟩
  | .hbm, ⟨64, _⟩ => ⟨S32768x3072, .f32⟩
  | .hbm, ⟨65, _⟩ => ⟨S32768x3072, .f32⟩
  | .hbm, ⟨66, _⟩ => ⟨S32768x3072, .f32⟩
  | .hbm, ⟨67, _⟩ => ⟨S_, .f32⟩
  | .hbm, ⟨68, _⟩ => ⟨S32768x3072, .f32⟩
  | .hbm, ⟨69, _⟩ => ⟨S32768x3072, .f32⟩
  | .hbm, ⟨70, _⟩ => ⟨S_, .f32⟩
  | .hbm, ⟨71, _⟩ => ⟨S32768x3072, .f32⟩
  | .hbm, ⟨72, _⟩ => ⟨S32768x3072, .f32⟩
  | .hbm, ⟨73, _⟩ => ⟨S32768x3x1024, .f32⟩
  | .hbm, ⟨74, _⟩ => ⟨S32768x1x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x1x1024, .f32⟩
  | .hbm, ⟨84, _⟩ => ⟨S32768x1024, .f32⟩
  | .hbm, ⟨85, _⟩ => ⟨S32768x1024, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== ProjKernel.lean ====
abbrev S32768x1024 : Shape := ⟨2, ![32768, 1024]⟩
abbrev S1024 : Shape := ⟨1, ![1024]⟩
abbrev S1024x1608 : Shape := ⟨2, ![1024, 1608]⟩
abbrev S64 : Shape := ⟨1, ![64]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S128 : Shape := ⟨1, ![128]⟩
abbrev S1x1024 : Shape := ⟨2, ![1, 1024]⟩
abbrev S1024x1664 : Shape := ⟨2, ![1024, 1664]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x64 : Shape := ⟨2, ![4, 64]⟩
abbrev S256 : Shape := ⟨1, ![256]⟩
abbrev S1x256 : Shape := ⟨2, ![1, 256]⟩
abbrev S1x128 : Shape := ⟨2, ![1, 128]⟩
abbrev S512x1 : Shape := ⟨2, ![512, 1]⟩
abbrev S512x512 : Shape := ⟨2, ![512, 512]⟩
abbrev S32768x512 : Shape := ⟨2, ![32768, 512]⟩
abbrev S32768x256 : Shape := ⟨2, ![32768, 256]⟩
abbrev S32768x128 : Shape := ⟨2, ![32768, 128]⟩
abbrev S16x256x2048 : Shape := ⟨3, ![16, 256, 2048]⟩
abbrev S16x64x2048 : Shape := ⟨3, ![16, 64, 2048]⟩
abbrev S512x1024 : Shape := ⟨2, ![512, 1024]⟩
abbrev S512x256 : Shape := ⟨2, ![512, 256]⟩
abbrev S512x128 : Shape := ⟨2, ![512, 128]⟩
abbrev S1x256x512 : Shape := ⟨3, ![1, 256, 512]⟩
abbrev S1x64x512 : Shape := ⟨3, ![1, 64, 512]⟩
abbrev S256x1024 : Shape := ⟨2, ![256, 1024]⟩
abbrev S256x1 : Shape := ⟨2, ![256, 1]⟩
abbrev S256x1664 : Shape := ⟨2, ![256, 1664]⟩
abbrev S256x512 : Shape := ⟨2, ![256, 512]⟩
abbrev S256x256 : Shape := ⟨2, ![256, 256]⟩
abbrev S256x128 : Shape := ⟨2, ![256, 128]⟩
abbrev S1x256x256 : Shape := ⟨3, ![1, 256, 256]⟩
abbrev S128x256 : Shape := ⟨2, ![128, 256]⟩
abbrev S64x256 : Shape := ⟨2, ![64, 256]⟩
abbrev S1x64x256 : Shape := ⟨3, ![1, 64, 256]⟩

abbrev nBuf : Space → Nat
  | .hbm => 80
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1608, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S2048, .i32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S2048, .f32⟩
  | .hbm, ⟨16, _⟩ => ⟨S2048x1, .f32⟩
  | .hbm, ⟨17, _⟩ => ⟨S1x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S_, .f32⟩
  | .hbm, ⟨24, _⟩ => ⟨S2048x48, .f32⟩
  | .hbm, ⟨25, _⟩ => ⟨S_, .f32⟩
  | .hbm, ⟨26, _⟩ => ⟨S2048x8, .f32⟩
  | .hbm, ⟨27, _⟩ => ⟨S_, .f32⟩
  | .hbm, ⟨28, _⟩ => ⟨S2048x48, .f32⟩
  | .hbm, ⟨29, _⟩ => ⟨S2048x48, .f32⟩
  | .hbm, ⟨30, _⟩ => ⟨S2048x64, .f32⟩
  | .hbm, ⟨31, _⟩ => ⟨S2048x8, .f32⟩
  | .hbm, ⟨32, _⟩ => ⟨S2048x64, .f32⟩
  | .hbm, ⟨33, _⟩ => ⟨S2048x64, .f32⟩
  | .hbm, ⟨34, _⟩ => ⟨S1x2048x1x64, .f32⟩
  | .hbm, ⟨35, _⟩ => ⟨S1x2048x8x64, .f32⟩
  | .hbm, ⟨36, _⟩ => ⟨S2048x512, .f32⟩
  | .hbm, ⟨37, _⟩ => ⟨S1x2048x1x64, .f32⟩
  | .hbm, ⟨38, _⟩ => ⟨S1x2048x8x64, .f32⟩
  | .hbm, ⟨39, _⟩ => ⟨S2048x512, .f32⟩
  | .hbm, ⟨40, _⟩ => ⟨S1x2048x1x64, .f32⟩
  | .hbm, ⟨41, _⟩ => ⟨S1x2048x8x64, .f32⟩
  | .hbm, ⟨42, _⟩ => ⟨S2048x512, .f32⟩
  | .hbm, ⟨43, _⟩ => ⟨S_, .f32⟩
  | .hbm, ⟨44, _⟩ => ⟨S64, .f32⟩
  | .hbm, ⟨45, _⟩ => ⟨S128, .f32⟩
  | .hbm, ⟨46, _⟩ => ⟨S1x1024, .f32⟩
  | .hbm, ⟨47, _⟩ => ⟨S_, .i32⟩
  | .hbm, ⟨48, _⟩ => ⟨S_, .f32⟩
  | .hbm, ⟨49, _⟩ => ⟨S1024x1664, .f32⟩
  | .hbm, ⟨50, _⟩ => ⟨S1024x1664, .bf16⟩
  | .hbm, ⟨51, _⟩ => ⟨S1x64, .f32⟩
  | .hbm, ⟨52, _⟩ => ⟨S8x64, .f32⟩
  | .hbm, ⟨53, _⟩ => ⟨S512, .f32⟩
  | .hbm, ⟨54, _⟩ => ⟨S1x512, .f32⟩
  | .hbm, ⟨55, _⟩ => ⟨S1x64, .f32⟩
  | .hbm, ⟨56, _⟩ => ⟨S4x64, .f32⟩
  | .hbm, ⟨57, _⟩ => ⟨S256, .f32⟩
  | .hbm, ⟨58, _⟩ => ⟨S1x256, .f32⟩
  | .hbm, ⟨59, _⟩ => ⟨S1x128, .f32⟩
  | .hbm, ⟨60, _⟩ => ⟨S8x64, .i32⟩
  | .hbm, ⟨61, _⟩ => ⟨S512, .i32⟩
  | .hbm, ⟨62, _⟩ => ⟨S512x1, .i32⟩
  | .hbm, ⟨63, _⟩ => ⟨S1x512, .i32⟩
  | .hbm, ⟨64, _⟩ => ⟨S512x512, .i32⟩
  | .hbm, ⟨65, _⟩ => ⟨S512x512, .i32⟩
  | .hbm, ⟨66, _⟩ => ⟨S512x512, .i1⟩
  | .hbm, ⟨67, _⟩ => ⟨S_, .f32⟩
  | .hbm, ⟨68, _⟩ => ⟨S_, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S512x512, .bf16⟩
  | .hbm, ⟨73, _⟩ => ⟨S32768x512, .f32⟩
  | .hbm, ⟨74, _⟩ => ⟨S32768x256, .f32⟩
  | .hbm, ⟨75, _⟩ => ⟨S32768x512, .f32⟩
  | .hbm, ⟨76, _⟩ => ⟨S32768x128, .f32⟩
  | .hbm, ⟨77, _⟩ => ⟨S16x256x2048, .f32⟩
  | .hbm, ⟨78, _⟩ => ⟨S16x256x2048, .f32⟩
  | .hbm, ⟨79, _⟩ => ⟨S16x64x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1664, .bf16⟩
  | .local _ .vmem, ⟨4, _⟩ => ⟨S1x512, .f32⟩
  | .local _ .vmem, ⟨5, _⟩ => ⟨S1x256, .f32⟩
  | .local _ .vmem, ⟨6, _⟩ => ⟨S1x128, .f32⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x256, .f32⟩
  | .local _ .vmem, ⟨17, _⟩ => ⟨S512x256, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x64x512, .f32⟩
  | .local _ .vmem, ⟨27, _⟩ => ⟨S1x64x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_v53 : Ref sig .tc := ⟨.hbm, 71, rfl⟩
abbrev main_v54 : Ref sig .tc := ⟨.hbm, 72, rfl⟩
abbrev main_v55_0 : Ref sig .tc := ⟨.hbm, 73, rfl⟩
abbrev main_v55_1 : Ref sig .tc := ⟨.hbm, 74, rfl⟩
abbrev main_v55_2 : Ref sig .tc := ⟨.hbm, 75, rfl⟩
abbrev main_v55_3 : Ref sig .tc := ⟨.hbm, 76, rfl⟩
abbrev main_v55_4 : Ref sig .tc := ⟨.hbm, 77, rfl⟩
abbrev main_v55_5 : Ref sig .tc := ⟨.hbm, 78, rfl⟩
abbrev main_v55_6 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ProjReferenceIdeal.lean ====
abbrev S32768x1024 : Shape := ⟨2, ![32768, 1024]⟩
abbrev S1024 : Shape := ⟨1, ![1024]⟩
abbrev S1024x1608 : Shape := ⟨2, ![1024, 1608]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1608 : Shape := ⟨2, ![32768, 1608]⟩
abbrev S16x2048x1608 : Shape := ⟨3, ![16, 2048, 1608]⟩
abbrev S2048 : Shape := ⟨1, ![2048]⟩
abbrev S16x2048x512 : Shape := ⟨3, ![16, 2048, 512]⟩
abbrev S16x2048x256 : Shape := ⟨3, ![16, 2048, 256]⟩
abbrev S16x2048x64 : Shape := ⟨3, ![16, 2048, 64]⟩
abbrev S16x2048x8 : Shape := ⟨3, ![16, 2048, 8]⟩
abbrev S16x2048x8x64 : Shape := ⟨4, ![16, 2048, 8, 64]⟩
abbrev S16x2048x8x1 : Shape := ⟨4, ![16, 2048, 8, 1]⟩
abbrev S1x1x1x64 : Shape := ⟨4, ![1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S16x2048x8x16 : Shape := ⟨4, ![16, 2048, 8, 16]⟩
abbrev S16x2048x8x8 : Shape := ⟨4, ![16, 2048, 8, 8]⟩
abbrev S1x2048x1x8 : Shape := ⟨4, ![1, 2048, 1, 8]⟩
abbrev S16x2048x8x48 : Shape := ⟨4, ![16, 2048, 8, 48]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16x2048x4x16 : Shape := ⟨4, ![16, 2048, 4, 16]⟩
abbrev S16x2048x4x8 : Shape := ⟨4, ![16, 2048, 4, 8]⟩
abbrev S16x2048x4x48 : Shape := ⟨4, ![16, 2048, 4, 48]⟩
abbrev S16x2048 : Shape := ⟨2, ![16, 2048]⟩
abbrev S16x2048x1 : Shape := ⟨3, ![16, 2048, 1]⟩
abbrev S1x1x64 : Shape := ⟨3, ![1, 1, 64]⟩
abbrev S16x2048x1x64 : Shape := ⟨4, ![16, 2048, 1, 64]⟩
abbrev S16x2048x1x16 : Shape := ⟨4, ![16, 2048, 1, 16]⟩
abbrev S16x2048x1x8 : Shape := ⟨4, ![16, 2048, 1, 8]⟩
abbrev S16x2048x1x48 : Shape := ⟨4, ![16, 2048, 1, 48]⟩
abbrev S16x2048x56 : Shape := ⟨3, ![16, 2048, 56]⟩
abbrev S16x2048x128 : Shape := ⟨3, ![16, 2048, 128]⟩
abbrev S32768x512 : Shape := ⟨2, ![32768, 512]⟩
abbrev S32768x256 : Shape := ⟨2, ![32768, 256]⟩
abbrev S32768x128 : Shape := ⟨2, ![32768, 128]⟩
abbrev S16x256x2048 : Shape := ⟨3, ![16, 256, 2048]⟩
abbrev S16x64x2048 : Shape := ⟨3, ![16, 64, 2048]⟩

abbrev nBuf : Space → Nat
  | .hbm => 249
  | .vmem => 0
  | .smem => 0
  | _ => 0

abbrev hbmTy0_0 (i : Nat) : BufTy := match i % 128 with
  | 0 => ⟨S32768x1024, .f32⟩
  | 1 => ⟨S1024, .f32⟩
  | 2 => ⟨S1024x1608, .f32⟩
  | 3 => ⟨S64, .f32⟩
  | 4 => ⟨S64, .f32⟩
  | 5 => ⟨S64, .f32⟩
  | 6 => ⟨S32768x1024, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x1024, .f32⟩
  | 18 => ⟨S32768x1024, .f32⟩
  | 19 => ⟨S1x1024, .f32⟩
  | 20 => ⟨S32768x1024, .f32⟩
  | 21 => ⟨S32768x1024, .f32⟩
  | 22 => ⟨S32768x1608, .f32⟩
  | 23 => ⟨S16x2048x1608, .f32⟩
  | 24 => ⟨S2048, .i32⟩
  | 25 => ⟨S16x2048x512, .f32⟩
  | 26 => ⟨S16x2048x256, .f32⟩
  | 27 => ⟨S16x2048x256, .f32⟩
  | 28 => ⟨S16x2048x512, .f32⟩
  | 29 => ⟨S16x2048x64, .f32⟩
  | 30 => ⟨S16x2048x8, .f32⟩
  | 31 => ⟨S16x2048x8x64, .f32⟩
  | 32 => ⟨S16x2048x8x64, .f32⟩
  | 33 => ⟨S_, .f32⟩
  | 34 => ⟨S16x2048x8, .f32⟩
  | 35 => ⟨S16x2048x8x1, .f32⟩
  | 36 => ⟨S_, .f32⟩
  | 37 => ⟨S16x2048x8x1, .f32⟩
  | 38 => ⟨S16x2048x8x1, .f32⟩
  | 39 => ⟨S_, .f32⟩
  | 40 => ⟨S16x2048x8x1, .f32⟩
  | 41 => ⟨S16x2048x8x1, .f32⟩
  | 42 => ⟨S16x2048x8x1, .f32⟩
  | 43 => ⟨S16x2048x8x64, .f32⟩
  | 44 => ⟨S16x2048x8x64, .f32⟩
  | 45 => ⟨S1x1x1x64, .f32⟩
  | 46 => ⟨S16x2048x8x64, .f32⟩
  | 47 => ⟨S16x2048x8x64, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S2048, .f32⟩
  | 57 => ⟨S2048x1, .f32⟩
  | 58 => ⟨S1x8, .f32⟩
  | 59 => ⟨S2048x8, .f32⟩
  | 60 => ⟨S2048x8, .f32⟩
  | 61 => ⟨S2048x8, .f32⟩
  | 62 => ⟨S2048x8, .f32⟩
  | 63 => ⟨S2048x1x8, .f32⟩
  | 64 => ⟨S2048x8, .f32⟩
  | 65 => ⟨S2048x1x8, .f32⟩
  | 66 => ⟨S16x2048x8x16, .f32⟩
  | 67 => ⟨S16x2048x8x8, .f32⟩
  | 68 => ⟨S16x2048x8x8, .f32⟩
  | 69 => ⟨S1x2048x1x8, .f32⟩
  | 70 => ⟨S16x2048x8x8, .f32⟩
  | 71 => ⟨S16x2048x8x8, .f32⟩
  | 72 => ⟨S1x2048x1x8, .f32⟩
  | 73 => ⟨S16x2048x8x8, .f32⟩
  | 74 => ⟨S16x2048x8x8, .f32⟩
  | 75 => ⟨S16x2048x8x8, .f32⟩
  | 76 => ⟨S1x2048x1x8, .f32⟩
  | 77 => ⟨S16x2048x8x8, .f32⟩
  | 78 => ⟨S16x2048x8x8, .f32⟩
  | 79 => ⟨S1x2048x1x8, .f32⟩
  | 80 => ⟨S16x2048x8x8, .f32⟩
  | 81 => ⟨S16x2048x8x8, .f32⟩
  | 82 => ⟨S16x2048x8x8, .f32⟩
  | 83 => ⟨S16x2048x8x16, .f32⟩
  | 84 => ⟨S16x2048x8x48, .f32⟩
  | 85 => ⟨S16x2048x8x64, .f32⟩
  | 86 => ⟨S16x2048x4x64, .f32⟩
  | 87 => ⟨S16x2048x4x64, .f32⟩
  | 88 => ⟨S_, .f32⟩
  | 89 => ⟨S16x2048x4, .f32⟩
  | 90 => ⟨S16x2048x4x1, .f32⟩
  | 91 => ⟨S_, .f32⟩
  | 92 => ⟨S16x2048x4x1, .f32⟩
  | 93 => ⟨S16x2048x4x1, .f32⟩
  | 94 => ⟨S_, .f32⟩
  | 95 => ⟨S16x2048x4x1, .f32⟩
  | 96 => ⟨S16x2048x4x1, .f32⟩
  | 97 => ⟨S16x2048x4x1, .f32⟩
  | 98 => ⟨S16x2048x4x64, .f32⟩
  | 99 => ⟨S16x2048x4x64, .f32⟩
  | 100 => ⟨S1x1x1x64, .f32⟩
  | 101 => ⟨S16x2048x4x64, .f32⟩
  | 102 => ⟨S16x2048x4x64, .f32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S2048, .f32⟩
  | 112 => ⟨S2048x1, .f32⟩
  | 113 => ⟨S1x8, .f32⟩
  | 114 => ⟨S2048x8, .f32⟩
  | 115 => ⟨S2048x8, .f32⟩
  | 116 => ⟨S2048x8, .f32⟩
  | 117 => ⟨S2048x8, .f32⟩
  | 118 => ⟨S2048x1x8, .f32⟩
  | 119 => ⟨S2048x8, .f32⟩
  | 120 => ⟨S2048x1x8, .f32⟩
  | 121 => ⟨S16x2048x4x16, .f32⟩
  | 122 => ⟨S16x2048x4x8, .f32⟩
  | 123 => ⟨S16x2048x4x8, .f32⟩
  | 124 => ⟨S1x2048x1x8, .f32⟩
  | 125 => ⟨S16x2048x4x8, .f32⟩
  | 126 => ⟨S16x2048x4x8, .f32⟩
  | 127 => ⟨S1x2048x1x8, .f32⟩
  | _ => ⟨S32768x1024, .f32⟩

abbrev hbmTy0_1 (i : Nat) : BufTy := match i % 128 with
  | 0 => ⟨S16x2048x4x8, .f32⟩
  | 1 => ⟨S16x2048x4x8, .f32⟩
  | 2 => ⟨S16x2048x4x8, .f32⟩
  | 3 => ⟨S1x2048x1x8, .f32⟩
  | 4 => ⟨S16x2048x4x8, .f32⟩
  | 5 => ⟨S16x2048x4x8, .f32⟩
  | 6 => ⟨S1x2048x1x8, .f32⟩
  | 7 => ⟨S16x2048x4x8, .f32⟩
  | 8 => ⟨S16x2048x4x8, .f32⟩
  | 9 => ⟨S16x2048x4x8, .f32⟩
  | 10 => ⟨S16x2048x4x16, .f32⟩
  | 11 => ⟨S16x2048x4x48, .f32⟩
  | 12 => ⟨S16x2048x4x64, .f32⟩
  | 13 => ⟨S16x2048x4x64, .f32⟩
  | 14 => ⟨S16x2048x8x64, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S2048, .f32⟩
  | 24 => ⟨S2048x1, .f32⟩
  | 25 => ⟨S1x8, .f32⟩
  | 26 => ⟨S2048x8, .f32⟩
  | 27 => ⟨S2048x8, .f32⟩
  | 28 => ⟨S2048x8, .f32⟩
  | 29 => ⟨S2048x8, .f32⟩
  | 30 => ⟨S2048x1x8, .f32⟩
  | 31 => ⟨S2048x8, .f32⟩
  | 32 => ⟨S2048x1x8, .f32⟩
  | 33 => ⟨S16x2048x8x16, .f32⟩
  | 34 => ⟨S16x2048x8x8, .f32⟩
  | 35 => ⟨S16x2048x8x8, .f32⟩
  | 36 => ⟨S1x2048x1x8, .f32⟩
  | 37 => ⟨S16x2048x8x8, .f32⟩
  | 38 => ⟨S16x2048x8x8, .f32⟩
  | 39 => ⟨S1x2048x1x8, .f32⟩
  | 40 => ⟨S16x2048x8x8, .f32⟩
  | 41 => ⟨S16x2048x8x8, .f32⟩
  | 42 => ⟨S16x2048x8x8, .f32⟩
  | 43 => ⟨S1x2048x1x8, .f32⟩
  | 44 => ⟨S16x2048x8x8, .f32⟩
  | 45 => ⟨S16x2048x8x8, .f32⟩
  | 46 => ⟨S1x2048x1x8, .f32⟩
  | 47 => ⟨S16x2048x8x8, .f32⟩
  | 48 => ⟨S16x2048x8x8, .f32⟩
  | 49 => ⟨S16x2048x8x8, .f32⟩
  | 50 => ⟨S16x2048x8x16, .f32⟩
  | 51 => ⟨S16x2048x8x48, .f32⟩
  | 52 => ⟨S16x2048x8x64, .f32⟩
  | 53 => ⟨S16x2048x64, .f32⟩
  | 54 => ⟨S_, .f32⟩
  | 55 => ⟨S16x2048, .f32⟩
  | 56 => ⟨S16x2048x1, .f32⟩
  | 57 => ⟨S_, .f32⟩
  | 58 => ⟨S16x2048x1, .f32⟩
  | 59 => ⟨S16x2048x1, .f32⟩
  | 60 => ⟨S_, .f32⟩
  | 61 => ⟨S16x2048x1, .f32⟩
  | 62 => ⟨S16x2048x1, .f32⟩
  | 63 => ⟨S16x2048x1, .f32⟩
  | 64 => ⟨S16x2048x64, .f32⟩
  | 65 => ⟨S16x2048x64, .f32⟩
  | 66 => ⟨S1x1x64, .f32⟩
  | 67 => ⟨S16x2048x64, .f32⟩
  | 68 => ⟨S16x2048x64, .f32⟩
  | 69 => ⟨S16x2048x1x64, .f32⟩
  | 70 => ⟨S8, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S2048, .f32⟩
  | 79 => ⟨S2048x1, .f32⟩
  | 80 => ⟨S1x8, .f32⟩
  | 81 => ⟨S2048x8, .f32⟩
  | 82 => ⟨S2048x8, .f32⟩
  | 83 => ⟨S2048x8, .f32⟩
  | 84 => ⟨S2048x8, .f32⟩
  | 85 => ⟨S2048x1x8, .f32⟩
  | 86 => ⟨S2048x8, .f32⟩
  | 87 => ⟨S2048x1x8, .f32⟩
  | 88 => ⟨S16x2048x1x16, .f32⟩
  | 89 => ⟨S16x2048x1x8, .f32⟩
  | 90 => ⟨S16x2048x1x8, .f32⟩
  | 91 => ⟨S1x2048x1x8, .f32⟩
  | 92 => ⟨S16x2048x1x8, .f32⟩
  | 93 => ⟨S16x2048x1x8, .f32⟩
  | 94 => ⟨S1x2048x1x8, .f32⟩
  | 95 => ⟨S16x2048x1x8, .f32⟩
  | 96 => ⟨S16x2048x1x8, .f32⟩
  | 97 => ⟨S16x2048x1x8, .f32⟩
  | 98 => ⟨S1x2048x1x8, .f32⟩
  | 99 => ⟨S16x2048x1x8, .f32⟩
  | 100 => ⟨S16x2048x1x8, .f32⟩
  | 101 => ⟨S1x2048x1x8, .f32⟩
  | 102 => ⟨S16x2048x1x8, .f32⟩
  | 103 => ⟨S16x2048x1x8, .f32⟩
  | 104 => ⟨S16x2048x1x8, .f32⟩
  | 105 => ⟨S16x2048x1x16, .f32⟩
  | 106 => ⟨S16x2048x1x48, .f32⟩
  | 107 => ⟨S16x2048x1x64, .f32⟩
  | 108 => ⟨S16x2048x64, .f32⟩
  | 109 => ⟨S_, .f32⟩
  | 110 => ⟨S16x2048x56, .f32⟩
  | 111 => ⟨S16x2048x128, .f32⟩
  | 112 => ⟨S32768x512, .f32⟩
  | 113 => ⟨S32768x256, .f32⟩
  | 114 => ⟨S32768x512, .f32⟩
  | 115 => ⟨S32768x128, .f32⟩
  | 116 => ⟨S16x2048x256, .f32⟩
  | 117 => ⟨S16x256x2048, .f32⟩
  | 118 => ⟨S16x2048x256, .f32⟩
  | 119 => ⟨S16x256x2048, .f32⟩
  | 120 => ⟨S16x64x2048, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_7 : Ref sig .tc := ⟨.hbm, 88, rfl⟩
abbrev main_v74 : Ref sig .tc := ⟨.hbm, 89, rfl⟩
abbrev main_v75 : Ref sig .tc := ⟨.hbm, 90, rfl⟩
abbrev main_cst_8 : Ref sig .tc := ⟨.hbm, 91, rfl⟩
abbrev main_v76 : Ref sig .tc := ⟨.hbm, 92, rfl⟩
abbrev main_v77 : Ref sig .tc := ⟨.hbm, 93, rfl⟩
abbrev main_cst_9 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_10 : Ref sig .tc := ⟨.hbm, 105, rfl⟩
abbrev main_v88 : Ref sig .tc := ⟨.hbm, 106, rfl⟩
abbrev main_v89 : Ref sig .tc := ⟨.hbm, 107, rfl⟩
abbrev main_cst_11 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_cst_12 : Ref sig .tc := ⟨.hbm, 145, rfl⟩
abbrev main_v126 : Ref sig .tc := ⟨.hbm, 146, rfl⟩
abbrev main_v127 : Ref sig .tc := ⟨.hbm, 147, rfl⟩
abbrev main_cst_13 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_cst_14 : Ref sig .tc := ⟨.hbm, 182, rfl⟩
abbrev main_v161 : Ref sig .tc := ⟨.hbm, 183, rfl⟩
abbrev main_v162 : Ref sig .tc := ⟨.hbm, 184, rfl⟩
abbrev main_cst_15 : Ref sig .tc := ⟨.hbm, 185, rfl⟩
abbrev main_v163 : Ref sig .tc := ⟨.hbm, 186, rfl⟩
abbrev main_v164 : Ref sig .tc := ⟨.hbm, 187, rfl⟩
abbrev main_cst_16 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_cst_17 : Ref sig .tc := ⟨.hbm, 200, rfl⟩
abbrev main_v176 : Ref sig .tc := ⟨.hbm, 201, rfl⟩
abbrev main_v177 : Ref sig .tc := ⟨.hbm, 202, rfl⟩
abbrev main_cst_18 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_cst_19 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩

abbrev nD : Nat := 1
abbrev τ : Topo := Topo.v7x

variable {F : FTy → Type} [FloatOps F]
-- ==== PreKernel.lean ====
abbrev S32768x1024 : Shape := ⟨2, ![32768, 1024]⟩
abbrev S1024 : Shape := ⟨1, ![1024]⟩
abbrev S1024x1792 : Shape := ⟨2, ![1024, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S64x1024 : Shape := ⟨2, ![64, 1024]⟩
abbrev S128x1024 : Shape := ⟨2, ![128, 1024]⟩
abbrev S1x1024 : Shape := ⟨2, ![1, 1024]⟩
abbrev S1x1792 : Shape := ⟨2, ![1, 1792]⟩
abbrev S1x512 : Shape := ⟨2, ![1, 512]⟩
abbrev S512x1 : Shape := ⟨2, ![512, 1]⟩
abbrev S512x512 : Shape := ⟨2, ![512, 512]⟩
abbrev S8192x2048 : Shape := ⟨2, ![8192, 2048]⟩
abbrev S32768x512 : Shape := ⟨2, ![32768, 512]⟩
abbrev S16x1x1792 : Shape := ⟨3, ![16, 1, 1792]⟩
abbrev S512x1024 : Shape := ⟨2, ![512, 1024]⟩
abbrev S1x1x1792 : Shape := ⟨3, ![1, 1, 1792]⟩
abbrev S8x1792 : Shape := ⟨2, ![8, 1792]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩
abbrev S256x512 : Shape := ⟨2, ![256, 512]⟩
abbrev S256x128 : Shape := ⟨2, ![256, 128]⟩
abbrev S512x256 : Shape := ⟨2, ![512, 256]⟩

abbrev nBuf : Space → Nat
  | .hbm => 49
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1792, .f32⟩
  | .hbm, ⟨3, _⟩ => ⟨S1792, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S128x512, .f32⟩
  | .hbm, ⟨9, _⟩ => ⟨S512, .f32⟩
  | .hbm, ⟨10, _⟩ => ⟨S512, .f32⟩
  | .hbm, ⟨11, _⟩ => ⟨S8x64, .f32⟩
  | .hbm, ⟨12, _⟩ => ⟨S_, .f32⟩
  | .hbm, ⟨13, _⟩ => ⟨S64x512, .f32⟩
  | .hbm, ⟨14, _⟩ => ⟨S64x1024, .f32⟩
  | .hbm, ⟨15, _⟩ => ⟨S64x1024, .f32⟩
  | .hbm, ⟨16, _⟩ => ⟨S128x1024, .f32⟩
  | .hbm, ⟨17, _⟩ => ⟨S1x1024, .f32⟩
  | .hbm, ⟨18, _⟩ => ⟨S1024x1792, .bf16⟩
  | .hbm, ⟨19, _⟩ => ⟨S1x1792, .f32⟩
  | .hbm, ⟨20, _⟩ => ⟨S1x512, .f32⟩
  | .hbm, ⟨21, _⟩ => ⟨S1x512, .f32⟩
  | .hbm, ⟨22, _⟩ => ⟨S128x1024, .bf16⟩
  | .hbm, ⟨23, _⟩ => ⟨S128x512, .bf16⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S8x64, .i32⟩
  | .hbm, ⟨28, _⟩ => ⟨S512, .i32⟩
  | .hbm, ⟨29, _⟩ => ⟨S512x1, .i32⟩
  | .hbm, ⟨30, _⟩ => ⟨S1x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S_, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x512, .bf16⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S32768x512, .f32⟩
  | .hbm, ⟨47, _⟩ => ⟨S32768x512, .f32⟩
  | .hbm, ⟨48, _⟩ => ⟨S16x1x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1x1792, .f32⟩
  | .local _ .vmem, ⟨5, _⟩ => ⟨S1x512, .f32⟩
  | .local _ .vmem, ⟨6, _⟩ => ⟨S1x512, .f32⟩
  | .local _ .vmem, ⟨7, _⟩ => ⟨S128x1024, .bf16⟩
  | .local _ .vmem, ⟨8, _⟩ => ⟨S128x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S1x1x1792, .f32⟩
  | .local _ .vmem, ⟨30, _⟩ => ⟨S1x1x1792, .f32⟩
  | .local _ .vmem, ⟨31, _⟩ => ⟨S8x1792, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v23_3 : Ref sig .tc := ⟨.hbm, 43, rfl⟩
abbrev main_v23_4 : Ref sig .tc := ⟨.hbm, 44, rfl⟩
abbrev main_v23_5 : Ref sig .tc := ⟨.hbm, 45, rfl⟩
abbrev main_v23_6 : Ref sig .tc := ⟨.hbm, 46, rfl⟩
abbrev main_v23_7 : Ref sig .tc := ⟨.hbm, 47, rfl⟩
abbrev main_v23_8 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x1792 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== PreReferenceIdeal.lean ====
abbrev S32768x1024 : Shape := ⟨2, ![32768, 1024]⟩
abbrev S1024 : Shape := ⟨1, ![1024]⟩
abbrev S1024x1792 : Shape := ⟨2, ![1024, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1792 : Shape := ⟨2, ![32768, 1792]⟩
abbrev S16x2048x1792 : Shape := ⟨3, ![16, 2048, 1792]⟩
abbrev S16x1792 : Shape := ⟨2, ![16, 1792]⟩
abbrev S16x1x1792 : Shape := ⟨3, ![16, 1, 1792]⟩
abbrev S16x2047x1792 : Shape := ⟨3, ![16, 2047, 1792]⟩
abbrev S1x1x1792 : Shape := ⟨3, ![1, 1, 1792]⟩
abbrev S16x2048x512 : Shape := ⟨3, ![16, 2048, 512]⟩
abbrev S16x2048x64 : Shape := ⟨3, ![16, 2048, 64]⟩
abbrev S16x2048x128 : Shape := ⟨3, ![16, 2048, 128]⟩
abbrev S1x1x512 : Shape := ⟨3, ![1, 1, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x8x64 : Shape := ⟨4, ![1, 1, 8, 64]⟩
abbrev S16x512x2048 : Shape := ⟨3, ![16, 512, 2048]⟩
abbrev S8192x2048 : Shape := ⟨2, ![8192, 2048]⟩
abbrev S32768x512 : Shape := ⟨2, ![32768, 512]⟩

abbrev nBuf : Space → Nat
  | .hbm => 151
  | .vmem => 0
  | .smem => 0
  | _ => 0

abbrev hbmTy0_0 (i : Nat) : BufTy := match i % 128 with
  | 0 => ⟨S32768x1024, .f32⟩
  | 1 => ⟨S1024, .f32⟩
  | 2 => ⟨S1024x1792, .f32⟩
  | 3 => ⟨S1792, .f32⟩
  | 4 => ⟨S512, .f32⟩
  | 5 => ⟨S64x512, .f32⟩
  | 6 => ⟨S512, .f32⟩
  | 7 => ⟨S64x512, .f32⟩
  | 8 => ⟨S128x512, .f32⟩
  | 9 => ⟨S512, .f32⟩
  | 10 => ⟨S512, .f32⟩
  | 11 => ⟨S8x64, .f32⟩
  | 12 => ⟨S32768x1024, .f32⟩
  | 13 => ⟨S_, .f32⟩
  | 14 => ⟨S32768, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x1, .f32⟩
  | 23 => ⟨S32768x1024, .f32⟩
  | 24 => ⟨S32768x1024, .f32⟩
  | 25 => ⟨S1x1024, .f32⟩
  | 26 => ⟨S32768x1024, .f32⟩
  | 27 => ⟨S32768x1024, .f32⟩
  | 28 => ⟨S32768x1792, .f32⟩
  | 29 => ⟨S16x2048x1792, .f32⟩
  | 30 => ⟨S_, .f32⟩
  | 31 => ⟨S16x1792, .f32⟩
  | 32 => ⟨S16x1x1792, .f32⟩
  | 33 => ⟨S16x2047x1792, .f32⟩
  | 34 => ⟨S16x2048x1792, .f32⟩
  | 35 => ⟨S16x2048x1792, .f32⟩
  | 36 => ⟨S1x1x1792, .f32⟩
  | 37 => ⟨S16x2048x1792, .f32⟩
  | 38 => ⟨S16x2048x1792, .f32⟩
  | 39 => ⟨S16x2048x1792, .f32⟩
  | 40 => ⟨S16x2048x512, .f32⟩
  | 41 => ⟨S16x2048x512, .f32⟩
  | 42 => ⟨S16x2048x512, .f32⟩
  | 43 => ⟨S16x2048x64, .f32⟩
  | 44 => ⟨S16x2048x64, .f32⟩
  | 45 => ⟨S16x2048x128, .f32⟩
  | 46 => ⟨S16x2048x64, .f32⟩
  | 47 => ⟨S16x2048x512, .f32⟩
  | 48 => ⟨S1x1x512, .f32⟩
  | 49 => ⟨S16x2048x512, .f32⟩
  | 50 => ⟨S16x2048x512, .f32⟩
  | 51 => ⟨S16x2048x512, .f32⟩
  | 52 => ⟨S_, .f32⟩
  | 53 => ⟨S16x2048x512, .f32⟩
  | 54 => ⟨S16x2048x512, .f32⟩
  | 55 => ⟨S16x2048x512, .f32⟩
  | 56 => ⟨S16x2048x512, .f32⟩
  | 57 => ⟨S16x2048x512, .i1⟩
  | 58 => ⟨S16x2048x512, .f32⟩
  | 59 => ⟨S16x2048x512, .f32⟩
  | 60 => ⟨S16x2048x512, .f32⟩
  | 61 => ⟨S16x2048x512, .f32⟩
  | 62 => ⟨S16x2048x512, .f32⟩
  | 63 => ⟨S16x2048x512, .f32⟩
  | 64 => ⟨S16x2048x512, .f32⟩
  | 65 => ⟨S16x2048x512, .f32⟩
  | 66 => ⟨S16x2048x512, .f32⟩
  | 67 => ⟨S_, .f32⟩
  | 68 => ⟨S16x2048x512, .f32⟩
  | 69 => ⟨S16x2048x512, .f32⟩
  | 70 => ⟨S16x2048x512, .f32⟩
  | 71 => ⟨S16x2048x512, .f32⟩
  | 72 => ⟨S16x2048x512, .f32⟩
  | 73 => ⟨S1x1x512, .f32⟩
  | 74 => ⟨S16x2048x512, .f32⟩
  | 75 => ⟨S16x2048x512, .f32⟩
  | 76 => ⟨S16x2048x512, .f32⟩
  | 77 => ⟨S16x2048x512, .f32⟩
  | 78 => ⟨S_, .f32⟩
  | 79 => ⟨S16x2048x512, .f32⟩
  | 80 => ⟨S16x2048x512, .f32⟩
  | 81 => ⟨S_, .f32⟩
  | 82 => ⟨S16x2048x512, .f32⟩
  | 83 => ⟨S16x2048x512, .f32⟩
  | 84 => ⟨S16x2048x128, .f32⟩
  | 85 => ⟨S16x2048x128, .f32⟩
  | 86 => ⟨S_, .f32⟩
  | 87 => ⟨S16x2048x128, .f32⟩
  | 88 => ⟨S16x2048x128, .f32⟩
  | 89 => ⟨S_, .f32⟩
  | 90 => ⟨S16x2048x128, .f32⟩
  | 91 => ⟨S16x2048x128, .f32⟩
  | 92 => ⟨S16x2048x512, .f32⟩
  | 93 => ⟨S1x1x512, .f32⟩
  | 94 => ⟨S16x2048x512, .f32⟩
  | 95 => ⟨S16x2048x512, .f32⟩
  | 96 => ⟨S16x2048x8x64, .f32⟩
  | 97 => ⟨S16x2048x8x64, .f32⟩
  | 98 => ⟨S_, .f32⟩
  | 99 => ⟨S16x2048x8, .f32⟩
  | 100 => ⟨S16x2048x8x1, .f32⟩
  | 101 => ⟨S16x2048x8x1, .f32⟩
  | 102 => ⟨S_, .f32⟩
  | 103 => ⟨S16x2048x8x1, .f32⟩
  | 104 => ⟨S16x2048x8x1, .f32⟩
  | 105 => ⟨S16x2048x8x64, .f32⟩
  | 106 => ⟨S16x2048x8x64, .f32⟩
  | 107 => ⟨S_, .f32⟩
  | 108 => ⟨S16x2048x512, .f32⟩
  | 109 => ⟨S16x2048x512, .f32⟩
  | 110 => ⟨S1x1x512, .f32⟩
  | 111 => ⟨S16x2048x512, .f32⟩
  | 112 => ⟨S16x2048x512, .f32⟩
  | 113 => ⟨S_, .f32⟩
  | 114 => ⟨S16x2048x512, .f32⟩
  | 115 => ⟨S16x2048x512, .f32⟩
  | 116 => ⟨S16x2048x512, .f32⟩
  | 117 => ⟨S16x2048x8x64, .f32⟩
  | 118 => ⟨S16x2048x8x64, .f32⟩
  | 119 => ⟨S16x2048x8x64, .f32⟩
  | 120 => ⟨S16x2048x8x64, .f32⟩
  | 121 => ⟨S16x2048x8x64, .f32⟩
  | 122 => ⟨S1x1x8x64, .f32⟩
  | 123 => ⟨S16x2048x8x64, .f32⟩
  | 124 => ⟨S16x2048x8x64, .f32⟩
  | 125 => ⟨S_, .f32⟩
  | 126 => ⟨S16x2048x8, .f32⟩
  | 127 => ⟨S16x2048x8x1, .f32⟩
  | _ => ⟨S32768x1024, .f32⟩

abbrev hbmTy0_1 (i : Nat) : BufTy := match i % 128 with
  | 0 => ⟨S16x2048x8x64, .f32⟩
  | 1 => ⟨S16x2048x8x64, .f32⟩
  | 2 => ⟨S16x2048x8x64, .f32⟩
  | 3 => ⟨S16x2048x8x64, .f32⟩
  | 4 => ⟨S16x1x1792, .f32⟩
  | 5 => ⟨S16x1792, .f32⟩
  | 6 => ⟨S16x512x2048, .f32⟩
  | 7 => ⟨S8192x2048, .f32⟩
  | 8 => ⟨S16x512x2048, .f32⟩
  | 9 => ⟨S8192x2048, .f32⟩
  | 10 => ⟨S16x512x2048, .f32⟩
  | 11 => ⟨S8192x2048, .f32⟩
  | 12 => ⟨S16x512x2048, .f32⟩
  | 13 => ⟨S8192x2048, .f32⟩
  | 14 => ⟨S16x2048x512, .f32⟩
  | 15 => ⟨S16x512x2048, .f32⟩
  | 16 => ⟨S8192x2048, .f32⟩
  | 17 => ⟨S16x2048x512, .f32⟩
  | 18 => ⟨S16x512x2048, .f32⟩
  | 19 => ⟨S8192x2048, .f32⟩
  | 20 => ⟨S32768x512, .f32⟩
  | 21 => ⟨S32768x512, .f32⟩
  | 22 => ⟨S16x1x1792, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_v36 : Ref sig .tc := ⟨.hbm, 65, rfl⟩
abbrev main_v37 : Ref sig .tc := ⟨.hbm, 66, rfl⟩
abbrev main_cst_3 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_4 : Ref sig .tc := ⟨.hbm, 78, rfl⟩
abbrev main_v48 : Ref sig .tc := ⟨.hbm, 79, rfl⟩
abbrev main_v49 : Ref sig .tc := ⟨.hbm, 80, rfl⟩
abbrev main_cst_5 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_6 : Ref sig .tc := ⟨.hbm, 86, rfl⟩
abbrev main_v54 : Ref sig .tc := ⟨.hbm, 87, rfl⟩
abbrev main_v55 : Ref sig .tc := ⟨.hbm, 88, rfl⟩
abbrev main_cst_7 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_8 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_9 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_10 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_11 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_12 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]
-- ==== Proof.Spec.lean ====
/-
  The mathematics of the layer's feed-forward block, one row at a time, over the extended reals: the RMS norm, the gate
  (SiLU), SwiGLU and the per-layer embedding's residual. No kernel and no reference appears here; the other modules show
  that both compute these functions.
-/
module

public import Idealize.ShloMosaic.Lib.Pointwise

@[expose] public section

noncomputable section

namespace Cert.Spec

open Idealize.ShloMosaic

/-- One row of 1024 numbers, normalised: each entry times the reciprocal root of the row's mean square plus 1e-6, times its
    gain. The two numbers are 1024 and 1e-6 in binary32. -/
def rms (x g : Fin 1024 → EReal) (k : Fin 1024) : EReal :=
  x k * Ideal.rsqrt (Ideal.div (∑ i, x i * x i) (Ideal.ofBits FTy.f32 1149239296#32) + Ideal.ofBits FTy.f32 897988541#32) * g k

/-- `z · σ(z)`. -/
def silu (z : EReal) : EReal := z * Ideal.logistic z

/-- Entry `j` of the hidden row of SwiGLU: `silu (h · wg j) · (h · wu j)`. -/
def act (h : Fin 1024 → EReal) (wg wu : Fin 1024 → Fin 2816 → EReal) (j : Fin 2816) : EReal :=
  silu (∑ k, h k * wg k j) * ∑ k, h k * wu k j

/-- Entry `l` of `swiglu (rms x g)`: the hidden row times the down projection, the sum over all 2816 hidden entries. -/
def ffn (x g : Fin 1024 → EReal) (wg wu : Fin 1024 → Fin 2816 → EReal) (wd : Fin 2816 → Fin 1024 → EReal) (l : Fin 1024) : EReal :=
  ∑ j, act (rms x g) wg wu j * wd j l

/-- Entry `l` of the half-step residual: `x + ½ swiglu (rms x g)`. -/
def ffnRow (x g : Fin 1024 → EReal) (wg wu : Fin 1024 → Fin 2816 → EReal) (wd : Fin 2816 → Fin 1024 → EReal) (l : Fin 1024) : EReal :=
  x l + Ideal.ofBits FTy.f32 1056964608#32 * ffn x g wg wu wd l

/-- Entry `l` of the residual with the per-layer embedding added: `r + σ (rms r pn · pg) * (p · pp)`. -/
def pleRow (r : Fin 1024 → EReal) (p : Fin 256 → EReal) (pn : Fin 1024 → EReal) (pg : Fin 1024 → Fin 1024 → EReal)
    (pp : Fin 256 → Fin 1024 → EReal) (l : Fin 1024) : EReal :=
  r l + Ideal.logistic (∑ k, rms r pn k * pg k l) * ∑ k, p k * pp k l

/-- A sum over 2816 entries taken in the three pieces 1024, 1024 and 768: the extended reals are a commutative monoid under
    addition, so nothing is assumed of the terms. -/
theorem sum_2816 (f : Fin 2816 → EReal) :
    ∑ j, f j = (∑ x : Fin 1024, f ⟨x, by omega⟩) + (∑ x : Fin 1024, f ⟨1024 + x, by omega⟩) + ∑ x : Fin 768, f ⟨2048 + x, by omega⟩ := by
  rw [show (∑ j, f j) = ∑ j : Fin (1024 + 1024 + 768), f j from rfl, Fin.sum_univ_add, Fin.sum_univ_add]
  rfl

end Cert.Spec

end
-- ==== Proof.Ffn.lean ====
/-
  The first feed-forward block. The kernel's array: one grid point handles 512 rows and runs the hidden dimension in the
  three chunks 1024, 1024 and 768; so each entry of its result is `Spec.ffnRow` of the row. The reference's array: the same
  function, with the sum over the hidden dimension taken whole and the gate spelt `1 / (1 + exp (-z))`. No precondition.
-/
module

public import proofs.«01_k».proof.Defs
public import proofs.«01_k».proof.Proof.Gen.KernelIdeal.Value
public import proofs.«01_k».proof.Proof.Gen.ReferenceIdeal.Read
public import proofs.«01_k».proof.Proof.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Ffn

open Cert.KernelIdeal Cert.KernelIdeal.Gen

/-- One block: what the body computes at row `r` and column `l` of its 512 rows is the half-step residual of that row. -/
theorem block (x : Vec Ideal S512x1024 .f32) (g : Vec Ideal S1x1024 .f32) (wg wu : Vec Ideal S1024x2816 .bf16)
    (wd : Vec Ideal S2816x1024 .bf16) (r : Fin 512) (l : Fin 1024) :
    out0_5 x g wg wu wd (ix2 r l)
      = Spec.ffnRow (fun k => x (ix2 r k)) (fun k => g (ix2 0 k)) (fun k j => wg (ix2 k j)) (fun k j => wu (ix2 k j))
          (fun j l => wd (ix2 j l)) l := by
  frame_out
  pointwise [k0_pay1, k0_pay2, k0_pay3, k0_pay4, k0_pay5]
  rw [Spec.ffnRow, Spec.ffn, Spec.sum_2816]
  rfl

variable (m : (ℓ : Loc nD τ sig) → Buf (Elt Ideal) ℓ) (ρ : Dev nD → PrngReg)

/-- The result array as a function of device `c`'s arguments. -/
def G (c : Dev nD) : Vec Ideal S32768x1024 .f32 := fun i =>
  Spec.ffnRow (fun k => m ((c : Thread nD τ).loc main_arg0) (ix2 (i 0) k)) (fun k => m ((c : Thread nD τ).loc main_arg1) (ix1 k))
    (fun k j => m ((c : Thread nD τ).loc main_arg2) (ix2 k j)) (fun k j => m ((c : Thread nD τ).loc main_arg3) (ix2 k j))
    (fun j l => m ((c : Thread nD τ).loc main_arg4) (ix2 j l)) (i 1)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] := by
  decide +kernel

/-- After the run the result array is `G`. -/
theorem final (c : Dev nD) : (dats m 0 c).arrAt 5 cfg0.N = G m c := by
  refine (dats m 0 c).arrAt_eq_of_covers 5 _ (by decide +kernel) fun t hf y => ?_
  blk_simp
  rw [after0_5]
  idx_vars y
  rw [block]
  simp only [G, Spec.ffnRow, Spec.ffn, Spec.act, Spec.silu, Spec.rms]
  blk_point [iblk, V, idx t]

/-- The run: the result array holds `G`, the arguments are unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Ffn

namespace Cert.ReferenceIdeal.Ffn

open Cert.ReferenceIdeal Cert.ReferenceIdeal.Gen Cert.ReferenceIdeal.Read

/-- The reference's array at row `r`, column `l`: the half-step residual of that row. -/
theorem value (x : Vec Ideal S32768x1024 .f32) (g : Vec Ideal S1024 .f32) (wg wu : Vec Ideal S1024x2816 .f32)
    (wd : Vec Ideal S2816x1024 .f32) (r : Fin 32768) (l : Fin 1024) :
    val_main_v20 (F := Ideal) x g wg wu wd (ix2 r l)
      = Spec.ffnRow (fun k => x (ix2 r k)) (fun k => g (ix1 k)) (fun k j => wg (ix2 k j)) (fun k j => wu (ix2 k j))
          (fun j l => wd (ix2 j l)) l := by
  simp only [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_call0_v0, val_main_call0_v1, val_main_call0_v2,
    val_main_call0_v3, val_main_call0_v4, val_main_call0_v5, val_main_cst, val_main_cst_0, val_main_cst_1, val_main_cst_2,
    val_main_call0_cst, val_main_call0_cst_0]
  pointwise
  rfl

end Cert.ReferenceIdeal.Ffn

namespace Cert

/-- The kernel and the reference compute one function of the arguments. -/
theorem ffn_algebraic : Cert.algebraic_KernelIdeal_ReferenceIdeal := by
  intro m ρ m' ρ' _ hagree
  refine ⟨fun c => KernelIdeal.Ffn.G m c, ?_, ?_⟩
  · exact (θ_run _ _ _).mono (fun _ h c => h c) (KernelIdeal.Ffn.run m ρ)
  · refine (θ_run ReferenceIdeal.defs _ _).mono (fun _ h c => ⟨(h c).1.trans ?_, (h c).2⟩) (ReferenceIdeal.Value.run (F := Ideal) m' ρ')
    obtain ⟨h0, h1, h2, h3, h4⟩ := hagree c
    rw [h0, h1, h2, h3, h4]
    funext i
    idx_vars i
    exact ReferenceIdeal.Ffn.value _ _ _ _ _ i0 i1

/-- The reference changes no argument and leaves no semaphore raised. -/
theorem ffn_reference_frame : Cert.quiescent_ReferenceIdeal := by
  intro m ρ _
  exact (θ_run ReferenceIdeal.defs _ _).mono (fun r h => ⟨fun c => (h c).2,
    Idealize.ShloMosaic.sem_eq_zero_of_no_sems (by decide) r.2⟩) (ReferenceIdeal.Value.run (F := Ideal) m ρ)

end Cert

end
-- ==== Proof.Ple.lean ====
/-
  The second feed-forward block, which also adds the per-layer embedding: the prompt batch's first result from the residual.
  The kernel's array: one grid point handles 512 rows, and each entry of its result is `Spec.pleRow` of the row's half-step
  residual `Spec.ffnRow`. The embedding rows are the second half of the table's 65536. The reference's array: the same
  function. No precondition.
-/
module

public import proofs.«01_k».proof.Defs
public import proofs.«01_k».proof.Proof.Gen.PleKernelIdeal.Value
public import proofs.«01_k».proof.Proof.Gen.PleReferenceIdeal.Read
public import proofs.«01_k».proof.Proof.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.PleKernelIdeal.Ple

open Cert.PleKernelIdeal Cert.PleKernelIdeal.Gen

/-- One block, the residual: at row `r` and column `l` it is the half-step residual of that row. -/
theorem residual (x : Vec Ideal S512x1024 .f32) (g : Vec Ideal S1x1024 .f32) (wg wu : Vec Ideal S1024x2816 .bf16)
    (wd : Vec Ideal S2816x1024 .bf16) (r : Fin 512) (l : Fin 1024) :
    k0_pay6 x (k0_pay2 x g) (k0_pay3 x g (View.ld wg r0_2) (View.ld wu r0_2) (View.ld wd r0_3)) (k0_pay4 x g (View.ld wu r0_4))
        (k0_pay5 x g (View.ld wg r0_4)) (View.ld wd r0_5) (View.ld wg r0_6) (View.ld wu r0_6) (View.ld wd r0_7) (ix2 r l)
      = Spec.ffnRow (fun k => x (ix2 r k)) (fun k => g (ix2 0 k)) (fun k j => wg (ix2 k j)) (fun k j => wu (ix2 k j))
          (fun j l => wd (ix2 j l)) l := by
  pointwise [k0_pay2, k0_pay3, k0_pay4, k0_pay5, k0_pay6]
  rw [Spec.ffnRow, Spec.ffn, Spec.sum_2816]
  rfl

/-- One block, the result: at row `r` and column `l` it is the residual with that row's embedding added. -/
theorem block (x : Vec Ideal S512x1024 .f32) (g : Vec Ideal S1x1024 .f32) (wg wu : Vec Ideal S1024x2816 .bf16)
    (wd : Vec Ideal S2816x1024 .bf16) (p : Vec Ideal S512x256 .f32) (pn : Vec Ideal S1x1024 .f32) (pg : Vec Ideal S1024x1024 .bf16)
    (pp : Vec Ideal S256x1024 .bf16) (r : Fin 512) (l : Fin 1024) :
    out0_9 x g wg wu wd p pn pg pp (ix2 r l)
      = Spec.pleRow (Spec.ffnRow (fun k => x (ix2 r k)) (fun k => g (ix2 0 k)) (fun k j => wg (ix2 k j))
          (fun k j => wu (ix2 k j)) (fun j l => wd (ix2 j l))) (fun k => p (ix2 r k)) (fun k => pn (ix2 0 k))
          (fun k j => pg (ix2 k j)) (fun k j => pp (ix2 k j)) l := by
  unfold out0_9 k0_pay12 k0_pay11 k0_pay10 k0_pay9
  frame_out
  pointwise [k0_pay1, k0_pay7, k0_pay8]
  simp only [residual]
  rfl

variable (m : (ℓ : Loc nD τ sig) → Buf (Elt Ideal) ℓ) (ρ : Dev nD → PrngReg)

/-- The result array as a function of device `c`'s arguments: row `i 0` with embedding row `32768 + i 0`. -/
def G (c : Dev nD) : Vec Ideal S32768x1024 .f32 := fun i =>
  Spec.pleRow (Spec.ffnRow (fun k => m ((c : Thread nD τ).loc main_arg0) (ix2 (i 0) k)) (fun k => m ((c : Thread nD τ).loc main_arg1) (ix1 k))
      (fun k j => m ((c : Thread nD τ).loc main_arg2) (ix2 k j)) (fun k j => m ((c : Thread nD τ).loc main_arg3) (ix2 k j))
      (fun j l => m ((c : Thread nD τ).loc main_arg4) (ix2 j l)))
    (fun k => m ((c : Thread nD τ).loc main_arg5) (ix2 (⟨32768 + (i 0).val, by have : (i 0).val < 32768 := (i 0).isLt; omega⟩ : Fin 65536) k))
    (fun k => m ((c : Thread nD τ).loc main_arg6) (ix1 k)) (fun k j => m ((c : Thread nD τ).loc main_arg7) (ix2 k j))
    (fun k j => m ((c : Thread nD τ).loc main_arg8) (ix2 k j)) (i 1)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val + 64, 0] ∧ win0_6.index t = ![0, 0]
    ∧ win0_7.index t = ![0, 0] ∧ win0_8.index t = ![0, 0] ∧ win0_9.index t = ![t.val, 0] := by
  decide +kernel

/-- After the run the result array is `G`. -/
theorem final (c : Dev nD) : (dats m 0 c).arrAt 9 cfg0.N = G m c := by
  refine (dats m 0 c).arrAt_eq_of_covers 9 _ (by decide +kernel) fun t hf y => ?_
  blk_simp
  rw [after0_9]
  idx_vars y
  rw [block]
  simp only [G, Spec.pleRow, Spec.ffnRow, Spec.ffn, Spec.act, Spec.silu, Spec.rms]
  blk_point [iblk, V, idx t]

/-- The run: the result array holds `G`, the arguments are unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.PleKernelIdeal.Ple

namespace Cert.PleReferenceIdeal.Ple

open Cert.PleReferenceIdeal Cert.PleReferenceIdeal.Gen Cert.PleReferenceIdeal.Read

/-- The reference's array at row `r`, column `l`. -/
theorem value (x : Vec Ideal S32768x1024 .f32) (g : Vec Ideal S1024 .f32) (wg wu : Vec Ideal S1024x2816 .f32)
    (wd : Vec Ideal S2816x1024 .f32) (p : Vec Ideal S65536x256 .f32) (pn : Vec Ideal S1024 .f32) (pg : Vec Ideal S1024x1024 .f32)
    (pp : Vec Ideal S256x1024 .f32) (r : Fin 32768) (l : Fin 1024) :
    val_main_v44 (F := Ideal) x g wg wu wd p pn pg pp (ix2 r l)
      = Spec.pleRow (Spec.ffnRow (fun k => x (ix2 r k)) (fun k => g (ix1 k)) (fun k j => wg (ix2 k j)) (fun k j => wu (ix2 k j))
          (fun j l => wd (ix2 j l))) (fun k => p (ix2 (⟨32768 + r.val, by omega⟩ : Fin 65536) k)) (fun k => pn (ix1 k))
          (fun k j => pg (ix2 k j)) (fun k j => pp (ix2 k j)) l := by
  simp only [val_main_v44, val_main_v43, val_main_v42, val_main_v41, val_main_v40, val_main_v39, val_main_cst_7, val_main_v38,
    val_main_v37, val_main_cst_6, val_main_v36, val_main_v35, val_main_v34, val_main_v33, val_main_v32, val_main_v31,
    val_main_v30, val_main_v29, val_main_v28, val_main_v27, val_main_v26, val_main_cst_5, val_main_v25, val_main_v24,
    val_main_cst_4, val_main_v23, val_main_v22, val_main_cst_3, val_main_v21, val_main_v20, val_main_v19, val_main_v18,
    val_main_cst_2, val_main_v17, val_main_v16, val_main_v15, val_main_v14, val_main_call0_v5, val_main_call0_v4,
    val_main_call0_cst_0, val_main_call0_v3, val_main_call0_v2, val_main_call0_cst, val_main_call0_v1, val_main_call0_v0,
    val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]
  pointwise
  rfl

end Cert.PleReferenceIdeal.Ple

namespace Cert

/-- The kernel and the reference compute one function of the arguments. -/
theorem ple_algebraic : Cert.algebraic_PleKernelIdeal_PleReferenceIdeal := by
  intro m ρ m' ρ' _ hagree
  refine ⟨fun c => PleKernelIdeal.Ple.G m c, ?_, ?_⟩
  · exact (θ_run _ _ _).mono (fun _ h c => h c) (PleKernelIdeal.Ple.run m ρ)
  · refine (θ_run PleReferenceIdeal.defs _ _).mono (fun _ h c => ⟨(h c).1.trans ?_, (h c).2⟩) (PleReferenceIdeal.Value.run (F := Ideal) m' ρ')
    obtain ⟨h0, h1, h2, h3, h4, h5, h6, h7, h8⟩ := hagree c
    rw [PleReferenceIdeal.Read.val_main_v44_eq, h0, h1, h2, h3, h4, h5, h6, h7, h8]
    funext i
    idx_vars i
    exact PleReferenceIdeal.Ple.value _ _ _ _ _ _ _ _ _ i0 i1

/-- The reference changes no argument and leaves no semaphore raised. -/
theorem ple_reference_frame : Cert.quiescent_PleReferenceIdeal := by
  intro m ρ _
  exact (θ_run PleReferenceIdeal.defs _ _).mono (fun r h => ⟨fun c => (h c).2,
    Idealize.ShloMosaic.sem_eq_zero_of_no_sems (by decide) r.2⟩) (PleReferenceIdeal.Value.run (F := Ideal) m ρ)

end Cert

end
-- ==== Proof.ConvSpec.lean ====
/-
  The gated short convolution over the reals: one row's formula from the values at the two rows before it, and the block of 128
  rows that takes those by rotation and by a choice on the row's number. Nothing here is about the programs.
-/
module

public import proofs.«01_k».proof.Proof.Spec
public import Idealize.ShloMosaic.Lib.Pointwise

@[expose] public section

set_option maxRecDepth 16384

noncomputable section

namespace Cert.Spec

open Idealize.ShloMosaic

/-- Entry `j` of one row times the projection: `rms x g · wb`. -/
def convU (x g : Fin 1024 → EReal) (wb : Fin 1024 → Fin 1536 → EReal) (j : Fin 1536) : EReal := ∑ k, rms x g k * wb k j

/-- The value that is convolved: the product of the second and the third third of `convU`. -/
def convZ (x g : Fin 1024 → EReal) (wb : Fin 1024 → Fin 1536 → EReal) (l : Fin 512) : EReal :=
  convU x g wb ⟨512 + l, by omega⟩ * convU x g wb ⟨1024 + l, by omega⟩

/-- What a row of the convolution is from its own row `x` and the convolved values `z1`, `z2` one and two positions before. -/
def convTap (x g : Fin 1024 → EReal) (wb : Fin 1024 → Fin 1536 → EReal) (cw : Fin 3 → Fin 512 → EReal) (z1 z2 : EReal) (l : Fin 512) : EReal :=
  convU x g wb ⟨l, by omega⟩ * (z2 * cw 0 l + z1 * cw 1 l + convZ x g wb l * cw 2 l)

/-- The convolved value `d` positions before row `n` in its own sequence, and zero before the sequence's start. The rows are
    numbered through all sequences: sequence `s` of 2048 positions holds rows `2048 s … 2048 s + 2047`. -/
def before (X : ℕ → Fin 1024 → EReal) (g : Fin 1024 → EReal) (wb : Fin 1024 → Fin 1536 → EReal) (d n : ℕ) (l : Fin 512) : EReal :=
  if n % 2048 < d then 0 else convZ (X (n - d)) g wb l

/-- The gated short convolution at row `n`: the first third of `convU` times three taps. -/
def convRow (X : ℕ → Fin 1024 → EReal) (g : Fin 1024 → EReal) (wb : Fin 1024 → Fin 1536 → EReal) (cw : Fin 3 → Fin 512 → EReal)
    (n : ℕ) (l : Fin 512) : EReal :=
  convTap (X n) g wb cw (before X g wb 1 n l) (before X g wb 2 n l) l

/-- The rows of an array of 32768 rows, numbered by the naturals (only rows below 32768 are meant). -/
def rows {n : ℕ} (x : Fin 32768 → Fin n → EReal) (r : ℕ) (k : Fin n) : EReal := x ⟨r % 32768, Nat.mod_lt _ (by decide)⟩ k

theorem rows_eq {n : ℕ} (x : Fin 32768 → Fin n → EReal) (a : ℕ) (r : Fin 32768) (h : a = r) : rows x a = x r := by
  subst h
  funext k
  exact congrArg (x · k) (Fin.ext (Nat.mod_eq_of_lt r.isLt))

section

variable (x : Fin 32768 → Fin 1024 → EReal) (g : Fin 1024 → EReal) (wb : Fin 1024 → Fin 1536 → EReal) (cw : Fin 3 → Fin 512 → EReal)

/-- At a sequence's first row nothing comes before. -/
theorem convRow_zero (r : Fin 32768) (l : Fin 512) (h : r.val % 2048 < 1) :
    convRow (rows x) g wb cw r l = convTap (x r) g wb cw 0 0 l := by
  rw [convRow, before, before, if_pos h, if_pos (by omega), rows_eq x r r rfl]

/-- Only the row just before reaches a sequence's second row. -/
theorem convRow_one (r : Fin 32768) (l : Fin 512) {p : Fin 32768} (h : r.val % 2048 < 2) (hp : r.val = p.val + 1 ∧ 0 < r.val % 2048) :
    convRow (rows x) g wb cw r l = convTap (x r) g wb cw (convZ (x p) g wb l) 0 l := by
  rw [convRow, before, before, if_neg (by omega), if_pos h, rows_eq x r r rfl, rows_eq x (r - 1) p (by omega)]

/-- Every later row takes the two rows before. -/
theorem convRow_two (r : Fin 32768) (l : Fin 512) {p q : Fin 32768} (h : ¬ r.val % 2048 < 2) (hp : r.val = p.val + 1) (hq : r.val = q.val + 2) :
    convRow (rows x) g wb cw r l = convTap (x r) g wb cw (convZ (x p) g wb l) (convZ (x q) g wb l) l := by
  rw [convRow, before, before, if_neg (by omega), if_neg h, rows_eq x r r rfl, rows_eq x (r - 1) p (by omega), rows_eq x (r - 2) q (by omega)]

end

/-- The choice on a row's number, as an `if`. -/
theorem select_row {α : Type} (a n : ℕ) (ha : a < 4096) (hn : n < 4096) (x y : α) :
    Scalar.select (IntOp.cmpi CmpIPredicate.eq (BitVec.ofNat 32 a) (BitVec.ofNat 32 n)) x y = if a = n then x else y := by
  have e : (BitVec.ofNat 32 a = BitVec.ofNat 32 n) ↔ a = n := by
    constructor
    · intro h
      have := congrArg BitVec.toNat h
      simp only [BitVec.toNat_ofNat] at this
      omega
    · rintro rfl; rfl
  by_cases h : a = n
  · simp [Scalar.select, IntOp.cmpi, h]
  · have e' : (BitVec.ofNat 32 a == BitVec.ofNat 32 n) = false := by rw [beq_eq_false_iff_ne]; exact fun h' => h (e.mp h')
    simp [Scalar.select, IntOp.cmpi, h, e']

/-- Row `r` of a block of 128 rows `x`, the way the kernel takes it: the two rows before come by rotating the block, and the
    first rows' choice is between `h1` (one row before the block) and `h2` (two rows before). -/
def tile (x : Fin 128 → Fin 1024 → EReal) (g : Fin 1024 → EReal) (wb : Fin 1024 → Fin 1536 → EReal) (cw : Fin 3 → Fin 512 → EReal)
    (h1 h2 : Fin 512 → EReal) (r : Fin 128) (l : Fin 512) : EReal :=
  convTap (x r) g wb cw
    (Scalar.select (IntOp.cmpi CmpIPredicate.eq (BitVec.ofNat 32 r) (BitVec.ofNat 32 0)) (h1 l)
      (convZ (x ⟨(r + 128 - 1) % 128, Nat.mod_lt _ (by decide)⟩) g wb l))
    (Scalar.select (IntOp.cmpi CmpIPredicate.eq (BitVec.ofNat 32 r) (BitVec.ofNat 32 1)) (h1 l)
      (Scalar.select (IntOp.cmpi CmpIPredicate.eq (BitVec.ofNat 32 r) (BitVec.ofNat 32 0)) (h2 l)
        (convZ (x ⟨(r + 128 - 2) % 128, Nat.mod_lt _ (by decide)⟩) g wb l))) l

/-- So where the block starts at row `b`, and `h1` and `h2` are what comes before it, row `r` of the block is the convolution
    at row `b + r`. -/
theorem tile_eq (X : ℕ → Fin 1024 → EReal) (x : Fin 128 → Fin 1024 → EReal) (g : Fin 1024 → EReal) (wb : Fin 1024 → Fin 1536 → EReal)
    (cw : Fin 3 → Fin 512 → EReal) (h1 h2 : Fin 512 → EReal) (b : ℕ) (hb : b % 128 = 0) (hx : ∀ r, x r = X (b + r))
    (e1 : ∀ l, h1 l = before X g wb 1 b l) (e2 : ∀ l, h2 l = before X g wb 2 b l) (r : Fin 128) (l : Fin 512) :
    tile x g wb cw h1 h2 r l = convRow X g wb cw (b + r) l := by
  unfold tile convRow
  rw [select_row _ _ (by omega) (by omega), select_row _ _ (by omega) (by omega), select_row _ _ (by omega) (by omega), hx, hx, hx, e1, e2]
  unfold before
  congr 1
  · by_cases h : r.val = 0
    · rw [if_pos h, h, Nat.add_zero]
    · rw [if_neg h, if_neg (by omega), show b + (r.val + 128 - 1) % 128 = b + r.val - 1 by omega]
  · by_cases h : r.val = 1
    · rw [if_pos h]
      by_cases h' : b % 2048 < 1
      · rw [if_pos h', if_pos (by omega)]
      · rw [if_neg h', if_neg (by omega), show b + r.val - 2 = b - 1 by omega]
    · rw [if_neg h]
      by_cases h0 : r.val = 0
      · rw [if_pos h0, h0, Nat.add_zero]
      · rw [if_neg h0, if_neg (by omega), show b + (r.val + 128 - 2) % 128 = b + r.val - 2 by omega]

end Cert.Spec

end
-- ==== Proof.ConvTiles.lean ====
/-
  The short convolution's body, one tile of 128 rows at a time: each tile is `Spec.tile` of its rows and of the two values before
  it; and the two values a tile hands on.
-/
module

public import proofs.«01_k».proof.Proof.Gen.ConvKernelIdeal.Value
public import proofs.«01_k».proof.Proof.ConvSpec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ConvKernelIdeal.Conv

open Cert.ConvKernelIdeal Cert.ConvKernelIdeal.Gen

/-- The first 128 rows of a point, before which the scratch rows come. -/
theorem tile0 (x : Vec Ideal S128x1024 .f32) (g : Vec Ideal S1x1024 .f32) (wb : Vec Ideal S1024x1536 .bf16) (cw : Vec Ideal S3x512 .f32)
    (h1 h2 : Vec Ideal S1x512 .f32) (r : Fin 128) (l : Fin 512) :
    k0_pay10 cw h1 h2 (k0_pay3 x g wb) (k0_pay4 x g wb) (k0_pay5 x g wb) k0_pay6 (k0_pay7 h1) (ix2 r l)
      = Spec.tile (fun r k => x (ix2 r k)) (fun k => g (ix2 0 k)) (fun k j => wb (ix2 k j)) (fun j l => cw (ix2 j l))
          (fun l => h1 (ix2 0 l)) (fun l => h2 (ix2 0 l)) r l := by
  pointwise [k0_pay10, k0_pay2, k0_pay3, k0_pay4, k0_pay5, k0_pay6, k0_pay7]
  rfl

/-- The second 128 rows. -/
theorem tile1 (x : Vec Ideal S128x1024 .f32) (g : Vec Ideal S1x1024 .f32) (wb : Vec Ideal S1024x1536 .bf16) (cw : Vec Ideal S3x512 .f32)
    (h1 h2 : Vec Ideal S1x512 .f32) (r : Fin 128) (l : Fin 512) :
    k0_pay16 cw h1 h2 (k0_pay11 x g) wb (ix2 r l)
      = Spec.tile (fun r k => x (ix2 r k)) (fun k => g (ix2 0 k)) (fun k j => wb (ix2 k j)) (fun j l => cw (ix2 j l))
          (fun l => h1 (ix2 0 l)) (fun l => h2 (ix2 0 l)) r l := by
  pointwise [k0_pay16, k0_pay11, k0_pay12, k0_pay13]
  rfl

/-- The third 128 rows. -/
theorem tile2 (x : Vec Ideal S128x1024 .f32) (g : Vec Ideal S1x1024 .f32) (wb : Vec Ideal S1024x1536 .bf16) (cw : Vec Ideal S3x512 .f32)
    (h1 h2 : Vec Ideal S1x512 .f32) (r : Fin 128) (l : Fin 512) :
    k0_pay26 cw (k0_pay18 x g wb) (k0_pay19 x g wb) (k0_pay20 h1 x g wb) (k0_pay21 h2 x g wb) k0_pay22 (k0_pay23 h1) (ix2 r l)
      = Spec.tile (fun r k => x (ix2 r k)) (fun k => g (ix2 0 k)) (fun k j => wb (ix2 k j)) (fun j l => cw (ix2 j l))
          (fun l => h1 (ix2 0 l)) (fun l => h2 (ix2 0 l)) r l := by
  pointwise [k0_pay26, k0_pay17, k0_pay18, k0_pay19, k0_pay20, k0_pay21, k0_pay22, k0_pay23]
  rfl

/-- The last 128 rows. -/
theorem tile3 (x : Vec Ideal S128x1024 .f32) (g : Vec Ideal S1x1024 .f32) (wb : Vec Ideal S1024x1536 .bf16) (cw : Vec Ideal S3x512 .f32)
    (h1 h2 : Vec Ideal S1x512 .f32) (r : Fin 128) (l : Fin 512) :
    k0_pay32 cw h1 h2 (k0_pay28 x g wb) (k0_pay29 x g wb) (k0_pay30 x g wb) k0_pay31 (ix2 r l)
      = Spec.tile (fun r k => x (ix2 r k)) (fun k => g (ix2 0 k)) (fun k j => wb (ix2 k j)) (fun j l => cw (ix2 j l))
          (fun l => h1 (ix2 0 l)) (fun l => h2 (ix2 0 l)) r l := by
  pointwise [k0_pay32, k0_pay27, k0_pay28, k0_pay29, k0_pay30, k0_pay31]
  rfl

/-- The convolved value of the last row of the first 128. -/
theorem last0_1 (x : Vec Ideal S128x1024 .f32) (g : Vec Ideal S1x1024 .f32) (wb : Vec Ideal S1024x1536 .bf16) (l : Fin 512) :
    k0_pay8 (k0_pay4 x g wb) (ix2 0 l) = Spec.convZ (fun k => x (ix2 127 k)) (fun k => g (ix2 0 k)) (fun k j => wb (ix2 k j)) l := by
  pointwise [k0_pay8, k0_pay4, k0_pay2]
  rfl

/-- The convolved value of the last row but one of the first 128. -/
theorem last0_2 (x : Vec Ideal S128x1024 .f32) (g : Vec Ideal S1x1024 .f32) (wb : Vec Ideal S1024x1536 .bf16) (l : Fin 512) :
    k0_pay9 (k0_pay4 x g wb) (ix2 0 l) = Spec.convZ (fun k => x (ix2 126 k)) (fun k => g (ix2 0 k)) (fun k j => wb (ix2 k j)) l := by
  pointwise [k0_pay9, k0_pay4, k0_pay2]
  rfl

/-- The convolved value of the last row of the second 128. -/
theorem last1_1 (x : Vec Ideal S128x1024 .f32) (g : Vec Ideal S1x1024 .f32) (wb : Vec Ideal S1024x1536 .bf16) (l : Fin 512) :
    k0_pay14 (k0_pay11 x g) wb (ix2 0 l) = Spec.convZ (fun k => x (ix2 127 k)) (fun k => g (ix2 0 k)) (fun k j => wb (ix2 k j)) l := by
  pointwise [k0_pay14, k0_pay13, k0_pay12, k0_pay11]
  rfl

/-- The convolved value of the last row but one of the second 128. -/
theorem last1_2 (x : Vec Ideal S128x1024 .f32) (g : Vec Ideal S1x1024 .f32) (wb : Vec Ideal S1024x1536 .bf16) (l : Fin 512) :
    k0_pay15 (k0_pay11 x g) wb (ix2 0 l) = Spec.convZ (fun k => x (ix2 126 k)) (fun k => g (ix2 0 k)) (fun k j => wb (ix2 k j)) l := by
  pointwise [k0_pay15, k0_pay13, k0_pay12, k0_pay11]
  rfl

/-- The convolved value of the last row of the third 128. -/
theorem last2_1 (x : Vec Ideal S128x1024 .f32) (g : Vec Ideal S1x1024 .f32) (wb : Vec Ideal S1024x1536 .bf16) (l : Fin 512) :
    k0_pay24 (k0_pay19 x g wb) (ix2 0 l) = Spec.convZ (fun k => x (ix2 127 k)) (fun k => g (ix2 0 k)) (fun k j => wb (ix2 k j)) l := by
  pointwise [k0_pay24, k0_pay19, k0_pay17]
  rfl

/-- The convolved value of the last row but one of the third 128. -/
theorem last2_2 (x : Vec Ideal S128x1024 .f32) (g : Vec Ideal S1x1024 .f32) (wb : Vec Ideal S1024x1536 .bf16) (l : Fin 512) :
    k0_pay25 (k0_pay19 x g wb) (ix2 0 l) = Spec.convZ (fun k => x (ix2 126 k)) (fun k => g (ix2 0 k)) (fun k j => wb (ix2 k j)) l := by
  pointwise [k0_pay25, k0_pay19, k0_pay17]
  rfl

/-- The two rows the point leaves in the scratch and in the state: the convolved values of its last two rows. -/
theorem keep (x : Vec Ideal S128x1024 .f32) (g : Vec Ideal S1x1024 .f32) (wb : Vec Ideal S1024x1536 .bf16) (j : Fin 2) (l : Fin 512) :
    k0_pay34 (k0_pay29 x g wb) (ix2 j l) = Spec.convZ (fun k => x (ix2 (⟨126 + j.val, by omega⟩ : Fin 128) k)) (fun k => g (ix2 0 k)) (fun k j => wb (ix2 k j)) l := by
  pointwise [k0_pay33, k0_pay34, k0_pay29, k0_pay27]
  match j with
  | 0 => rfl
  | 1 => rfl

/-- The same two rows, as the state's block holds them. -/
theorem keep_state (x : Vec Ideal S128x1024 .f32) (g : Vec Ideal S1x1024 .f32) (wb : Vec Ideal S1024x1536 .bf16) (j : Fin 2) (l : Fin 512) :
    k0_pay35 (k0_pay29 x g wb) (ix3 0 j l) = Spec.convZ (fun k => x (ix2 (⟨126 + j.val, by omega⟩ : Fin 128) k)) (fun k => g (ix2 0 k)) (fun k j => wb (ix2 k j)) l := by
  pointwise [k0_pay33, k0_pay35, k0_pay29, k0_pay27]
  match j with
  | 0 => rfl
  | 1 => rfl

end Cert.ConvKernelIdeal.Conv

end
-- ==== Proof.ConvReference.lean ====
/-
  What the short convolution's reference computes: each row is `Spec.convRow`, and the state holds the convolved values of a
  sequence's last two positions.
-/
module

public import proofs.«01_k».proof.Defs
public import proofs.«01_k».proof.Proof.Gen.ConvReferenceIdeal.Run
public import proofs.«01_k».proof.Proof.Gen.ConvReferenceIdeal.Read
public import proofs.«01_k».proof.Proof.ConvSpec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ConvReferenceIdeal.Conv

open Cert.ConvReferenceIdeal Cert.ConvReferenceIdeal.Gen Cert.ConvReferenceIdeal.Read

/-- The reference's first result at row `r`, column `l`: the gated short convolution of that row. -/
theorem value (x : Vec Ideal S32768x1024 .f32) (g : Vec Ideal S1024 .f32) (wb : Vec Ideal S1024x1536 .f32) (cw : Vec Ideal S3x512 .f32)
    (r : Fin 32768) (l : Fin 512) : val_main_v43 (F := Ideal) x g wb cw (ix2 r l)
      = Spec.convRow (Spec.rows fun n k => x (ix2 n k)) (fun k => g (ix1 k)) (fun k j => wb (ix2 k j)) (fun j l => cw (ix2 j l)) r l := by
  simp only [val_main_v43, val_main_v42, val_main_v41, val_main_v40, val_main_v39, val_main_v38, val_main_v37, val_main_v36,
    val_main_v35, val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_cst_2, val_main_v13,
    val_main_v12, val_main_v11, val_main_v10, val_main_v9, val_main_v8, val_main_v7, val_main_v6, val_main_v5, val_main_cst_1,
    val_main_v4, val_main_v3, val_main_cst_0, val_main_v2, val_main_v1, val_main_cst, val_main_v0]
  pointwise
  by_cases h2 : r.val % 2048 < 2
  · by_cases h1 : r.val % 2048 < 1
    · refine Eq.trans ?_ (Spec.convRow_zero _ _ _ _ r l h1).symm
      have h3 : 1 + r.val % 2048 < 2 := by omega
      simp only [dif_pos h3, dif_pos h2]
      rfl
    · refine Eq.trans ?_ (Spec.convRow_one _ _ _ _ r l (p := ⟨r.val / 2048 * 2048 + (1 + r.val % 2048 - 2), by omega⟩) h2 (by dsimp only; omega)).symm
      have h3 : ¬ 1 + r.val % 2048 < 2 := by omega
      simp only [dif_neg h3, dif_pos h2]
      rfl
  · refine Eq.trans ?_ (Spec.convRow_two _ _ _ _ r l (p := ⟨r.val / 2048 * 2048 + (1 + r.val % 2048 - 2), by omega⟩)
      (q := ⟨r.val / 2048 * 2048 + (r.val % 2048 - 2), by omega⟩) h2 (by dsimp only; omega) (by dsimp only; omega)).symm
    have h3 : ¬ 1 + r.val % 2048 < 2 := by omega
    simp only [dif_neg h3, dif_neg h2]
    rfl

/-- The reference's second result, sequence `s`, row `r` of two, column `l`: the convolved value at position `2046 + r`. -/
theorem state (x : Vec Ideal S32768x1024 .f32) (g : Vec Ideal S1024 .f32) (wb : Vec Ideal S1024x1536 .f32)
    (s : Fin 16) (r : Fin 2) (l : Fin 512) : val_main_v42 (F := Ideal) x g wb (ix3 s r l)
      = Spec.convZ (Spec.rows (fun n k => x (ix2 n k)) (2048 * s + 2046 + r)) (fun k => g (ix1 k)) (fun k j => wb (ix2 k j)) l := by
  simp only [val_main_v43, val_main_v42, val_main_v41, val_main_v40, val_main_v39, val_main_v38, val_main_v37, val_main_v36,
    val_main_v35, val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_cst_2, val_main_v13,
    val_main_v12, val_main_v11, val_main_v10, val_main_v9, val_main_v8, val_main_v7, val_main_v6, val_main_v5, val_main_cst_1,
    val_main_v4, val_main_v3, val_main_cst_0, val_main_v2, val_main_v1, val_main_cst, val_main_v0]
  pointwise
  refine Eq.trans ?_ (congrArg (Spec.convZ · _ _ l) (Spec.rows_eq _ _ ⟨s.val * 2048 + (2048 + r.val - 2), by omega⟩ (by dsimp only; omega))).symm
  have h : ¬ 2048 + r.val < 2 := by omega
  simp only [dif_neg h]
  rfl

end Cert.ConvReferenceIdeal.Conv

end
-- ==== Proof.Conv.lean ====
/-
  The gated short convolution. A grid point handles 512 rows in four tiles of 128; the two rows before a tile are the last two
  of the tile before it, and those before the first tile come from a scratch that the point before left, or are zero where a
  sequence starts (every fourth point). Here: what the scratch holds after a point, what the two result arrays hold after the
  run, and that they are the reference's arrays. No precondition.
-/
module

public import proofs.«01_k».proof.Defs
public import proofs.«01_k».proof.Proof.ConvTiles
public import proofs.«01_k».proof.Proof.ConvReference
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.ConvKernelIdeal.Conv

open Cert.ConvKernelIdeal Cert.ConvKernelIdeal.Gen

variable (m : (ℓ : Loc nD τ sig) → Buf (Elt Ideal) ℓ) (ρ : Dev nD → PrngReg)

/-- The input rows of device `c`. -/
def X (c : Dev nD) : ℕ → Fin 1024 → EReal := Spec.rows fun n k => m ((c : Thread nD τ).loc main_arg0) (ix2 n k)

/-- The norm's weight. -/
def gv (c : Dev nD) (k : Fin 1024) : EReal := m ((c : Thread nD τ).loc main_arg1) (ix1 k)

/-- The projection. -/
def wv (c : Dev nD) (k : Fin 1024) (j : Fin 1536) : EReal := m ((c : Thread nD τ).loc main_arg2) (ix2 k j)

/-- The three taps. -/
def cv (c : Dev nD) (j : Fin 3) (l : Fin 512) : EReal := m ((c : Thread nD τ).loc main_arg3) (ix2 j l)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val / 4, 0, 0] := by
  decide +kernel

/-- Row `r` of the tile that starts at row `q` of point `t`'s block. -/
theorem row (c : Dev nD) (t : Fin cfg0.N) (q : ℕ) (hq : q + 128 ≤ 512)
    (inb : ∀ a, (![q, 0] : Fin 2 → ℕ) a + (![128, 1024] : Fin 2 → ℕ) a ≤ S512x1024.size a) (r : Fin 128) :
    (fun k : Fin 1024 => View.ld (iblk m c 0 t) (Rect.unit ![q, 0] ![128, 1024] inb) (ix2 r k)) = X m c (512 * t.val + q + r.val) := by
  have ht : t.val < 64 := lt_of_lt_of_eq t.isLt N_0
  funext k
  simp only [X, Spec.rows]
  blk_point [iblk, V, idx t]

theorem gain (c : Dev nD) (t : Fin cfg0.N) : (fun k : Fin 1024 => iblk m c 1 t (ix2 0 k)) = gv m c := by
  funext k
  simp only [gv]
  blk_point [iblk, V, idx t]

theorem proj (c : Dev nD) (t : Fin cfg0.N) : (fun (k : Fin 1024) (j : Fin 1536) => iblk m c 2 t (ix2 k j)) = wv m c := by
  funext k j
  simp only [wv]
  blk_point [iblk, V, idx t]

theorem taps (c : Dev nD) (t : Fin cfg0.N) : (fun (j : Fin 3) (l : Fin 512) => iblk m c 3 t (ix2 j l)) = cv m c := by
  funext j l
  simp only [cv]
  blk_point [iblk, V, idx t]

/-- A load of one row of the scratch. -/
theorem ld_row (Z : Vec Ideal S8x512 .f32) (q : ℕ) (hq : q < 8)
    (inb : ∀ a, (![q, 0] : Fin 2 → ℕ) a + (![1, 512] : Fin 2 → ℕ) a ≤ S8x512.size a) (l : Fin 512) :
    View.ld Z (Rect.unit ![q, 0] ![1, 512] inb) (ix2 0 l) = Z (ix2 (⟨q, hq⟩ : Fin 8) l) := by
  pointwise

/-- After point `t` the scratch's first two rows are the convolved values of the point's last two rows. -/
theorem scratch (c : Dev nD) (t : Fin cfg0.N) (j : Fin 2) (l : Fin 512) :
    (outsAt0 m c t.val t.isLt).2.2 (ix2 (⟨j.val, by omega⟩ : Fin 8) l)
      = Spec.convZ (X m c (512 * t.val + 510 + j.val)) (gv m c) (wv m c) l := by
  have e : 512 * t.val + 510 + j.val = 512 * t.val + 384 + (126 + j.val) := by omega
  rw [e, ← gain m c t, ← proj m c t]
  have hk := keep (View.ld (iblk m c 0 t) (Rect.unit ![384, 0] ![128, 1024] inb_S512x1024_S128x1024_384_0)) (iblk m c 1 t) (iblk m c 2 t) j l
  refine Eq.trans ?_ (hk.trans (congrArg (Spec.convZ · _ _ l) (row m c t 384 (by omega) _ _)))
  by_cases h : t.val % 4 = 0
  · rw [outsAt0_A m c t h]
    frame_out
    have hy : (Rect.unit (s := S8x512) ![0, 0] ![2, 512] inb_S8x512_S2x512_0_0).emb (ix2 j l) = ix2 (⟨j.val, by omega⟩ : Fin 8) l := by
      funext a
      match a with
      | 0 => exact Fin.ext (by show 0 + 1 * j.val = j.val; omega)
      | 1 => exact Fin.ext (by show 0 + 1 * l.val = l.val; omega)
    rw [← hy]
    exact View.canon_cons_emb _ _ _ _
  · rw [outsAt0_B m c t h]
    frame_out
    exact View.read_writes_cons_rows_of_mem _ _ _ _ _ _ (ix2 j l) rfl (Nat.zero_add _).symm rfl

/-- The four tiles of point `t`'s block. -/
abbrev L0 (c : Dev nD) (t : Fin cfg0.N) : Vec Ideal S128x1024 .f32 :=
  View.ld (iblk m c 0 t) (Rect.unit ![0, 0] ![128, 1024] inb_S512x1024_S128x1024_0_0)

abbrev L1 (c : Dev nD) (t : Fin cfg0.N) : Vec Ideal S128x1024 .f32 :=
  View.ld (iblk m c 0 t) (Rect.unit ![128, 0] ![128, 1024] inb_S512x1024_S128x1024_128_0)

abbrev L2 (c : Dev nD) (t : Fin cfg0.N) : Vec Ideal S128x1024 .f32 :=
  View.ld (iblk m c 0 t) (Rect.unit ![256, 0] ![128, 1024] inb_S512x1024_S128x1024_256_0)

abbrev L3 (c : Dev nD) (t : Fin cfg0.N) : Vec Ideal S128x1024 .f32 :=
  View.ld (iblk m c 0 t) (Rect.unit ![384, 0] ![128, 1024] inb_S512x1024_S128x1024_384_0)

/-- The convolution at the rows of the tile that starts at row `q` of point `t`, from what comes before the tile. -/
theorem at_tile (c : Dev nD) (t : Fin cfg0.N) (q : ℕ) (hq : q + 128 ≤ 512) (hq' : q % 128 = 0)
    (inb : ∀ a, (![q, 0] : Fin 2 → ℕ) a + (![128, 1024] : Fin 2 → ℕ) a ≤ S512x1024.size a) (h1 h2 : Vec Ideal S1x512 .f32)
    (e1 : ∀ l, h1 (ix2 0 l) = Spec.before (X m c) (gv m c) (wv m c) 1 (512 * t.val + q) l)
    (e2 : ∀ l, h2 (ix2 0 l) = Spec.before (X m c) (gv m c) (wv m c) 2 (512 * t.val + q) l) (r : Fin 128) (l : Fin 512) :
    Spec.tile (fun r k => View.ld (iblk m c 0 t) (Rect.unit ![q, 0] ![128, 1024] inb) (ix2 r k)) (fun k => iblk m c 1 t (ix2 0 k))
      (fun k j => iblk m c 2 t (ix2 k j)) (fun j l => iblk m c 3 t (ix2 j l)) (fun l => h1 (ix2 0 l)) (fun l => h2 (ix2 0 l)) r l
      = Spec.convRow (X m c) (gv m c) (wv m c) (cv m c) (512 * t.val + q + r.val) l := by
  rw [gain, proj, taps]
  exact Spec.tile_eq _ _ _ _ _ _ _ _ (by omega) (fun r => row m c t q hq inb r) e1 e2 r l

/-- A value known to be that of row `n - d` is what comes `d` rows before row `n`, inside a sequence. -/
theorem before_of (c : Dev nD) (t : Fin cfg0.N) (q : ℕ) (hq : q + 128 ≤ 512)
    (inb : ∀ a, (![q, 0] : Fin 2 → ℕ) a + (![128, 1024] : Fin 2 → ℕ) a ≤ S512x1024.size a) (r : Fin 128) (d n : ℕ) (l : Fin 512)
    (hn : ¬ n % 2048 < d) (e : n - d = 512 * t.val + q + r.val) :
    Spec.convZ (fun k => View.ld (iblk m c 0 t) (Rect.unit ![q, 0] ![128, 1024] inb) (ix2 r k)) (fun k => iblk m c 1 t (ix2 0 k))
      (fun k j => iblk m c 2 t (ix2 k j)) l = Spec.before (X m c) (gv m c) (wv m c) d n l := by
  rw [Spec.before, if_neg hn, gain, proj, e]
  exact congrArg (Spec.convZ · _ _ l) (row m c t q hq inb r)

theorem piece1 (c : Dev nD) (t : Fin cfg0.N) (r : Fin 128) (l : Fin 512) :
    k0_pay16 (iblk m c 3 t) (k0_pay8 (k0_pay4 (L0 m c t) (iblk m c 1 t) (iblk m c 2 t)))
      (k0_pay9 (k0_pay4 (L0 m c t) (iblk m c 1 t) (iblk m c 2 t))) (k0_pay11 (L1 m c t) (iblk m c 1 t)) (iblk m c 2 t) (ix2 r l)
      = Spec.convRow (X m c) (gv m c) (wv m c) (cv m c) (512 * t.val + 128 + r.val) l := by
  refine (tile1 _ _ _ _ _ _ r l).trans (at_tile m c t 128 (by omega) (by omega) _ _ _ (fun l => ?_) (fun l => ?_) r l)
  · exact (last0_1 _ _ _ l).trans (before_of m c t 0 (by omega) _ 127 1 _ l (by omega) (by show _ = 512 * t.val + 0 + 127; omega))
  · exact (last0_2 _ _ _ l).trans (before_of m c t 0 (by omega) _ 126 2 _ l (by omega) (by show _ = 512 * t.val + 0 + 126; omega))

theorem piece2 (c : Dev nD) (t : Fin cfg0.N) (r : Fin 128) (l : Fin 512) :
    k0_pay26 (iblk m c 3 t) (k0_pay18 (L2 m c t) (iblk m c 1 t) (iblk m c 2 t)) (k0_pay19 (L2 m c t) (iblk m c 1 t) (iblk m c 2 t))
      (k0_pay20 (k0_pay14 (k0_pay11 (L1 m c t) (iblk m c 1 t)) (iblk m c 2 t)) (L2 m c t) (iblk m c 1 t) (iblk m c 2 t))
      (k0_pay21 (k0_pay15 (k0_pay11 (L1 m c t) (iblk m c 1 t)) (iblk m c 2 t)) (L2 m c t) (iblk m c 1 t) (iblk m c 2 t))
      k0_pay22 (k0_pay23 (k0_pay14 (k0_pay11 (L1 m c t) (iblk m c 1 t)) (iblk m c 2 t))) (ix2 r l)
      = Spec.convRow (X m c) (gv m c) (wv m c) (cv m c) (512 * t.val + 256 + r.val) l := by
  refine (tile2 _ _ _ _ _ _ r l).trans (at_tile m c t 256 (by omega) (by omega) _ _ _ (fun l => ?_) (fun l => ?_) r l)
  · exact (last1_1 _ _ _ l).trans (before_of m c t 128 (by omega) _ 127 1 _ l (by omega) (by show _ = 512 * t.val + 128 + 127; omega))
  · exact (last1_2 _ _ _ l).trans (before_of m c t 128 (by omega) _ 126 2 _ l (by omega) (by show _ = 512 * t.val + 128 + 126; omega))

theorem piece3 (c : Dev nD) (t : Fin cfg0.N) (r : Fin 128) (l : Fin 512) :
    k0_pay32 (iblk m c 3 t) (k0_pay24 (k0_pay19 (L2 m c t) (iblk m c 1 t) (iblk m c 2 t)))
      (k0_pay25 (k0_pay19 (L2 m c t) (iblk m c 1 t) (iblk m c 2 t))) (k0_pay28 (L3 m c t) (iblk m c 1 t) (iblk m c 2 t))
      (k0_pay29 (L3 m c t) (iblk m c 1 t) (iblk m c 2 t)) (k0_pay30 (L3 m c t) (iblk m c 1 t) (iblk m c 2 t)) k0_pay31 (ix2 r l)
      = Spec.convRow (X m c) (gv m c) (wv m c) (cv m c) (512 * t.val + 384 + r.val) l := by
  refine (tile3 _ _ _ _ _ _ r l).trans (at_tile m c t 384 (by omega) (by omega) _ _ _ (fun l => ?_) (fun l => ?_) r l)
  · exact (last2_1 _ _ _ l).trans (before_of m c t 256 (by omega) _ 127 1 _ l (by omega) (by show _ = 512 * t.val + 256 + 127; omega))
  · exact (last2_2 _ _ _ l).trans (before_of m c t 256 (by omega) _ 126 2 _ l (by omega) (by show _ = 512 * t.val + 256 + 126; omega))

/-- The first tile, from the two rows before it. -/
theorem piece0 (c : Dev nD) (t : Fin cfg0.N) (h1 h2 : Vec Ideal S1x512 .f32)
    (e1 : ∀ l, h1 (ix2 0 l) = Spec.before (X m c) (gv m c) (wv m c) 1 (512 * t.val) l)
    (e2 : ∀ l, h2 (ix2 0 l) = Spec.before (X m c) (gv m c) (wv m c) 2 (512 * t.val) l) (r : Fin 128) (l : Fin 512) :
    k0_pay10 (iblk m c 3 t) h1 h2 (k0_pay3 (L0 m c t) (iblk m c 1 t) (iblk m c 2 t)) (k0_pay4 (L0 m c t) (iblk m c 1 t) (iblk m c 2 t))
      (k0_pay5 (L0 m c t) (iblk m c 1 t) (iblk m c 2 t)) k0_pay6 (k0_pay7 h1) (ix2 r l)
      = Spec.convRow (X m c) (gv m c) (wv m c) (cv m c) (512 * t.val + r.val) l :=
  (tile0 _ _ _ _ _ _ r l).trans (at_tile m c t 0 (by omega) (by omega) _ _ _ e1 e2 r l)

/-- What point `t` leaves in its block of the result: the convolution at its 512 rows. -/
theorem out (c : Dev nD) (t : Fin cfg0.N) (r : Fin 512) (l : Fin 512) :
    (outsAt0 m c t.val t.isLt).1 (ix2 r l) = Spec.convRow (X m c) (gv m c) (wv m c) (cv m c) (512 * t.val + r.val) l := by
  have ht : t.val < 64 := lt_of_lt_of_eq t.isLt N_0
  by_cases h : t.val % 4 = 0
  · have hb : 512 * t.val % 2048 < 1 := by omega
    rw [outsAt0_A m c t h]
    frame_out
    clear h
    canon_tiles x h
    case piece0 =>
      idx_vars x
      have e : r.val = 384 + x0.val := h0
      have e' : l = x1 := Fin.ext h1
      rw [e, e', ← Nat.add_assoc]
      exact piece3 m c t x0 x1
    case piece1 =>
      idx_vars x
      have e : r.val = 256 + x0.val := h0
      have e' : l = x1 := Fin.ext h1
      rw [e, e', ← Nat.add_assoc]
      exact piece2 m c t x0 x1
    case piece2 =>
      idx_vars x
      have e : r.val = 128 + x0.val := h0
      have e' : l = x1 := Fin.ext h1
      rw [e, e', ← Nat.add_assoc]
      exact piece1 m c t x0 x1
    case piece3 =>
      idx_vars x
      have e : r.val = x0.val := h0
      have e' : l = x1 := Fin.ext h1
      rw [e, e']
      refine piece0 m c t _ _ (fun l => ?_) (fun l => ?_) x0 x1
      · rw [Spec.before, if_pos hb, View.readCov_fill _ _ _ _ _ (by decide), ld_row _ _ (by omega)]
        pointwise [k0_pay1]
      · rw [Spec.before, if_pos (by omega), View.readCov_fill _ _ _ _ _ (by decide), ld_row _ _ (by omega)]
        pointwise [k0_pay1]
  · have hb : ¬ 512 * t.val % 2048 < 1 := by omega
    have hb' : ¬ 512 * t.val % 2048 < 2 := by omega
    have hs := scratch m c ⟨t.val - 1, by omega⟩
    rw [outsAt0_B m c t h]
    frame_out
    have hp : 1 ≤ t.val := by omega
    clear h
    canon_tiles x h
    case piece0 =>
      idx_vars x
      have e : r.val = 384 + x0.val := h0
      have e' : l = x1 := Fin.ext h1
      rw [e, e', ← Nat.add_assoc]
      exact piece3 m c t x0 x1
    case piece1 =>
      idx_vars x
      have e : r.val = 256 + x0.val := h0
      have e' : l = x1 := Fin.ext h1
      rw [e, e', ← Nat.add_assoc]
      exact piece2 m c t x0 x1
    case piece2 =>
      idx_vars x
      have e : r.val = 128 + x0.val := h0
      have e' : l = x1 := Fin.ext h1
      rw [e, e', ← Nat.add_assoc]
      exact piece1 m c t x0 x1
    case piece3 =>
      idx_vars x
      have e : r.val = x0.val := h0
      have e' : l = x1 := Fin.ext h1
      rw [e, e']
      simp only [read_unread_whole]
      refine piece0 m c t _ _ (fun l => ?_) (fun l => ?_) x0 x1
      · rw [Spec.before, if_neg hb, show 512 * t.val - 1 = 512 * (t.val - 1) + 510 + 1 by omega]
        exact (ld_row _ 1 (by omega) _ l).trans (hs 1 l)
      · rw [Spec.before, if_neg hb', show 512 * t.val - 2 = 512 * (t.val - 1) + 510 + 0 by omega]
        exact (ld_row _ 0 (by omega) _ l).trans (hs 0 l)

/-- What point `t` leaves in the state's block: the convolved values of its last two rows. -/
theorem state (c : Dev nD) (t : Fin cfg0.N) (j : Fin 2) (l : Fin 512) :
    (outsAt0 m c t.val t.isLt).2.1 (ix3 0 j l) = Spec.convZ (X m c (512 * t.val + 510 + j.val)) (gv m c) (wv m c) l := by
  have e : 512 * t.val + 510 + j.val = 512 * t.val + 384 + (126 + j.val) := by omega
  rw [e, ← gain m c t, ← proj m c t]
  have hk := keep_state (L3 m c t) (iblk m c 1 t) (iblk m c 2 t) j l
  refine Eq.trans ?_ (hk.trans (congrArg (Spec.convZ · _ _ l) (row m c t 384 (by omega) _ _)))
  by_cases h : t.val % 4 = 0
  · rw [outsAt0_A m c t h]
    frame_out
    rfl
  · rw [outsAt0_B m c t h]
    frame_out
    rfl

/-- The convolution as one array. -/
def G (c : Dev nD) : Vec Ideal S32768x512 .f32 := fun i => Spec.convRow (X m c) (gv m c) (wv m c) (cv m c) (i 0).val (i 1)

/-- The state as one array: of each sequence the convolved values of its last two positions. -/
def S (c : Dev nD) : Vec Ideal S16x2x512 .f32 := fun i =>
  Spec.convZ (X m c (2048 * (i 0).val + 2046 + (i 1).val)) (gv m c) (wv m c) (i 2)

theorem final (c : Dev nD) : (dats m 0 c).arrAt 4 cfg0.N = G m c := by
  refine (dats m 0 c).arrAt_eq_of_covers 4 _ (by decide +kernel) fun t hf y => ?_
  blk_simp
  rw [after0_4]
  idx_vars y
  refine (out m c t y0 y1).trans ?_
  simp only [G]
  have e0 : (((View.whole main_v2_0).slice (win0_4.rect t)).emb (ix2 y0 y1) 0).val = 512 * t.val + y0.val := by
    blk_simp [idx t] <;> omega
  have e1 : ((View.whole main_v2_0).slice (win0_4.rect t)).emb (ix2 y0 y1) 1 = y1 := Fin.ext (by blk_simp [idx t] <;> omega)
  rw [e0, e1]

theorem flush : ∀ t : Fin cfg0.N, (cfg0.win 5).flush t = true → t.val % 4 = 3 := by
  decide +kernel

theorem final_state (c : Dev nD) : (dats m 0 c).arrAt 5 cfg0.N = S m c := by
  refine (dats m 0 c).arrAt_eq_of_covers 5 _ (by decide +kernel) fun t hf y => ?_
  have h3 := flush t hf
  blk_simp
  rw [after0_5]
  idx_vars y
  have hy : y0 = 0 := Subsingleton.elim _ _
  subst hy
  refine (state m c t y1 y2).trans ?_
  simp only [S]
  have e0 : (((View.whole main_v2_1).slice (win0_5.rect t)).emb (ix3 0 y1 y2) 0).val = t.val / 4 := by
    blk_simp [idx t] <;> omega
  have e1 : (((View.whole main_v2_1).slice (win0_5.rect t)).emb (ix3 0 y1 y2) 1).val = y1.val := by
    blk_simp [idx t] <;> omega
  have e2 : ((View.whole main_v2_1).slice (win0_5.rect t)).emb (ix3 0 y1 y2) 2 = y2 := Fin.ext (by blk_simp [idx t] <;> omega)
  rw [e0, e1, e2, show 2048 * (t.val / 4) + 2046 + y1.val = 512 * t.val + 510 + y1.val by omega]

/-- The run: the two result arrays hold `G` and `S`, the arguments are unchanged. -/
theorem run : θ_run defs (onTc (τ := τ) (main (F := Ideal))) ⟨m, fun _ => 0, ρ⟩ fun r => ∀ c : Dev nD,
      r.2.mem ((c : Thread nD τ).loc main_v2_0) = G m c
      ∧ r.2.mem ((c : Thread nD τ).loc main_v2_1) = S m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2.1.trans (final_state m c), (h c).2.2⟩) (Value.run_blocks m ρ)

end Cert.ConvKernelIdeal.Conv

namespace Cert

/-- The kernel and the reference compute one function of the arguments, both the convolution and the state. -/
theorem conv_algebraic : Cert.algebraic_ConvKernelIdeal_ConvReferenceIdeal := by
  intro m ρ m' ρ' _ hagree
  refine ⟨fun c => ConvKernelIdeal.Conv.G m c, fun c => ConvKernelIdeal.Conv.S m c, ?_, ?_⟩
  · exact (θ_run _ _ _).mono (fun _ h c => h c) (ConvKernelIdeal.Conv.run m ρ)
  · refine (θ_run ConvReferenceIdeal.defs _ _).mono (fun _ h c => ⟨(h c).1.trans ?_, (h c).2.1.trans ?_, (h c).2.2⟩)
      (ConvReferenceIdeal.Value.run (F := Ideal) m' ρ')
    · obtain ⟨h0, h1, h2, h3⟩ := hagree c
      rw [ConvReferenceIdeal.Read.val_main_v43_eq, h0, h1, h2, h3]
      funext i
      idx_vars i
      exact ConvReferenceIdeal.Conv.value _ _ _ _ i0 i1
    · obtain ⟨h0, h1, h2, h3⟩ := hagree c
      refine (ConvReferenceIdeal.Read.val_main_v42_eq _ _ _).trans ?_
      rw [h0, h1, h2]
      funext i
      idx_vars i
      exact ConvReferenceIdeal.Conv.state _ _ _ i0 i1 i2

/-- The reference changes no argument and leaves no semaphore raised. -/
theorem conv_reference_frame : Cert.quiescent_ConvReferenceIdeal := by
  intro m ρ _
  exact (θ_run ConvReferenceIdeal.defs _ _).mono (fun r h => ⟨fun c => (h c).2.2,
    Idealize.ShloMosaic.sem_eq_zero_of_no_sems (by decide) r.2⟩) (ConvReferenceIdeal.Value.run (F := Ideal) m ρ)

end Cert

end
-- ==== Proof.Heads.lean ====
/-
  Sums over a head of 64 lanes, and the layer's norm over one head. A product with the array that is 1 where two lanes lie in the
  same head and 0 elsewhere is the sum over the head. The norm subtracts the head's mean and divides by the root of its variance;
  the mean may be taken of the values and of their remainders `o - o` added, also where a value is infinite: then both
  norms are 0. Nothing here is about the programs.
-/
module

public import proofs.«01_k».proof.Proof.Spec
public import Idealize.ShloMosaic.Lib.Pointwise

@[expose] public section

noncomputable section

namespace Cert.Spec

open Idealize.ShloMosaic

/-- The lanes of the head lane `j` lies in. -/
def head (o : Fin 512 → EReal) (j : Fin 512) (d : Fin 64) : EReal := o ⟨64 * (j.val / 64) + d.val, by omega⟩

/-- 1 where two lanes lie in one head, else 0. -/
def same (k j : ℕ) : EReal := if k / 64 = j / 64 then 1 else 0

/-- A sum weighted by `same` is the sum over the head. -/
theorem sum_heads (n : ℕ) (f : Fin (n * 64) → EReal) (j : Fin (n * 64)) :
    ∑ k, f k * same k j = ∑ d : Fin 64, f ⟨64 * (j.val / 64) + d.val, by omega⟩ := by
  rw [← (finProdFinEquiv (m := n) (n := 64)).sum_comp, Fintype.sum_prod_type,
    Finset.sum_eq_single (⟨j.val / 64, by omega⟩ : Fin n)]
  · refine Finset.sum_congr rfl fun d _ => ?_
    have e : finProdFinEquiv ((⟨j.val / 64, by omega⟩ : Fin n), d) = (⟨64 * (j.val / 64) + d.val, by omega⟩ : Fin (n * 64)) :=
      Fin.ext (by simp [finProdFinEquiv]; omega)
    rw [e, same, if_pos (by simp only []; omega), mul_one]
  · intro h _ hne
    refine Finset.sum_eq_zero fun d _ => ?_
    rw [same, if_neg, mul_zero]
    intro he
    apply hne
    apply Fin.ext
    simp only [finProdFinEquiv, Equiv.coe_fn_mk] at he
    simp only []
    omega
  · intro h
    exact absurd (Finset.mem_univ _) h

theorem sum_head (f : Fin 512 → EReal) (j : Fin 512) : ∑ k, f k * same k j = ∑ d, head f j d :=
  sum_heads 8 f j

/-- The constants 64 and 1/64. -/
theorem c64 : Ideal.ofBits FTy.f32 1115684864#32 = ((64 : ℝ) : EReal) := by
  simp [Ideal.ofBits, Ideal.ieee, -EReal.coe_mul]; norm_num

theorem c64inv : Ideal.ofBits FTy.f32 1015021568#32 = ((1 / 64 : ℝ) : EReal) := by
  simp [Ideal.ofBits, Ideal.ieee, -EReal.coe_mul]; norm_num

theorem div64 (x : EReal) : Ideal.div x (Ideal.ofBits FTy.f32 1115684864#32) = x * Ideal.ofBits FTy.f32 1015021568#32 := by
  rw [c64, c64inv]
  exact Ideal.div_coe (by norm_num) x

/-- The head norm's constant, 6.4e-4 in binary32, is a real number. -/
theorem cEps : ∃ e : ℝ, Ideal.ofBits FTy.f32 975685036#32 = (e : EReal) := by
  refine ⟨(Ideal.ofBits FTy.f32 975685036#32).toReal, ?_⟩
  symm
  apply EReal.coe_toReal <;> simp [Ideal.ofBits, Ideal.ieee, -EReal.coe_mul]

/-- A head with the number `μ` subtracted, and divided by the root of the mean square of that plus 6.4e-4. -/
def normAt (h : Fin 64 → EReal) (μ : EReal) (d : Fin 64) : EReal :=
  (h d - μ) * Ideal.rsqrt (Ideal.div (∑ e, (h e - μ) * (h e - μ)) (Ideal.ofBits FTy.f32 1115684864#32) + Ideal.ofBits FTy.f32 975685036#32)

/-- The mean of a head. -/
def mean (h : Fin 64 → EReal) : EReal := Ideal.div (∑ d, h d) (Ideal.ofBits FTy.f32 1115684864#32)

/-- The mean taken of the values and their remainders. -/
def mean2 (h : Fin 64 → EReal) : EReal := Ideal.div ((∑ d, h d) + ∑ d, (h d - h d)) (Ideal.ofBits FTy.f32 1115684864#32)

theorem sum_bot (h : Fin 64 → EReal) (d : Fin 64) (e : h d = ⊥) : ∑ i, h i = ⊥ := by
  rw [← Finset.add_sum_erase _ _ (Finset.mem_univ d), e, EReal.bot_add]

theorem sum_top (h : Fin 64 → EReal) (d : Fin 64) (e : h d = ⊤) (nb : ∀ i, h i ≠ ⊥) : ∑ i, h i = ⊤ := by
  rw [← Finset.add_sum_erase _ _ (Finset.mem_univ d), e]
  apply EReal.top_add_of_ne_bot
  refine Finset.sum_induction (s := Finset.univ.erase d) h (fun x => x ≠ ⊥) (fun a b ha hb => ?_) (by simp) (fun i _ => nb i)
  simp [EReal.add_eq_bot_iff, ha, hb]

theorem inf_mul_c (x : EReal) (h : x = ⊤ ∨ x = ⊥) :
    Ideal.div x (Ideal.ofBits FTy.f32 1115684864#32) = ⊤ ∨ Ideal.div x (Ideal.ofBits FTy.f32 1115684864#32) = ⊥ := by
  rw [div64, c64inv]
  rcases h with h | h <;> rw [h]
  · exact .inl (EReal.top_mul_coe_of_pos (by norm_num))
  · exact .inr (EReal.bot_mul_coe_of_pos (by norm_num))

/-- With an infinite number subtracted the norm is 0. -/
theorem normAt_inf (h : Fin 64 → EReal) (μ : EReal) (hμ : μ = ⊤ ∨ μ = ⊥) (d : Fin 64) : normAt h μ d = 0 := by
  have hc : ∀ e, h e - μ = ⊤ ∨ h e - μ = ⊥ := by
    intro e
    rcases hμ with hμ | hμ <;> rw [hμ, sub_eq_add_neg]
    · right; simp
    · by_cases hb : h e = ⊥
      · right; simp [hb]
      · left; rw [EReal.neg_bot]; exact EReal.add_top_of_ne_bot hb
  have hs : ∀ e, (h e - μ) * (h e - μ) = ⊤ := fun e => by
    rcases hc e with h | h <;> rw [h] <;> rfl
  obtain ⟨ε, hε⟩ := cEps
  unfold normAt
  rw [sum_top _ d (hs d) (fun i => by rw [hs i]; decide), div64, c64inv, EReal.top_mul_coe_of_pos (by norm_num), hε,
    EReal.top_add_coe]
  show _ * (0 : EReal) = 0
  rw [mul_zero]

/-- The two means give one norm. -/
theorem normAt_mean2 (h : Fin 64 → EReal) (d : Fin 64) : normAt h (mean2 h) d = normAt h (mean h) d := by
  by_cases hf : ∀ e, h e ≠ ⊤ ∧ h e ≠ ⊥
  · have e : mean2 h = mean h := by
      unfold mean2 mean
      rw [Finset.sum_eq_zero (f := fun d => h d - h d) (fun d _ => EReal.sub_self (hf d).1 (hf d).2), add_zero]
    rw [e]
  · have ⟨e, he⟩ : ∃ e, h e = ⊤ ∨ h e = ⊥ := by
      by_contra hn
      apply hf
      intro e
      exact ⟨fun h' => hn ⟨e, .inl h'⟩, fun h' => hn ⟨e, .inr h'⟩⟩
    rw [normAt_inf, normAt_inf]
    · apply inf_mul_c
      by_cases hb : ∃ i, h i = ⊥
      · obtain ⟨i, hi⟩ := hb
        exact .inr (sum_bot h i hi)
      · have nb : ∀ i, h i ≠ ⊥ := fun i hi => hb ⟨i, hi⟩
        exact .inl (sum_top h e (he.resolve_right (nb e)) nb)
    · apply inf_mul_c
      right
      rw [sum_bot (fun d => h d - h d) e (by rcases he with he | he <;> rw [he] <;> rfl), EReal.add_bot]

/-- The head norm of lane `j`. -/
def headNorm (o : Fin 512 → EReal) (j : Fin 512) : EReal := normAt (head o j) (mean (head o j)) ⟨j.val % 64, Nat.mod_lt _ (by decide)⟩

/-- The head norm from sums weighted by `same`, the means taken of values and remainders. -/
theorem headNorm_of_same (o : Fin 512 → EReal) (j : Fin 512) :
    (o j - ((∑ k, o k * same k j) + ∑ k, (o k - o k) * same k j) * Ideal.ofBits FTy.f32 1015021568#32)
      * Ideal.rsqrt ((∑ i, ((o i - ((∑ k, o k * same k i) + ∑ k, (o k - o k) * same k i) * Ideal.ofBits FTy.f32 1015021568#32)
            * (o i - ((∑ k, o k * same k i) + ∑ k, (o k - o k) * same k i) * Ideal.ofBits FTy.f32 1015021568#32)) * same i j)
          * Ideal.ofBits FTy.f32 1015021568#32 + Ideal.ofBits FTy.f32 975685036#32)
      = headNorm o j := by
  have em : ∀ i : Fin 512, ((∑ k, o k * same k i) + ∑ k, (o k - o k) * same k i) * Ideal.ofBits FTy.f32 1015021568#32 = mean2 (head o i) := by
    intro i
    rw [sum_head, sum_head (fun k => o k - o k), ← div64]
    rfl
  simp only [em]
  rw [sum_head (fun i => (o i - mean2 (head o i)) * (o i - mean2 (head o i))), ← div64, headNorm, ← normAt_mean2, normAt]
  have ej : head o j ⟨j.val % 64, Nat.mod_lt _ (by decide)⟩ = o j := congrArg o (Fin.ext (Nat.div_add_mod j.val 64))
  rw [ej]
  have eh : ∀ d : Fin 64, head o ⟨64 * (j.val / 64) + d.val, by omega⟩ = head o j := by
    intro d
    funext e
    exact congrArg o (Fin.ext (by simp only []; omega))
  simp only [head] at *
  simp only [eh]

end Cert.Spec

end
-- ==== Proof.Merge.lean ====
/-
  The branch merge: the three branches' outputs, gated and projected, added to the residual.
  The kernel's array: one grid point handles 512 rows, and each entry of its result is `Spec.mergeRow` of the row. The
  recurrent branch's output is kept position by position, a sequence's 512 lanes side by side: row `n` is position `n % 2048` of
  sequence `n / 2048`. The reference's array: the same function. No precondition.
-/
module

public import proofs.«01_k».proof.Defs
public import proofs.«01_k».proof.Proof.Gen.MergeKernelIdeal.Value
public import proofs.«01_k».proof.Proof.Gen.MergeReferenceIdeal.Read
public import proofs.«01_k».proof.Proof.Heads
public import proofs.«01_k».proof.Proof.ConvSpec
public import Idealize.ShloMosaic.Lib.Pointwise
public import Idealize.ShloMosaic.Lib.Pipeline.ValueKit
public import Idealize.ShloMosaic.Lib.Pipeline.FrameTail

@[expose] public section

set_option maxRecDepth 16384

noncomputable section

open Idealize.ShloMosaic Idealize.ShloMosaic.TcCoe Idealize.SL.Sem

namespace Cert.Spec

/-- The recurrent branch's output row: the head norm scaled and shifted, with the bonus, times the gate. -/
def branchA (o bonus gate lnw lnb : Fin 512 → EReal) (j : Fin 512) : EReal :=
  (headNorm o j * lnw j + lnb j + bonus j) * gate j

/-- Column `j` of a row's gates. -/
def gateCol (x g : Fin 1024 → EReal) (wg : Fin 1024 → Fin 3072 → EReal) (j : Fin 3072) : EReal :=
  Ideal.logistic (∑ k, rms x g k * wg k j)

/-- Entry `l` of a merged row. -/
def mergeRow (x g : Fin 1024 → EReal) (wg : Fin 1024 → Fin 3072 → EReal) (oa ob oc : Fin 512 → EReal)
    (pa pb pc : Fin 512 → Fin 1024 → EReal) (wo : Fin 1024 → Fin 1024 → EReal) (l : Fin 1024) : EReal :=
  x l + ∑ k : Fin 1024, (gateCol x g wg ⟨k, by omega⟩ * (∑ j, oa j * pa j k) + gateCol x g wg ⟨1024 + k, by omega⟩ * (∑ j, ob j * pb j k)
    + gateCol x g wg ⟨2048 + k, by omega⟩ * (∑ j, oc j * pc j k)) * wo k l

end Cert.Spec

namespace Cert.MergeKernelIdeal.Merge

open Cert.MergeKernelIdeal Cert.MergeKernelIdeal.Gen

/-- One block, the head norm. -/
theorem norm (bd : Vec Ideal S512x512 .bf16) (hbd : ∀ k j : Fin 512, bd (ix2 k j) = Spec.same k j) (o : Vec Ideal S512x512 .f32)
    (r j : Fin 512) :
    (k0_pay4 bd o (ix2 r j) : EReal) * Ideal.rsqrt ((k0_pay5 bd o (ix2 r j) : EReal) + Ideal.ofBits FTy.f32 975685036#32)
      = Spec.headNorm (fun k => o (ix2 r k)) j := by
  rw [← Spec.headNorm_of_same]
  pointwise [k0_pay3, k0_pay4, k0_pay5]
  simp only [hbd]

/-- One block: at row `r` and column `l` it is the merged row. -/
theorem block (x : Vec Ideal S512x1024 .f32) (g : Vec Ideal S1x1024 .f32) (wg : Vec Ideal S1024x3072 .bf16)
    (o bonus gate : Vec Ideal S512x512 .f32) (lnw lnb : Vec Ideal S1x512 .f32) (bd : Vec Ideal S512x512 .bf16)
    (ob oc : Vec Ideal S512x512 .f32) (pa pb pc : Vec Ideal S512x1024 .bf16) (wo : Vec Ideal S1024x1024 .bf16)
    (hbd : ∀ k j : Fin 512, bd (ix2 k j) = Spec.same k j) (r : Fin 512) (l : Fin 1024) :
    out0_15 x g wg o bonus gate lnw lnb bd ob oc pa pb pc wo (ix2 r l)
      = Spec.mergeRow (fun k => x (ix2 r k)) (fun k => g (ix2 0 k)) (fun k j => wg (ix2 k j))
          (Spec.branchA (fun k => o (ix2 r k)) (fun k => bonus (ix2 r k)) (fun k => gate (ix2 r k)) (fun k => lnw (ix2 0 k)) (fun k => lnb (ix2 0 k)))
          (fun k => ob (ix2 r k)) (fun k => oc (ix2 r k)) (fun k j => pa (ix2 k j)) (fun k j => pb (ix2 k j)) (fun k j => pc (ix2 k j))
          (fun k j => wo (ix2 k j)) l := by
  unfold out0_15
  frame_out
  pointwise [k0_pay1, k0_pay2, k0_pay6]
  simp only [norm bd hbd]
  rfl

variable (m : (ℓ : Loc nD τ sig) → Buf (Elt Ideal) ℓ) (ρ : Dev nD → PrngReg)

/-- The result array as a function of device `c`'s arguments. -/
def G (c : Dev nD) : Vec Ideal S32768x1024 .f32 := fun i =>
  have h : (i 0).val < 32768 := (i 0).isLt
  Spec.mergeRow (fun k => m ((c : Thread nD τ).loc main_arg0) (ix2 (i 0) k)) (fun k => m ((c : Thread nD τ).loc main_arg1) (ix1 k))
    (fun k j => m ((c : Thread nD τ).loc main_arg2) (ix2 k j))
    (Spec.branchA (fun k => m ((c : Thread nD τ).loc main_arg3) (ix2 (⟨(i 0).val % 2048, by omega⟩ : Fin 2048) (⟨(i 0).val / 2048 * 512 + k.val, by omega⟩ : Fin 8192)))
      (fun k => m ((c : Thread nD τ).loc main_arg4) (ix2 (i 0) k)) (fun k => m ((c : Thread nD τ).loc main_arg5) (ix2 (i 0) k))
      (fun k => m ((c : Thread nD τ).loc main_arg6) (ix1 k)) (fun k => m ((c : Thread nD τ).loc main_arg7) (ix1 k)))
    (fun k => m ((c : Thread nD τ).loc main_arg8) (ix2 (i 0) k)) (fun k => m ((c : Thread nD τ).loc main_arg9) (ix2 (i 0) k))
    (fun k j => m ((c : Thread nD τ).loc main_arg10) (ix2 k j)) (fun k j => m ((c : Thread nD τ).loc main_arg11) (ix2 k j))
    (fun k j => m ((c : Thread nD τ).loc main_arg12) (ix2 k j)) (fun k j => m ((c : Thread nD τ).loc main_arg13) (ix2 k j)) (i 1)

theorem idx : ∀ t : Fin cfg0.N, win0_0.index t = ![t.val, 0] ∧ win0_1.index t = ![0, 0] ∧ win0_2.index t = ![0, 0]
    ∧ win0_3.index t = ![t.val % 4, t.val / 4] ∧ win0_4.index t = ![t.val, 0] ∧ win0_5.index t = ![t.val, 0] ∧ win0_6.index t = ![0, 0]
    ∧ win0_7.index t = ![0, 0] ∧ win0_8.index t = ![0, 0] ∧ win0_9.index t = ![t.val, 0] ∧ win0_10.index t = ![t.val, 0]
    ∧ win0_11.index t = ![0, 0] ∧ win0_12.index t = ![0, 0] ∧ win0_13.index t = ![0, 0] ∧ win0_14.index t = ![0, 0]
    ∧ win0_15.index t = ![t.val, 0] := by
  decide +kernel

/-- A row vector argument as the kernel is given it. -/
theorem row0 (c : Dev nD) (t : Fin cfg0.N) (x : Fin 1024) :
    V m c main_v0 ((win0_1.blk t).view.emb (ix2 0 x)) = m ((c : Thread nD τ).loc main_arg1) (ix1 x) := by
  have e : (win0_1.blk t).view.emb (ix2 0 x) = ix2 0 x := by blk_ext [idx t]
  rw [e]
  show StableHlo.after (List.flatten [hostOps0, hostOps0_1, hostOps0_2]) (fun b => m (c, b)) (Proc.devRef .tc main_v0) (ix2 0 x) = _
  simp only [hostOps0, hostOps0_1, hostOps0_2, List.flatten_cons, List.flatten_nil, List.append_nil, List.cons_append, List.nil_append]
  after_region_results
  pointwise

/-- A row vector argument as the kernel is given it. -/
theorem row2 (c : Dev nD) (t : Fin cfg0.N) (x : Fin 512) :
    V m c main_v2 ((win0_6.blk t).view.emb (ix2 0 x)) = m ((c : Thread nD τ).loc main_arg6) (ix1 x) := by
  have e : (win0_6.blk t).view.emb (ix2 0 x) = ix2 0 x := by blk_ext [idx t]
  rw [e]
  show StableHlo.after (List.flatten [hostOps0, hostOps0_1, hostOps0_2]) (fun b => m (c, b)) (Proc.devRef .tc main_v2) (ix2 0 x) = _
  simp only [hostOps0, hostOps0_1, hostOps0_2, List.flatten_cons, List.flatten_nil, List.append_nil, List.cons_append, List.nil_append]
  after_region_results
  pointwise

/-- A row vector argument as the kernel is given it. -/
theorem row3 (c : Dev nD) (t : Fin cfg0.N) (x : Fin 512) :
    V m c main_v3 ((win0_7.blk t).view.emb (ix2 0 x)) = m ((c : Thread nD τ).loc main_arg7) (ix1 x) := by
  have e : (win0_7.blk t).view.emb (ix2 0 x) = ix2 0 x := by blk_ext [idx t]
  rw [e]
  show StableHlo.after (List.flatten [hostOps0, hostOps0_1, hostOps0_2]) (fun b => m (c, b)) (Proc.devRef .tc main_v3) (ix2 0 x) = _
  simp only [hostOps0, hostOps0_1, hostOps0_2, List.flatten_cons, List.flatten_nil, List.append_nil, List.cons_append, List.nil_append]
  after_region_results
  pointwise

/-- The mask the kernel is given is 1 within a head and 0 elsewhere. -/
theorem mask (c : Dev nD) (t : Fin cfg0.N) (k j : Fin 512) : (iblk m c 8 t : Vec Ideal S512x512 .bf16) (ix2 k j) = Spec.same k j := by
  show V m c main_v12 ((win0_8.blk t).view.emb (ix2 k j)) = _
  have e : (win0_8.blk t).view.emb (ix2 k j) = ix2 k j := by blk_ext [idx t]
  rw [e]
  show StableHlo.after (List.flatten [hostOps0, hostOps0_1, hostOps0_2]) (fun b => m (c, b)) (Proc.devRef .tc main_v12) (ix2 k j) = _
  simp only [hostOps0, hostOps0_1, hostOps0_2, List.flatten_cons, List.flatten_nil, List.append_nil, List.cons_append, List.nil_append]
  after_region_results
  change (select (cmpi CmpIPredicate.eq
      (broadcastInDim S512x512 ![0, 1] bcast_S512x1_S512x512_0_1 (broadcastInDim S512x1 ![0] bcast_S512_S512x1_0
        (shapeCast S512 (iotaInDim S8x64 32 0) shapeCasts_S8x64_S512)))
      (broadcastInDim S512x512 ![0, 1] bcast_S1x512_S512x512_0_1 (broadcastInDim S1x512 ![1] bcast_S512_S1x512_1
        (shapeCast S512 (iotaInDim S8x64 32 0) shapeCasts_S8x64_S512))))
    (broadcastInDim S512x512 ![] bcast_S_S512x512 (constant S_ .f32 0x3F800000#32))
    (broadcastInDim S512x512 ![] bcast_S_S512x512 (constant S_ .f32 0x00000000#32)) : FVec Ideal S512x512 .f32) (ix2 k j) = _
  pointwise
  rw [Spec.select_row _ _ (by omega) (by omega)]
  rfl

/-- After the run the result array is `G`. -/
theorem final (c : Dev nD) : (dats m 0 c).arrAt 15 cfg0.N = G m c := by
  refine (dats m 0 c).arrAt_eq_of_covers 15 _ (by decide +kernel) fun t hf y => ?_
  blk_simp
  rw [after0_15]
  idx_vars y
  rw [block _ _ _ _ _ _ _ _ _ _ _ _ _ _ _ (mask m c t)]
  simp only [G, Spec.mergeRow, Spec.gateCol, Spec.branchA, Spec.headNorm, Spec.normAt, Spec.mean, Spec.head, Spec.rms]
  blk_point [iblk, V, idx t]
  · exact row0 m c t _
  · exact row2 m c t _
  · exact row3 m c t _

/-- The run: the result array holds `G`, the arguments are unchanged. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨(h c).1.trans (final m c), (h c).2⟩) (Value.run_blocks m ρ)

end Cert.MergeKernelIdeal.Merge

namespace Cert.MergeReferenceIdeal.Merge

open Cert.MergeReferenceIdeal Cert.MergeReferenceIdeal.Gen Cert.MergeReferenceIdeal.Read

/-- The reference's array at row `r`, column `l`. -/
theorem value (x : Vec Ideal S32768x1024 .f32) (g : Vec Ideal S1024 .f32) (wg : Vec Ideal S1024x3072 .f32) (o : Vec Ideal S2048x8192 .f32)
    (bonus gate : Vec Ideal S32768x512 .f32) (lnw lnb : Vec Ideal S512 .f32) (ob oc : Vec Ideal S32768x512 .f32)
    (pa pb pc : Vec Ideal S512x1024 .f32) (wo : Vec Ideal S1024x1024 .f32) (r : Fin 32768) (l : Fin 1024) :
    val_main_v65 (F := Ideal) x g wg o bonus gate lnw lnb ob oc pa pb pc wo (ix2 r l)
      = Spec.mergeRow (fun k => x (ix2 r k)) (fun k => g (ix1 k)) (fun k j => wg (ix2 k j))
          (Spec.branchA (fun k => o (ix2 (⟨r.val % 2048, by omega⟩ : Fin 2048) (⟨r.val / 2048 * 512 + k.val, by omega⟩ : Fin 8192)))
            (fun k => bonus (ix2 r k)) (fun k => gate (ix2 r k)) (fun k => lnw (ix1 k)) (fun k => lnb (ix1 k)))
          (fun k => ob (ix2 r k)) (fun k => oc (ix2 r k)) (fun k j => pa (ix2 k j)) (fun k j => pb (ix2 k j)) (fun k j => pc (ix2 k j))
          (fun k j => wo (ix2 k j)) l := by
  have e : ∀ (l : Fin 512) (d : Fin 64) (h : r.val / 2048 * 512 + l.val / 64 * 64 + d.val < 8192),
      o (ix2 (⟨r.val % 2048, by omega⟩ : Fin 2048) (⟨r.val / 2048 * 512 + l.val / 64 * 64 + d.val, h⟩ : Fin 8192))
        = Spec.head (fun k => o (ix2 (⟨r.val % 2048, by omega⟩ : Fin 2048) (⟨r.val / 2048 * 512 + k.val, by omega⟩ : Fin 8192))) l d :=
    fun l d h => congrArg (fun q => o (ix2 (⟨r.val % 2048, by omega⟩ : Fin 2048) q)) (Fin.ext (by simp only []; omega))
  have e' : ∀ (l : Fin 512) (h : r.val / 2048 * 512 + l.val / 64 * 64 + l.val % 64 < 8192),
      o (ix2 (⟨r.val % 2048, by omega⟩ : Fin 2048) (⟨r.val / 2048 * 512 + l.val / 64 * 64 + l.val % 64, h⟩ : Fin 8192))
        = Spec.head (fun k => o (ix2 (⟨r.val % 2048, by omega⟩ : Fin 2048) (⟨r.val / 2048 * 512 + k.val, by omega⟩ : Fin 8192))) l
            ⟨l.val % 64, Nat.mod_lt _ (by decide)⟩ :=
    fun l h => e l ⟨l.val % 64, Nat.mod_lt _ (by decide)⟩ h
  simp only [val_main_v65, val_main_v64, val_main_v63, val_main_v62, val_main_v61, val_main_v60, val_main_v59, val_main_v58,
    val_main_v57, val_main_v56, val_main_v55, val_main_v54, val_main_v53, val_main_v52, val_main_v51, val_main_v50,
    val_main_v49, val_main_v48, val_main_v47, val_main_cst_8, val_main_v46, val_main_v45, val_main_cst_7, val_main_v44,
    val_main_v43, val_main_v42, val_main_v41, val_main_v40, val_main_v39, val_main_v38, val_main_v37, val_main_v36,
    val_main_v35, val_main_v34, val_main_cst_6, val_main_v33, val_main_v32, val_main_cst_5, val_main_v31, val_main_v30,
    val_main_cst_4, val_main_v29, val_main_v28, val_main_v27, val_main_v26, val_main_v25, val_main_v24, val_main_v23,
    val_main_v22, val_main_v21, val_main_v20, val_main_v19, val_main_v18, val_main_v17, val_main_v16, val_main_v15,
    val_main_cst_3, val_main_v14, val_main_v13, val_main_v12, val_main_v11, val_main_cst_2, val_main_v10, val_main_v9,
    val_main_cst_1, val_main_v8, val_main_v7, val_main_v6, val_main_v5, val_main_v4, val_main_cst_0, val_main_v3,
    val_main_v2, val_main_cst, val_main_v1, val_main_v0]
  pointwise
  simp only [e, e']
  rfl

end Cert.MergeReferenceIdeal.Merge

namespace Cert

/-- The kernel and the reference compute one function of the arguments. -/
theorem merge_algebraic : Cert.algebraic_MergeKernelIdeal_MergeReferenceIdeal := by
  intro m ρ m' ρ' _ hagree
  refine ⟨fun c => MergeKernelIdeal.Merge.G m c, ?_, ?_⟩
  · exact (θ_run _ _ _).mono (fun _ h c => h c) (MergeKernelIdeal.Merge.run m ρ)
  · refine (θ_run MergeReferenceIdeal.defs _ _).mono (fun _ h c => ⟨(h c).1.trans ?_, (h c).2⟩) (MergeReferenceIdeal.Value.run (F := Ideal) m' ρ')
    obtain ⟨h0, h1, h2, h3, h4, h5, h6, h7, h8, h9, h10, h11, h12, h13⟩ := hagree c
    rw [MergeReferenceIdeal.Read.val_main_v65_eq, h0, h1, h2, h3, h4, h5, h6, h7, h8, h9, h10, h11, h12, h13]
    funext i
    idx_vars i
    exact MergeReferenceIdeal.Merge.value _ _ _ _ _ _ _ _ _ _ _ _ _ _ i0 i1

/-- The reference changes no argument and leaves no semaphore raised. -/
theorem merge_reference_frame : Cert.quiescent_MergeReferenceIdeal := by
  intro m ρ _
  exact (θ_run MergeReferenceIdeal.defs _ _).mono (fun r h => ⟨fun c => (h c).2,
    Idealize.ShloMosaic.sem_eq_zero_of_no_sems (by decide) r.2⟩) (MergeReferenceIdeal.Value.run (F := Ideal) m ρ)

end Cert

end
-- ==== Proof.ProjSpec.lean ====
/-
  The attention projections of one row, over the extended reals: the projected row, the norm of each head of 64 lanes and the
  rotary embedding of each head's first 16 lanes. A lane is a natural number here; a lane past the projection's 1608
  columns holds 0. Nothing here is about the programs.
-/
module

public import proofs.«01_k».proof.Proof.Heads
public import Idealize.ShloMosaic.Lib.Pointwise

@[expose] public section

noncomputable section

namespace Cert.Spec

open Idealize.ShloMosaic

/-- Column `n` of the projected row. -/
def proj (x g : Fin 1024 → EReal) (w : Fin 1024 → Fin 1608 → EReal) (n : ℕ) : EReal :=
  if h : n < 1608 then ∑ k, rms x g k * w k ⟨n, h⟩ else 0

/-- Lane `n`, normalised over its head of 64 lanes, times its gain. -/
def hnorm (u : ℕ → EReal) (q : Fin 64 → EReal) (n : ℕ) : EReal :=
  u n * Ideal.rsqrt (Ideal.div (∑ d : Fin 64, u (n / 64 * 64 + d.val) * u (n / 64 * 64 + d.val)) (Ideal.ofBits FTy.f32 1115684864#32)
    + Ideal.ofBits FTy.f32 897988541#32) * q ⟨n % 64, Nat.mod_lt _ (by decide)⟩

/-- The angle of pair `i` at position `p`. -/
def ang (p i : ℕ) : EReal :=
  FloatOps.sitofp (F := Ideal) FTy.f32 (BitVec.ofNat 32 p) * Ideal.pow (Ideal.ofBits FTy.f32 1223959552#32)
    (Ideal.div (-FloatOps.sitofp (F := Ideal) FTy.f32 (BitVec.ofNat 32 i)) (Ideal.ofBits FTy.f32 1090519040#32))

/-- The rotary embedding at position `p`: lanes 0 … 7 and 8 … 15 of a head are turned, the rest kept. -/
def rope (p : ℕ) (y : ℕ → EReal) (n : ℕ) : EReal :=
  if n % 64 < 16 then
    if n % 64 < 8 then y n * Ideal.cos (ang p (n % 64)) - y (n + 8) * Ideal.sin (ang p (n % 64))
    else y n * Ideal.cos (ang p (n % 64 - 8)) + y (n - 8) * Ideal.sin (ang p (n % 64 - 8))
  else y n

/-- The factor of lane `n` itself. -/
def laneC (p n : ℕ) : EReal :=
  if n % 64 < 8 then Ideal.cos (ang p (n % 64)) else if n % 64 - 8 < 8 then Ideal.cos (ang p (n % 64 - 8)) else 1

/-- The factor of the lane 8 above lane `n`. -/
def laneA (p n : ℕ) : EReal := if n % 64 < 8 then -Ideal.sin (ang p (n % 64)) else 0

/-- The factor of the lane 8 below lane `n`. -/
def laneB (p n : ℕ) : EReal := if n % 64 < 8 then 0 else if n % 64 - 8 < 8 then Ideal.sin (ang p (n % 64 - 8)) else 0

/-- The rotary embedding from the three factors. -/
theorem rope_lane (p n : ℕ) (y : ℕ → EReal) (a0 a1 a2 : EReal) (h0 : a0 = y n) (h1 : n % 64 < 8 → a1 = y (n + 8))
    (h2 : 8 ≤ n % 64 → n % 64 < 16 → a2 = y (n - 8)) :
    a0 * laneC p n + a1 * laneA p n + a2 * laneB p n = rope p y n := by
  subst h0
  unfold rope laneC laneA laneB
  by_cases hA : n % 64 < 8
  · rw [if_pos hA, if_pos hA, if_pos hA, if_pos (by omega), if_pos hA, h1 hA, mul_zero, add_zero, mul_neg, ← sub_eq_add_neg]
  · rw [if_neg hA, if_neg hA, if_neg hA, mul_zero, add_zero]
    by_cases hB : n % 64 < 16
    · rw [if_pos (show n % 64 - 8 < 8 by omega), if_pos (show n % 64 - 8 < 8 by omega), if_pos hB, if_neg hA, h2 (by omega) hB]
    · rw [if_neg (show ¬ n % 64 - 8 < 8 by omega), if_neg (show ¬ n % 64 - 8 < 8 by omega), if_neg hB, mul_zero, add_zero, mul_one]

/-- The sum over a head's squares, from squares weighted by `same`. -/
theorem sq512 (U : ℕ → EReal) (j : ℕ) (h : j < 512) :
    ∑ x : Fin 512, U x.val * U x.val * same x.val j = ∑ d : Fin 64, U (j / 64 * 64 + d.val) * U (j / 64 * 64 + d.val) := by
  refine (sum_heads 8 (fun x => U x.val * U x.val) ⟨j, h⟩).trans (Finset.sum_congr rfl fun d _ => ?_)
  simp only [Nat.mul_comm 64]

theorem sq256 (U : ℕ → EReal) (j : ℕ) (h : j < 256) :
    ∑ x : Fin 256, U (512 + x.val) * U (512 + x.val) * same x.val j
      = ∑ d : Fin 64, U (512 + (j / 64 * 64 + d.val)) * U (512 + (j / 64 * 64 + d.val)) := by
  refine (sum_heads 4 (fun x => U (512 + x.val) * U (512 + x.val)) ⟨j, h⟩).trans (Finset.sum_congr rfl fun d _ => ?_)
  simp only [Nat.mul_comm 64]

theorem lt64 {α : Type} (x : ℕ) (h : x < 128) (a b : α) :
    Scalar.select (IntOp.cmpi CmpIPredicate.slt (BitVec.ofNat 32 x) 64#32) a b = if x < 64 then a else b := by
  have e : (BitVec.ofNat 32 x).slt 64#32 = decide (x < 64) := by
    rw [BitVec.slt_eq_decide]
    congr 1
    have : (BitVec.ofNat 32 x).toInt = x := by
      rw [BitVec.toInt_eq_toNat_of_lt (by simp; omega)]; simp; omega
    rw [this]
    simp
  by_cases hx : x < 64
  · rw [if_pos hx]; simp [Scalar.select, IntOp.cmpi, e, hx]
  · rw [if_neg hx]; simp [Scalar.select, IntOp.cmpi, e, hx]

theorem sq128 (U : ℕ → EReal) :
    ∑ x : Fin 128, Scalar.select (IntOp.cmpi CmpIPredicate.slt (BitVec.ofNat 32 x.val) 64#32) (U (1536 + x.val) * U (1536 + x.val)) (0 : EReal)
      = ∑ d : Fin 64, U (1536 + d.val) * U (1536 + d.val) := by
  rw [show (128 : ℕ) = 64 + 64 from rfl, Fin.sum_univ_add]
  rw [Finset.sum_eq_zero (s := Finset.univ) (f := fun i : Fin 64 => Scalar.select (IntOp.cmpi CmpIPredicate.slt (BitVec.ofNat 32 (Fin.natAdd 64 i).val) 64#32)
    (U (1536 + (Fin.natAdd 64 i).val) * U (1536 + (Fin.natAdd 64 i).val)) (0 : EReal)), add_zero]
  · refine Finset.sum_congr rfl fun d _ => ?_
    rw [lt64 _ (by simp; omega), if_pos (by simp)]
    rfl
  · intro i _
    rw [lt64 _ (by simp; omega), if_neg (by simp)]

end Cert.Spec

end
-- ==== Proof.ProjHost.lean ====
/-
  The arrays the attention projections' kernel is given, from the arguments: the three rotary tables, the projection with 56
  columns of zeros added, the gains repeated for each head, and the mask of the heads.
-/
module

public import proofs.«01_k».proof.Proof.Gen.ProjKernelIdeal.Value
public import proofs.«01_k».proof.Proof.ProjSpec
public import proofs.«01_k».proof.Proof.ConvSpec
public import Idealize.ShloMosaic.Lib.Pointwise
public import Idealize.ShloMosaic.Lib.Pipeline.ValueKit
public import Idealize.ShloMosaic.Lib.Pipeline.FrameTail

@[expose] public section

set_option maxRecDepth 16384

noncomputable section

open Idealize.ShloMosaic Idealize.ShloMosaic.TcCoe Idealize.SL.Sem

namespace Cert.ProjKernelIdeal.Proj

open Cert.ProjKernelIdeal Cert.ProjKernelIdeal.Gen
variable (m : (ℓ : Loc nD τ sig) → Buf (Elt Ideal) ℓ) (ρ : Dev nD → PrngReg)

/-- A table of 64 lanes repeated eight times over. -/
theorem tiled (f : FVec Ideal S2048x64 .f32) (p : Fin 2048) (n : Fin 512) :
    shapeCast S2048x512 (broadcastInDim S1x2048x8x64 ![0, 1, 2, 3] bcast_S1x2048x1x64_S1x2048x8x64_0_1_2_3
      (shapeCast S1x2048x1x64 f shapeCasts_S2048x64_S1x2048x1x64)) shapeCasts_S1x2048x8x64_S2048x512 (ix2 p n)
      = f (ix2 p (⟨n.val % 64, Nat.mod_lt _ (by decide)⟩ : Fin 64)) := by
  pointwise
/-- The first table. -/
theorem tabC (c : Dev nD) (p : Fin 2048) (n : Fin 512) : (V m c main_v25 : FVec Ideal S2048x512 .f32) (ix2 p n) = Spec.laneC p.val n.val := by
  show StableHlo.after (List.flatten [hostOps0, hostOps0_1, hostOps0_2, hostOps0_3, hostOps0_4]) (fun b => m (c, b)) (Proc.devRef .tc main_v25) (ix2 p n) = _
  simp only [hostOps0, hostOps0_1, hostOps0_2, hostOps0_3, hostOps0_4, List.flatten_cons, List.flatten_nil, List.append_nil, List.cons_append, List.nil_append]
  after_results
  simp only [tiled]
  pointwise
  by_cases hA : n.val % 64 < 8
  · refine (dif_pos hA).trans (Eq.trans ?_ (if_pos hA).symm)
    simp only [StableHlo.readResult]
    pointwise
    rfl
  · refine (dif_neg hA).trans (Eq.trans ?_ (if_neg hA).symm)
    by_cases hB : n.val % 64 - 8 < 8
    · refine (dif_pos hB).trans (Eq.trans ?_ (if_pos hB).symm)
      simp only [StableHlo.readResult]
      pointwise
      rfl
    · refine (dif_neg hB).trans (Eq.trans ?_ (if_neg hB).symm)
      simp only [StableHlo.readResult]
      pointwise

/-- The second table. -/
theorem tabA (c : Dev nD) (p : Fin 2048) (n : Fin 512) : (V m c main_v28 : FVec Ideal S2048x512 .f32) (ix2 p n) = Spec.laneA p.val n.val := by
  show StableHlo.after (List.flatten [hostOps0, hostOps0_1, hostOps0_2, hostOps0_3, hostOps0_4]) (fun b => m (c, b)) (Proc.devRef .tc main_v28) (ix2 p n) = _
  simp only [hostOps0, hostOps0_1, hostOps0_2, hostOps0_3, hostOps0_4, List.flatten_cons, List.flatten_nil, List.append_nil, List.cons_append, List.nil_append]
  after_results
  simp only [tiled]
  pointwise
  by_cases hA : n.val % 64 < 8
  · refine (dif_pos hA).trans (Eq.trans ?_ (if_pos hA).symm)
    simp only [StableHlo.readResult]
    pointwise
    rfl
  · refine (dif_neg hA).trans (Eq.trans ?_ (if_neg hA).symm)
    by_cases hB : n.val % 64 - 8 < 8
    · refine (dif_pos hB).trans ?_
      simp only [StableHlo.readResult]
      pointwise
    · refine (dif_neg hB).trans ?_
      simp only [StableHlo.readResult]
      pointwise

/-- The third table. -/
theorem tabB (c : Dev nD) (p : Fin 2048) (n : Fin 512) : (V m c main_v31 : FVec Ideal S2048x512 .f32) (ix2 p n) = Spec.laneB p.val n.val := by
  show StableHlo.after (List.flatten [hostOps0, hostOps0_1, hostOps0_2, hostOps0_3, hostOps0_4]) (fun b => m (c, b)) (Proc.devRef .tc main_v31) (ix2 p n) = _
  simp only [hostOps0, hostOps0_1, hostOps0_2, hostOps0_3, hostOps0_4, List.flatten_cons, List.flatten_nil, List.append_nil, List.cons_append, List.nil_append]
  after_results
  simp only [tiled]
  pointwise
  by_cases hA : n.val % 64 < 8
  · refine (dif_pos hA).trans (Eq.trans ?_ (if_pos hA).symm)
    simp only [StableHlo.readResult]
    pointwise
  · refine (dif_neg hA).trans (Eq.trans ?_ (if_neg hA).symm)
    by_cases hB : n.val % 64 - 8 < 8
    · refine (dif_pos hB).trans (Eq.trans ?_ (if_pos hB).symm)
      simp only [StableHlo.readResult]
      pointwise
      rfl
    · refine (dif_neg hB).trans (Eq.trans ?_ (if_neg hB).symm)
      simp only [StableHlo.readResult]
      pointwise

/-- The projection the kernel is given: 56 columns of zeros are added. -/
theorem wpad (c : Dev nD) (k : Fin 1024) (n : Fin 1664) : (V m c main_v36 : FVec Ideal S1024x1664 .bf16) (ix2 k n)
    = (if h : n.val < 1608 then m ((c : Thread nD τ).loc main_arg2) (ix2 k (⟨n.val, h⟩ : Fin 1608)) else (0 : EReal)) := by
  show StableHlo.after (List.flatten [hostOps0, hostOps0_1, hostOps0_2, hostOps0_3, hostOps0_4]) (fun b => m (c, b)) (Proc.devRef .tc main_v36) (ix2 k n) = _
  simp only [hostOps0, hostOps0_1, hostOps0_2, hostOps0_3, hostOps0_4, List.flatten_cons, List.flatten_nil, List.append_nil, List.cons_append, List.nil_append]
  after_region_results
  change (pad S1024x1664 ![0, 0] ![0, 56] ![0, 0] (m ((c : Thread nD τ).loc main_arg2) : FVec Ideal S1024x1608 .f32)
    (sitofp .f32 (constantI S_ 32 0#32) : FVec Ideal S_ .f32) pads_S1024x1608_S1024x1664_000_0560 h_S_ : FVec Ideal S1024x1664 .f32) (ix2 k n) = _
  pointwise
  by_cases h : n.val < 1608
  · rw [dif_pos h]
    refine dif_pos fun a => ?_
    match a with
    | 0 => exact ⟨Nat.zero_le _, Nat.mod_one _, by show (k.val - 0) / (0 + 1) < 1024; omega⟩
    | 1 => exact ⟨Nat.zero_le _, Nat.mod_one _, by show (n.val - 0) / (0 + 1) < 1608; omega⟩
  · rw [dif_neg h]
    refine (dif_neg fun a => h ?_).trans ?_
    · have := (a 1).2.2
      change (n.val - 0) / (0 + 1) < 1608 at this
      omega
    · show (((0#32 : BitVec 32).toInt : ℝ) : EReal) = 0
      simp

/-- The gain of the first norm, as the kernel is given it. -/
theorem gain (c : Dev nD) (n : Fin 1024) : (V m c main_v34 : FVec Ideal S1x1024 .f32) (ix2 0 n) = m ((c : Thread nD τ).loc main_arg1) (ix1 n) := by
  show StableHlo.after (List.flatten [hostOps0, hostOps0_1, hostOps0_2, hostOps0_3, hostOps0_4]) (fun b => m (c, b)) (Proc.devRef .tc main_v34) (ix2 0 n) = _
  simp only [hostOps0, hostOps0_1, hostOps0_2, hostOps0_3, hostOps0_4, List.flatten_cons, List.flatten_nil, List.append_nil, List.cons_append, List.nil_append]
  after_region_results
  pointwise

/-- The gain of the queries, repeated for each head. -/
theorem qgain (c : Dev nD) (n : Fin 512) : (V m c main_v40 : FVec Ideal S1x512 .f32) (ix2 0 n) = m ((c : Thread nD τ).loc main_arg3) (ix1 (⟨n.val % 64, Nat.mod_lt _ (by decide)⟩ : Fin 64)) := by
  show StableHlo.after (List.flatten [hostOps0, hostOps0_1, hostOps0_2, hostOps0_3, hostOps0_4]) (fun b => m (c, b)) (Proc.devRef .tc main_v40) (ix2 0 n) = _
  simp only [hostOps0, hostOps0_1, hostOps0_2, hostOps0_3, hostOps0_4, List.flatten_cons, List.flatten_nil, List.append_nil, List.cons_append, List.nil_append]
  after_region_results
  pointwise

/-- The gain of the keys, repeated for each head. -/
theorem kgain (c : Dev nD) (n : Fin 256) : (V m c main_v44 : FVec Ideal S1x256 .f32) (ix2 0 n) = m ((c : Thread nD τ).loc main_arg4) (ix1 (⟨n.val % 64, Nat.mod_lt _ (by decide)⟩ : Fin 64)) := by
  show StableHlo.after (List.flatten [hostOps0, hostOps0_1, hostOps0_2, hostOps0_3, hostOps0_4]) (fun b => m (c, b)) (Proc.devRef .tc main_v44) (ix2 0 n) = _
  simp only [hostOps0, hostOps0_1, hostOps0_2, hostOps0_3, hostOps0_4, List.flatten_cons, List.flatten_nil, List.append_nil, List.cons_append, List.nil_append]
  after_region_results
  pointwise

/-- The gain of the indexer's key, 64 zeros added. -/
theorem igain (c : Dev nD) (n : Fin 128) : (V m c main_v45 : FVec Ideal S1x128 .f32) (ix2 0 n) = (if h : n.val < 64 then m ((c : Thread nD τ).loc main_arg5) (ix1 (⟨n.val, h⟩ : Fin 64)) else (0 : EReal)) := by
  show StableHlo.after (List.flatten [hostOps0, hostOps0_1, hostOps0_2, hostOps0_3, hostOps0_4]) (fun b => m (c, b)) (Proc.devRef .tc main_v45) (ix2 0 n) = _
  simp only [hostOps0, hostOps0_1, hostOps0_2, hostOps0_3, hostOps0_4, List.flatten_cons, List.flatten_nil, List.append_nil, List.cons_append, List.nil_append]
  after_region_results
  pointwise

/-- The mask the kernel is given is 1 within a head and 0 elsewhere. -/
theorem mask (c : Dev nD) (k j : Fin 512) : (V m c main_v54 : FVec Ideal S512x512 .bf16) (ix2 k j) = Spec.same k.val j.val := by
  show StableHlo.after (List.flatten [hostOps0, hostOps0_1, hostOps0_2, hostOps0_3, hostOps0_4]) (fun b => m (c, b)) (Proc.devRef .tc main_v54) (ix2 k j) = _
  simp only [hostOps0, hostOps0_1, hostOps0_2, hostOps0_3, hostOps0_4, List.flatten_cons, List.flatten_nil, List.append_nil, List.cons_append, List.nil_append]
  after_results
  change (select (cmpi CmpIPredicate.eq
      (broadcastInDim S512x512 ![0, 1] bcast_S512x1_S512x512_0_1 (broadcastInDim S512x1 ![0] bcast_S512_S512x1_0
        (shapeCast S512 (iotaInDim S8x64 32 0) shapeCasts_S8x64_S512)))
      (broadcastInDim S512x512 ![0, 1] bcast_S1x512_S512x512_0_1 (broadcastInDim S1x512 ![1] bcast_S512_S1x512_1
        (shapeCast S512 (iotaInDim S8x64 32 0) shapeCasts_S8x64_S512))))
    (broadcastInDim S512x512 ![] bcast_S_S512x512 (constant S_ .f32 0x3F800000#32))
    (broadcastInDim S512x512 ![] bcast_S_S512x512 (constant S_ .f32 0x00000000#32)) : FVec Ideal S512x512 .f32) (ix2 k j) = _
  pointwise
  rw [Spec.select_row _ _ (by omega) (by omega)]
  rfl

end Cert.ProjKernelIdeal.Proj

end
-- ==== Proof.ProjTiles.lean ====
/-
  The attention projections' body: a point handles two pieces of 256 rows, and each entry of a piece's results is a function of its
  row alone. The row's projection is `U`, the kernel's three tables are the rotary factors at the row's position, `bd` is 1 within a
  head and 0 elsewhere.
-/
module

public import proofs.«01_k».proof.Proof.Gen.ProjKernelIdeal.Value
public import proofs.«01_k».proof.Proof.ProjSpec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ProjKernelIdeal.Proj

open Cert.ProjKernelIdeal Cert.ProjKernelIdeal.Gen

variable (U : ℕ → EReal) (p : ℕ) (r : Fin 256) (u : FVec Ideal S256x1664 .f32) (hu : ∀ n : Fin 1664, u (ix2 r n) = U n.val)
  (cs sa sb : FVec Ideal S256x512 .f32) (hc : ∀ j : Fin 512, cs (ix2 r j) = Spec.laneC p j.val)
  (ha : ∀ j : Fin 512, sa (ix2 r j) = Spec.laneA p j.val) (hb : ∀ j : Fin 512, sb (ix2 r j) = Spec.laneB p j.val)
  (bd : FVec Ideal S512x512 .bf16) (hbd : ∀ k j : Fin 512, bd (ix2 k j) = Spec.same k.val j.val)

/-- The projected row of the first piece. -/
theorem u0 (x : Vec Ideal S256x1024 .f32) (g : Vec Ideal S1x1024 .f32) (w : Vec Ideal S1024x1664 .bf16) (r : Fin 256)
    (wc : Fin 1024 → Fin 1608 → EReal) (hw : ∀ (k : Fin 1024) (n : Fin 1664), (w (ix2 k n) : EReal) = if h : n.val < 1608 then wc k ⟨n.val, h⟩ else 0)
    (n : Fin 1664) : k0_pay4 x g w (ix2 r n) = Spec.proj (fun k => x (ix2 r k)) (fun k => g (ix2 0 k)) wc n.val := by
  pointwise [k0_pay4]
  unfold Spec.proj
  by_cases h : n.val < 1608
  · simp only [hw, dif_pos h]
    rfl
  · simp only [hw, dif_neg h, mul_zero, Finset.sum_const_zero]

/-- The projected row of the second piece. -/
theorem u1 (x : Vec Ideal S256x1024 .f32) (g : Vec Ideal S1x1024 .f32) (w : Vec Ideal S1024x1664 .bf16) (r : Fin 256)
    (wc : Fin 1024 → Fin 1608 → EReal) (hw : ∀ (k : Fin 1024) (n : Fin 1664), (w (ix2 k n) : EReal) = if h : n.val < 1608 then wc k ⟨n.val, h⟩ else 0)
    (n : Fin 1664) : k0_pay19 x g w (ix2 r n) = Spec.proj (fun k => x (ix2 r k)) (fun k => g (ix2 0 k)) wc n.val := by
  pointwise [k0_pay19]
  unfold Spec.proj
  by_cases h : n.val < 1608
  · simp only [hw, dif_pos h]
    rfl
  · simp only [hw, dif_neg h, mul_zero, Finset.sum_const_zero]

include hu hc ha hb hbd in
/-- The queries, second piece. -/
theorem q1 (qn : Vec Ideal S1x512 .f32) (q : Fin 64 → EReal) (hq : ∀ j : Fin 512, qn (ix2 0 j) = q ⟨j.val % 64, Nat.mod_lt _ (by decide)⟩)
    (j : Fin 512) : k0_pay23 bd u cs sa sb qn (ix2 r j) = Spec.rope p (Spec.hnorm U q) j.val := by
  pointwise [k0_pay23]
  simp only [hu, hc, ha, hb, hbd, hq]
  simp (disch := omega) only [Spec.sq512 U, ← Spec.div64]
  have e1 : j.val % 64 < 8 → (j.val + 512 - 504) % 512 = j.val + 8 := by omega
  have e2 : 8 ≤ j.val % 64 → j.val % 64 < 16 → (j.val + 512 - 8) % 512 = j.val - 8 := by omega
  exact Spec.rope_lane p j.val (Spec.hnorm U q) _ (Spec.hnorm U q ((j.val + 512 - 504) % 512)) (Spec.hnorm U q ((j.val + 512 - 8) % 512)) rfl
    (fun h => by rw [e1 h]) (fun h h' => by rw [e2 h h'])

include hu hc ha hb hbd in
/-- The keys, second piece. -/
theorem k1 (kn : Vec Ideal S1x256 .f32) (q : Fin 64 → EReal) (hq : ∀ j : Fin 256, kn (ix2 0 j) = q ⟨j.val % 64, Nat.mod_lt _ (by decide)⟩)
    (j : Fin 256) : k0_pay24 bd u cs sa sb kn (ix2 r j) = Spec.rope p (Spec.hnorm (fun n => U (512 + n)) q) j.val := by
  pointwise [k0_pay24]
  simp only [hu, hc, ha, hb, hbd, hq]
  simp (disch := omega) only [Spec.sq256 U, ← Spec.div64]
  have e1 : j.val % 64 < 8 → (j.val + 256 - 248) % 256 = j.val + 8 := by omega
  have e2 : 8 ≤ j.val % 64 → j.val % 64 < 16 → (j.val + 256 - 8) % 256 = j.val - 8 := by omega
  exact Spec.rope_lane p j.val (Spec.hnorm (fun n => U (512 + n)) q) _ (Spec.hnorm (fun n => U (512 + n)) q ((j.val + 256 - 248) % 256))
    (Spec.hnorm (fun n => U (512 + n)) q ((j.val + 256 - 8) % 256)) rfl (fun h => by rw [e1 h]) (fun h h' => by rw [e2 h h'])

include hu hc ha hb in
/-- The indexer's queries, second piece. -/
theorem qi1 (j : Fin 512) : k0_pay25 u cs sa sb (ix2 r j) = Spec.rope p (fun n => U (1024 + n)) j.val := by
  pointwise [k0_pay25]
  simp only [hu, hc, ha, hb]
  have e1 : j.val % 64 < 8 → (j.val + 512 - 504) % 512 = j.val + 8 := by omega
  have e2 : 8 ≤ j.val % 64 → j.val % 64 < 16 → (j.val + 512 - 8) % 512 = j.val - 8 := by omega
  exact Spec.rope_lane p j.val (fun n => U (1024 + n)) _ (U (1024 + (j.val + 512 - 504) % 512)) (U (1024 + (j.val + 512 - 8) % 512)) rfl
    (fun h => by rw [e1 h]) (fun h h' => by rw [e2 h h'])

include hu hc ha hb in
/-- The indexer's key and head weights, second piece. -/
theorem kw1 (kin : Vec Ideal S1x128 .f32) (q : Fin 64 → EReal) (hq : ∀ j : Fin 128, kin (ix2 0 j) = if h : j.val < 64 then q ⟨j.val, h⟩ else 0)
    (j : Fin 128) : k0_pay26 u cs sa sb kin (ix2 r j)
      = if j.val < 64 then Spec.rope p (Spec.hnorm (fun n => U (1536 + n)) q) j.val else U (1536 + j.val) := by
  pointwise [k0_pay26]
  simp only [hu, hc, ha, hb, hq]
  simp only [Spec.sq128 U, ← Spec.div64]
  rw [Spec.lt64 _ j.isLt]
  by_cases hj : j.val < 64
  · rw [if_pos hj, if_pos hj]
    have hn : ∀ n, n < 64 → Spec.hnorm (fun n => U (1536 + n)) q n = U (1536 + n) * Ideal.rsqrt (Ideal.div (∑ d : Fin 64, U (1536 + d.val) * U (1536 + d.val))
        (Ideal.ofBits FTy.f32 1115684864#32) + Ideal.ofBits FTy.f32 897988541#32) * (if h : n < 64 then q ⟨n, h⟩ else 0) := by
      intro n h
      unfold Spec.hnorm
      have e : n / 64 * 64 = 0 := by omega
      simp only [e, Nat.zero_add, dif_pos h, Nat.mod_eq_of_lt h]
    have e1 : j.val % 64 < 8 → (j.val + 128 - 120) % 128 = j.val + 8 := by omega
    have e2 : 8 ≤ j.val % 64 → j.val % 64 < 16 → (j.val + 128 - 8) % 128 = j.val - 8 := by omega
    refine Spec.rope_lane p j.val (Spec.hnorm (fun n => U (1536 + n)) q) _ _ _ (hn _ hj).symm (fun h => ?_) (fun h h' => ?_)
    · rw [hn _ (by omega)]; simp only [e1 h]
    · rw [hn _ (by omega)]; simp only [e2 h h']
  · rw [if_neg hj, if_neg hj]

include hc ha hb hbd in
/-- The queries, first piece. -/
theorem q0 (x : Vec Ideal S256x1024 .f32) (g : Vec Ideal S1x1024 .f32) (w : Vec Ideal S1024x1664 .bf16)
    (hu : ∀ n : Fin 1664, k0_pay4 x g w (ix2 r n) = U n.val) (qn : Vec Ideal S1x512 .f32) (q : Fin 64 → EReal) (hq : ∀ j : Fin 512, qn (ix2 0 j) = q ⟨j.val % 64, Nat.mod_lt _ (by decide)⟩)
    (j : Fin 512) : k0_pay9 cs sa sb (k0_pay8 bd x g w) qn (ix2 r j) = Spec.rope p (Spec.hnorm U q) j.val := by
  pointwise [k0_pay9, k0_pay8, k0_pay3]
  simp only [hu, hc, ha, hb, hbd, hq]
  simp (disch := omega) only [Spec.sq512 U, ← Spec.div64]
  have e1 : j.val % 64 < 8 → (j.val + 512 - 504) % 512 = j.val + 8 := by omega
  have e2 : 8 ≤ j.val % 64 → j.val % 64 < 16 → (j.val + 512 - 8) % 512 = j.val - 8 := by omega
  exact Spec.rope_lane p j.val (Spec.hnorm U q) _ (Spec.hnorm U q ((j.val + 512 - 504) % 512)) (Spec.hnorm U q ((j.val + 512 - 8) % 512)) rfl
    (fun h => by rw [e1 h]) (fun h h' => by rw [e2 h h'])

include hu hc ha hb hbd in
/-- The keys, first piece. -/
theorem k0 (kn : Vec Ideal S1x256 .f32) (q : Fin 64 → EReal) (hq : ∀ j : Fin 256, kn (ix2 0 j) = q ⟨j.val % 64, Nat.mod_lt _ (by decide)⟩)
    (j : Fin 256) : k0_pay10 bd u cs sa sb kn (ix2 r j) = Spec.rope p (Spec.hnorm (fun n => U (512 + n)) q) j.val := by
  pointwise [k0_pay10]
  simp only [hu, hc, ha, hb, hbd, hq]
  simp (disch := omega) only [Spec.sq256 U, ← Spec.div64]
  have e1 : j.val % 64 < 8 → (j.val + 256 - 248) % 256 = j.val + 8 := by omega
  have e2 : 8 ≤ j.val % 64 → j.val % 64 < 16 → (j.val + 256 - 8) % 256 = j.val - 8 := by omega
  exact Spec.rope_lane p j.val (Spec.hnorm (fun n => U (512 + n)) q) _ (Spec.hnorm (fun n => U (512 + n)) q ((j.val + 256 - 248) % 256))
    (Spec.hnorm (fun n => U (512 + n)) q ((j.val + 256 - 8) % 256)) rfl (fun h => by rw [e1 h]) (fun h h' => by rw [e2 h h'])

include hu hc ha hb in
/-- The indexer's queries, first piece. -/
theorem qi0 (j : Fin 512) : k0_pay12 u cs sa sb (ix2 r j) = Spec.rope p (fun n => U (1024 + n)) j.val := by
  pointwise [k0_pay12]
  simp only [hu, hc, ha, hb]
  have e1 : j.val % 64 < 8 → (j.val + 512 - 504) % 512 = j.val + 8 := by omega
  have e2 : 8 ≤ j.val % 64 → j.val % 64 < 16 → (j.val + 512 - 8) % 512 = j.val - 8 := by omega
  exact Spec.rope_lane p j.val (fun n => U (1024 + n)) _ (U (1024 + (j.val + 512 - 504) % 512)) (U (1024 + (j.val + 512 - 8) % 512)) rfl
    (fun h => by rw [e1 h]) (fun h h' => by rw [e2 h h'])

include hu hc ha hb in
/-- The indexer's key and head weights, first piece. -/
theorem kw0 (kin : Vec Ideal S1x128 .f32) (q : Fin 64 → EReal) (hq : ∀ j : Fin 128, kin (ix2 0 j) = if h : j.val < 64 then q ⟨j.val, h⟩ else 0)
    (j : Fin 128) : k0_pay14 cs sa sb (k0_pay13 u) (iota .tc S256x128 32 [1] iota_S256x128_d1_w32) kin (ix2 r j)
      = if j.val < 64 then Spec.rope p (Spec.hnorm (fun n => U (1536 + n)) q) j.val else U (1536 + j.val) := by
  pointwise [k0_pay14, k0_pay13]
  simp only [hu, hc, ha, hb, hq]
  simp only [Spec.sq128 U, ← Spec.div64]
  rw [Spec.lt64 _ j.isLt]
  by_cases hj : j.val < 64
  · rw [if_pos hj, if_pos hj]
    have hn : ∀ n, n < 64 → Spec.hnorm (fun n => U (1536 + n)) q n = U (1536 + n) * Ideal.rsqrt (Ideal.div (∑ d : Fin 64, U (1536 + d.val) * U (1536 + d.val))
        (Ideal.ofBits FTy.f32 1115684864#32) + Ideal.ofBits FTy.f32 897988541#32) * (if h : n < 64 then q ⟨n, h⟩ else 0) := by
      intro n h
      unfold Spec.hnorm
      have e : n / 64 * 64 = 0 := by omega
      simp only [e, Nat.zero_add, dif_pos h, Nat.mod_eq_of_lt h]
    have e1 : j.val % 64 < 8 → (j.val + 128 - 120) % 128 = j.val + 8 := by omega
    have e2 : 8 ≤ j.val % 64 → j.val % 64 < 16 → (j.val + 128 - 8) % 128 = j.val - 8 := by omega
    refine Spec.rope_lane p j.val (Spec.hnorm (fun n => U (1536 + n)) q) _ _ _ (hn _ hj).symm (fun h => ?_) (fun h h' => ?_)
    · rw [hn _ (by omega)]; simp only [e1 h]
    · rw [hn _ (by omega)]; simp only [e2 h h']
  · rw [if_neg hj, if_neg hj]

include hu hc ha hb in
/-- The indexer's keys transposed, first piece. -/
theorem kit0 (kin : Vec Ideal S1x128 .f32) (q : Fin 64 → EReal) (hq : ∀ j : Fin 128, kin (ix2 0 j) = if h : j.val < 64 then q ⟨j.val, h⟩ else 0)
    (l : Fin 64) : k0_pay18 (k0_pay17 cs sa sb (k0_pay13 u) (iota .tc S256x128 32 [1] iota_S256x128_d1_w32) kin) (ix3 0 l r) = Spec.rope p (Spec.hnorm (fun n => U (1536 + n)) q) l.val := by
  refine Eq.trans ?_ ((kw0 U p r u hu cs sa sb hc ha hb kin q hq ⟨l.val, by omega⟩).trans (if_pos l.isLt))
  pointwise [k0_pay18, k0_pay17, k0_pay14, k0_pay13]

include hu in
/-- The values, first piece. -/
theorem v0 (l : Fin 256) : k0_pay16 (k0_pay11 u) (ix3 0 l r) = U (768 + l.val) := by
  pointwise [k0_pay16, k0_pay11]
  rw [hu]

include hu in
/-- The values, second piece. -/
theorem v1 (l : Fin 256) : k0_pay1 (k0_pay28 u) (ix3 0 l r) = U (768 + l.val) := by
  pointwise [k0_pay1, k0_pay28]
  rw [hu]

/-- The keys transposed, first piece. -/
theorem kt0 (y : FVec Ideal S256x256 .f32) (l r : Fin 256) : k0_pay15 y (ix3 0 l r) = y (ix2 r l) := by
  pointwise [k0_pay15]

/-- The keys transposed, second piece. -/
theorem kt1 (y : FVec Ideal S256x256 .f32) (l r : Fin 256) : k0_pay27 y (ix3 0 l r) = y (ix2 r l) := by
  pointwise [k0_pay27]

/-- The indexer's keys transposed, second piece. -/
theorem kit1 (y : FVec Ideal S256x128 .f32) (l : Fin 64) (r : Fin 256) : k0_pay2 y (ix3 0 l r) = y (ix2 r (⟨l.val, by omega⟩ : Fin 128)) := by
  pointwise [k0_pay2]

end Cert.ProjKernelIdeal.Proj

end
-- ==== Proof.ProjBlocks.lean ====
/-
  One point of the attention projections: the seven blocks it leaves, from the blocks it is given.
-/
module

public import proofs.«01_k».proof.Proof.ProjTiles

@[expose] public section

set_option maxRecDepth 16384

noncomputable section

open Idealize.ShloMosaic Idealize.ShloMosaic.TcCoe Idealize.SL.Sem

namespace Cert.ProjKernelIdeal.Proj

open Cert.ProjKernelIdeal Cert.ProjKernelIdeal.Gen

variable (b0 : Vec Ideal S512x1024 .f32) (b1 : Vec Ideal S1x1024 .f32) (b2 : Vec Ideal S1024x1664 .bf16) (b3 : Vec Ideal S1x512 .f32)
  (b4 : Vec Ideal S1x256 .f32) (b5 : Vec Ideal S1x128 .f32) (b6 : Vec Ideal S512x512 .bf16) (b7 b8 b9 : Vec Ideal S512x512 .f32)
  (wc : Fin 1024 → Fin 1608 → EReal) (hw : ∀ (k : Fin 1024) (n : Fin 1664), (b2 (ix2 k n) : EReal) = if h : n.val < 1608 then wc k ⟨n.val, h⟩ else 0)
  (qn kn kin : Fin 64 → EReal) (hq : ∀ j : Fin 512, b3 (ix2 0 j) = qn ⟨j.val % 64, Nat.mod_lt _ (by decide)⟩)
  (hk : ∀ j : Fin 256, b4 (ix2 0 j) = kn ⟨j.val % 64, Nat.mod_lt _ (by decide)⟩)
  (hi : ∀ j : Fin 128, b5 (ix2 0 j) = if h : j.val < 64 then kin ⟨j.val, h⟩ else 0)
  (hbd : ∀ k j : Fin 512, b6 (ix2 k j) = Spec.same k.val j.val)
  (p : ℕ) (hc : ∀ r j : Fin 512, b7 (ix2 r j) = Spec.laneC (p + r.val) j.val)
  (ha : ∀ r j : Fin 512, b8 (ix2 r j) = Spec.laneA (p + r.val) j.val) (hb : ∀ r j : Fin 512, b9 (ix2 r j) = Spec.laneB (p + r.val) j.val)

/-- The projection of the block's row `r`. -/
def prow (r : Fin 512) : ℕ → EReal := Spec.proj (fun k => b0 (ix2 r k)) (fun k => b1 (ix2 0 k)) wc

include hw in
theorem hu0 (r : Fin 256) (n : Fin 1664) : k0_pay4 (View.ld b0 r0_1) b1 b2 (ix2 r n) = prow b0 b1 wc (⟨r.val, by omega⟩ : Fin 512) n.val := by
  refine (u0 _ _ _ r wc hw n).trans ?_
  unfold prow
  congr 1
  funext k
  pointwise

include hw in
theorem hu1 (r : Fin 256) (n : Fin 1664) : k0_pay19 (View.ld b0 r0_12) b1 b2 (ix2 r n) = prow b0 b1 wc (⟨256 + r.val, by omega⟩ : Fin 512) n.val := by
  refine (u1 _ _ _ r wc hw n).trans ?_
  unfold prow
  congr 1
  funext k
  pointwise

include hc in
theorem hc0 (r : Fin 256) (j : Fin 512) : k0_pay5 (View.ld b7 r0_4) (ix2 r j) = Spec.laneC (p + r.val) j.val := by
  pointwise [k0_pay5]
  exact hc _ _

include hc in
theorem hc1 (r : Fin 256) (j : Fin 512) : k0_pay20 (View.ld b7 r0_13) (ix2 r j) = Spec.laneC (p + (256 + r.val)) j.val := by
  pointwise [k0_pay20]
  exact hc _ _

include ha in
theorem ha0 (r : Fin 256) (j : Fin 512) : k0_pay6 (View.ld b8 r0_4) (ix2 r j) = Spec.laneA (p + r.val) j.val := by
  pointwise [k0_pay6]
  exact ha _ _

include ha in
theorem ha1 (r : Fin 256) (j : Fin 512) : k0_pay21 (View.ld b8 r0_13) (ix2 r j) = Spec.laneA (p + (256 + r.val)) j.val := by
  pointwise [k0_pay21]
  exact ha _ _

include hb in
theorem hb0 (r : Fin 256) (j : Fin 512) : k0_pay7 (View.ld b9 r0_4) (ix2 r j) = Spec.laneB (p + r.val) j.val := by
  pointwise [k0_pay7]
  exact hb _ _

include hb in
theorem hb1 (r : Fin 256) (j : Fin 512) : k0_pay22 (View.ld b9 r0_13) (ix2 r j) = Spec.laneB (p + (256 + r.val)) j.val := by
  pointwise [k0_pay22]
  exact hb _ _

include hbd in
theorem hm (k j : Fin 512) : k0_pay3 b6 (ix2 k j) = Spec.same k.val j.val := by
  pointwise [k0_pay3]
  exact hbd _ _

include hw hq hbd hc ha hb in
/-- The queries. -/
theorem block10 (r j : Fin 512) : out0_10 b0 b1 b2 b3 b4 b5 b6 b7 b8 b9 (ix2 r j) = Spec.rope (p + r.val) (Spec.hnorm (prow b0 b1 wc r) qn) j.val := by
  unfold_out out0_10
  frame_out
  canon_tiles x h
  case piece0 =>
    idx_vars x
    obtain rfl : r = (⟨256 + x0.val, Nat.add_lt_add_left x0.isLt 256⟩ : Fin 512) := Fin.ext h0
    obtain rfl : j = x1 := Fin.ext h1
    exact q1 (prow b0 b1 wc (⟨256 + x0.val, by omega⟩ : Fin 512)) (p + (256 + x0.val)) x0 _ (hu1 b0 b1 b2 wc hw x0) _ _ _ (hc1 b7 p hc x0) (ha1 b8 p ha x0) (hb1 b9 p hb x0) _ (hm b6 hbd) b3 qn hq j
  case piece1 =>
    idx_vars x
    obtain rfl : r = (⟨x0.val, x0.isLt.trans (by decide)⟩ : Fin 512) := Fin.ext h0
    obtain rfl : j = x1 := Fin.ext h1
    exact q0 (prow b0 b1 wc (⟨x0.val, by omega⟩ : Fin 512)) (p + x0.val) x0 _ _ _ (hc0 b7 p hc x0) (ha0 b8 p ha x0) (hb0 b9 p hb x0) b6 hbd _ _ _ (hu0 b0 b1 b2 wc hw x0) b3 qn hq j

include hw hk hbd hc ha hb in
/-- The keys. -/
theorem block11 (r : Fin 512) (j : Fin 256) : out0_11 b0 b1 b2 b3 b4 b5 b6 b7 b8 b9 (ix2 r j) = Spec.rope (p + r.val) (Spec.hnorm (fun n => prow b0 b1 wc r (512 + n)) kn) j.val := by
  unfold_out out0_11
  frame_out
  canon_tiles x h
  case piece0 =>
    idx_vars x
    obtain rfl : r = (⟨256 + x0.val, Nat.add_lt_add_left x0.isLt 256⟩ : Fin 512) := Fin.ext h0
    obtain rfl : j = x1 := Fin.ext h1
    exact k1 (prow b0 b1 wc (⟨256 + x0.val, by omega⟩ : Fin 512)) (p + (256 + x0.val)) x0 _ (hu1 b0 b1 b2 wc hw x0) _ _ _ (hc1 b7 p hc x0) (ha1 b8 p ha x0) (hb1 b9 p hb x0) _ (hm b6 hbd) b4 kn hk j
  case piece1 =>
    idx_vars x
    obtain rfl : r = (⟨x0.val, x0.isLt.trans (by decide)⟩ : Fin 512) := Fin.ext h0
    obtain rfl : j = x1 := Fin.ext h1
    exact k0 (prow b0 b1 wc (⟨x0.val, by omega⟩ : Fin 512)) (p + x0.val) x0 _ (hu0 b0 b1 b2 wc hw x0) _ _ _ (hc0 b7 p hc x0) (ha0 b8 p ha x0) (hb0 b9 p hb x0) _ (hm b6 hbd) b4 kn hk j

include hw hc ha hb in
/-- The indexer's queries. -/
theorem block12 (r j : Fin 512) : out0_12 b0 b1 b2 b3 b4 b5 b6 b7 b8 b9 (ix2 r j) = Spec.rope (p + r.val) (fun n => prow b0 b1 wc r (1024 + n)) j.val := by
  unfold_out out0_12
  frame_out
  canon_tiles x h
  case piece0 =>
    idx_vars x
    obtain rfl : r = (⟨256 + x0.val, Nat.add_lt_add_left x0.isLt 256⟩ : Fin 512) := Fin.ext h0
    obtain rfl : j = x1 := Fin.ext h1
    exact qi1 (prow b0 b1 wc (⟨256 + x0.val, by omega⟩ : Fin 512)) (p + (256 + x0.val)) x0 _ (hu1 b0 b1 b2 wc hw x0) _ _ _ (hc1 b7 p hc x0) (ha1 b8 p ha x0) (hb1 b9 p hb x0) j
  case piece1 =>
    idx_vars x
    obtain rfl : r = (⟨x0.val, x0.isLt.trans (by decide)⟩ : Fin 512) := Fin.ext h0
    obtain rfl : j = x1 := Fin.ext h1
    exact qi0 (prow b0 b1 wc (⟨x0.val, by omega⟩ : Fin 512)) (p + x0.val) x0 _ (hu0 b0 b1 b2 wc hw x0) _ _ _ (hc0 b7 p hc x0) (ha0 b8 p ha x0) (hb0 b9 p hb x0) j

include hw hi hc ha hb in
/-- The indexer's key and head weights. -/
theorem block13 (r : Fin 512) (j : Fin 128) : out0_13 b0 b1 b2 b3 b4 b5 b6 b7 b8 b9 (ix2 r j) = (if j.val < 64 then Spec.rope (p + r.val) (Spec.hnorm (fun n => prow b0 b1 wc r (1536 + n)) kin) j.val else prow b0 b1 wc r (1536 + j.val)) := by
  unfold_out out0_13
  frame_out
  canon_tiles x h
  case piece0 =>
    idx_vars x
    obtain rfl : r = (⟨256 + x0.val, Nat.add_lt_add_left x0.isLt 256⟩ : Fin 512) := Fin.ext h0
    obtain rfl : j = x1 := Fin.ext h1
    exact kw1 (prow b0 b1 wc (⟨256 + x0.val, by omega⟩ : Fin 512)) (p + (256 + x0.val)) x0 _ (hu1 b0 b1 b2 wc hw x0) _ _ _ (hc1 b7 p hc x0) (ha1 b8 p ha x0) (hb1 b9 p hb x0) b5 kin hi j
  case piece1 =>
    idx_vars x
    obtain rfl : r = (⟨x0.val, x0.isLt.trans (by decide)⟩ : Fin 512) := Fin.ext h0
    obtain rfl : j = x1 := Fin.ext h1
    exact kw0 (prow b0 b1 wc (⟨x0.val, by omega⟩ : Fin 512)) (p + x0.val) x0 _ (hu0 b0 b1 b2 wc hw x0) _ _ _ (hc0 b7 p hc x0) (ha0 b8 p ha x0) (hb0 b9 p hb x0) b5 kin hi j

include hw hk hbd hc ha hb in
/-- The keys, transposed. -/
theorem block14 (l : Fin 256) (r : Fin 512) : out0_14 b0 b1 b2 b3 b4 b5 b6 b7 b8 b9 (ix3 0 l r) = Spec.rope (p + r.val) (Spec.hnorm (fun n => prow b0 b1 wc r (512 + n)) kn) l.val := by
  unfold_out out0_14
  frame_out
  canon_tiles x h
  case piece0 =>
    idx_vars x
    obtain rfl : r = (⟨256 + x2.val, Nat.add_lt_add_left x2.isLt 256⟩ : Fin 512) := Fin.ext h2
    obtain rfl : l = x1 := Fin.ext h1
    obtain rfl : x0 = 0 := Subsingleton.elim _ _
    exact (kt1 _ l x2).trans (k1 (prow b0 b1 wc (⟨256 + x2.val, by omega⟩ : Fin 512)) (p + (256 + x2.val)) x2 _ (hu1 b0 b1 b2 wc hw x2) _ _ _ (hc1 b7 p hc x2) (ha1 b8 p ha x2) (hb1 b9 p hb x2) _ (hm b6 hbd) b4 kn hk l)
  case piece1 =>
    idx_vars x
    obtain rfl : r = (⟨x2.val, x2.isLt.trans (by decide)⟩ : Fin 512) := Fin.ext h2
    obtain rfl : l = x1 := Fin.ext h1
    obtain rfl : x0 = 0 := Subsingleton.elim _ _
    exact (kt0 _ l x2).trans (k0 (prow b0 b1 wc (⟨x2.val, by omega⟩ : Fin 512)) (p + x2.val) x2 _ (hu0 b0 b1 b2 wc hw x2) _ _ _ (hc0 b7 p hc x2) (ha0 b8 p ha x2) (hb0 b9 p hb x2) _ (hm b6 hbd) b4 kn hk l)

include hw in
/-- The values, transposed. -/
theorem block15 (l : Fin 256) (r : Fin 512) : out0_15 b0 b1 b2 b3 b4 b5 b6 b7 b8 b9 (ix3 0 l r) = prow b0 b1 wc r (768 + l.val) := by
  unfold_out out0_15
  frame_out
  canon_tiles x h
  case piece0 =>
    idx_vars x
    obtain rfl : r = (⟨256 + x2.val, Nat.add_lt_add_left x2.isLt 256⟩ : Fin 512) := Fin.ext h2
    obtain rfl : l = x1 := Fin.ext h1
    obtain rfl : x0 = 0 := Subsingleton.elim _ _
    exact v1 (prow b0 b1 wc (⟨256 + x2.val, by omega⟩ : Fin 512)) x2 _ (hu1 b0 b1 b2 wc hw x2) l
  case piece1 =>
    idx_vars x
    obtain rfl : r = (⟨x2.val, x2.isLt.trans (by decide)⟩ : Fin 512) := Fin.ext h2
    obtain rfl : l = x1 := Fin.ext h1
    obtain rfl : x0 = 0 := Subsingleton.elim _ _
    exact v0 (prow b0 b1 wc (⟨x2.val, by omega⟩ : Fin 512)) x2 _ (hu0 b0 b1 b2 wc hw x2) l

include hw hi hc ha hb in
/-- The indexer's keys, transposed. -/
theorem block16 (l : Fin 64) (r : Fin 512) : out0_16 b0 b1 b2 b3 b4 b5 b6 b7 b8 b9 (ix3 0 l r) = Spec.rope (p + r.val) (Spec.hnorm (fun n => prow b0 b1 wc r (1536 + n)) kin) l.val := by
  unfold_out out0_16
  frame_out
  canon_tiles x h
  case piece0 =>
    idx_vars x
    obtain rfl : r = (⟨256 + x2.val, Nat.add_lt_add_left x2.isLt 256⟩ : Fin 512) := Fin.ext h2
    obtain rfl : l = x1 := Fin.ext h1
    obtain rfl : x0 = 0 := Subsingleton.elim _ _
    exact (kit1 _ l x2).trans ((kw1 (prow b0 b1 wc (⟨256 + x2.val, by omega⟩ : Fin 512)) (p + (256 + x2.val)) x2 _ (hu1 b0 b1 b2 wc hw x2) _ _ _ (hc1 b7 p hc x2) (ha1 b8 p ha x2) (hb1 b9 p hb x2) b5 kin hi ⟨l.val, by omega⟩).trans (if_pos l.isLt))
  case piece1 =>
    idx_vars x
    obtain rfl : r = (⟨x2.val, x2.isLt.trans (by decide)⟩ : Fin 512) := Fin.ext h2
    obtain rfl : l = x1 := Fin.ext h1
    obtain rfl : x0 = 0 := Subsingleton.elim _ _
    exact kit0 (prow b0 b1 wc (⟨x2.val, by omega⟩ : Fin 512)) (p + x2.val) x2 _ (hu0 b0 b1 b2 wc hw x2) _ _ _ (hc0 b7 p hc x2) (ha0 b8 p ha x2) (hb0 b9 p hb x2) b5 kin hi l

end Cert.ProjKernelIdeal.Proj

end
-- ==== Proof.ProjReference.lean ====
/-
  The attention projections' reference: each entry of its seven results, as the functions of `Spec` of the row it belongs to. Row
  `b · 2048 + p` is position `p` of sequence `b`.
-/
module

public import proofs.«01_k».proof.Proof.Gen.ProjReferenceIdeal.Read
public import proofs.«01_k».proof.Proof.ProjSpec
public import Idealize.ShloMosaic.Lib.Pointwise

@[expose] public section

set_option maxRecDepth 16384

noncomputable section

open Idealize.ShloMosaic Idealize.ShloMosaic.TcCoe Idealize.SL.Sem

namespace Cert.ProjReferenceIdeal.Proj

open Cert.ProjReferenceIdeal Cert.ProjReferenceIdeal.Gen Cert.ProjReferenceIdeal.Read

variable (x : Vec Ideal S32768x1024 .f32) (g : Vec Ideal S1024 .f32) (wc : Vec Ideal S1024x1608 .f32) (qn kn kin : Vec Ideal S64 .f32)

/-- The projection of row `r`. -/
def prow (r : Fin 32768) : ℕ → EReal := Spec.proj (fun k => x (ix2 r k)) (fun k => g (ix1 k)) (fun k j => wc (ix2 k j))

theorem hu (b : Fin 16) (p : Fin 2048) (n : ℕ) (h : n < 1608) :
    val_main_v14 (F := Ideal) x g wc (ix3 b p (⟨n, h⟩ : Fin 1608)) = prow x g wc (⟨b.val * 2048 + p.val, by omega⟩ : Fin 32768) n := by
  unfold prow Spec.proj
  refine Eq.trans ?_ (dif_pos h).symm
  simp only [val_main_v14, val_main_v13, val_main_v12, val_main_v11, val_main_v10, val_main_v9, val_main_v8, val_main_v7, val_main_v6,
    val_main_v5, val_main_cst_1, val_main_v4, val_main_v3, val_main_cst_0, val_main_v2, val_main_v1, val_main_cst,
    val_main_v0]
  pointwise
  rfl

/-- The queries before the rotary embedding. -/
theorem norm_q (b : Fin 16) (p : Fin 2048) (h : Fin 8) (d : ℕ) (hd : d < 64) : val_main_v35 (F := Ideal) x g wc qn (ix4 b p h (⟨d, hd⟩ : Fin 64)) = Spec.hnorm (prow x g wc (⟨b.val * 2048 + p.val, by omega⟩ : Fin 32768)) (fun d => qn (ix1 d)) (h.val * 64 + d) := by
  simp only [val_main_v35, val_main_v34, val_main_v33, val_main_v32, val_main_v31, val_main_v30, val_main_v29, val_main_v28,
    val_main_cst_4, val_main_v27, val_main_v26, val_main_cst_3, val_main_v25, val_main_v24, val_main_cst_2, val_main_v23,
    val_main_v22, val_main_v16]
  pointwise
  simp only [hu]
  have e : (h.val * 64 + d) % 64 = d := by omega
  have e2 : (h.val * 64 + d) / 64 * 64 = h.val * 64 := by omega
  simp only [Spec.hnorm, e, e2]

/-- The keys before the rotary embedding. -/
theorem norm_k (b : Fin 16) (p : Fin 2048) (h : Fin 4) (d : ℕ) (hd : d < 64) : val_main_v85 (F := Ideal) x g wc kn (ix4 b p h (⟨d, hd⟩ : Fin 64)) = Spec.hnorm (fun n => prow x g wc (⟨b.val * 2048 + p.val, by omega⟩ : Fin 32768) (512 + n)) (fun d => kn (ix1 d)) (h.val * 64 + d) := by
  simp only [val_main_v85, val_main_v84, val_main_v83, val_main_v82, val_main_v81, val_main_v80, val_main_v79, val_main_v78,
    val_main_cst_9, val_main_v77, val_main_v76, val_main_cst_8, val_main_v75, val_main_v74, val_main_cst_7, val_main_v73,
    val_main_v72, val_main_v17]
  pointwise
  simp only [hu]
  have e : (h.val * 64 + d) % 64 = d := by omega
  have e2 : (h.val * 64 + d) / 64 * 64 = h.val * 64 := by omega
  simp only [Spec.hnorm, e, e2]

/-- The indexer's key before the rotary embedding. -/
theorem norm_ki (b : Fin 16) (p : Fin 2048) (d : ℕ) (hd : d < 64) : val_main_v172 (F := Ideal) x g wc kin (ix3 b p (⟨d, hd⟩ : Fin 64)) = Spec.hnorm (fun n => prow x g wc (⟨b.val * 2048 + p.val, by omega⟩ : Fin 32768) (1536 + n)) (fun d => kin (ix1 d)) d := by
  simp only [val_main_v172, val_main_v171, val_main_v170, val_main_v169, val_main_v168, val_main_v167, val_main_v166, val_main_v165,
    val_main_cst_16, val_main_v164, val_main_v163, val_main_cst_15, val_main_v162, val_main_v161, val_main_cst_14,
    val_main_v160, val_main_v20]
  pointwise
  simp only [hu]
  have e : d % 64 = d := by omega
  have e2 : d / 64 * 64 = 0 := by omega
  simp only [Spec.hnorm, e, e2, Nat.zero_add]

/-- The queries. -/
theorem at_q (b : Fin 16) (p : Fin 2048) (h : Fin 8) (d : Fin 64) : val_main_v71 (F := Ideal) x g wc qn (ix4 b p h d) = Spec.rope p.val (Spec.hnorm (prow x g wc (⟨b.val * 2048 + p.val, by omega⟩ : Fin 32768)) (fun d => qn (ix1 d))) (h.val * 64 + d.val) := by
  simp only [val_main_v71, val_main_v70, val_main_v69, val_main_v68, val_main_v67, val_main_v66, val_main_v65, val_main_v64,
    val_main_v63, val_main_v62, val_main_v61, val_main_v60, val_main_v59, val_main_v58, val_main_v57, val_main_v56,
    val_main_v55, val_main_v54, val_main_v53, val_main_v52, val_main_v51, val_main_v50, val_main_v49, val_main_v48,
    val_main_v47, val_main_v46, val_main_v45, val_main_v44, val_main_v43, val_main_v42, val_main_v41, val_main_v40,
    val_main_cst_6, val_main_v39, val_main_v38, val_main_cst_5, val_main_v37, val_main_v36, val_main_v15]
  pointwise
  have hd : val_main_v35 (F := Ideal) x g wc qn (ix4 b p h d) = _ := norm_q x g wc qn b p h d.val d.isLt
  simp only [norm_q, hd]
  have e : (h.val * 64 + d.val) % 64 = d.val := by omega
  unfold Spec.rope
  rw [e]
  by_cases h16 : d.val < 16
  · refine (dif_pos h16).trans (Eq.trans ?_ (if_pos h16).symm)
    by_cases h8 : d.val < 8
    · refine (dif_pos h8).trans (Eq.trans ?_ (if_pos h8).symm)
      have e4 : h.val * 64 + (8 + d.val) = h.val * 64 + d.val + 8 := by omega
      simp only [e4]
      rfl
    · refine (dif_neg h8).trans (Eq.trans ?_ (if_neg h8).symm)
      have e4 : h.val * 64 + (8 + (d.val - 8)) = h.val * 64 + d.val := by omega
      have e5 : h.val * 64 + (d.val - 8) = h.val * 64 + d.val - 8 := by omega
      simp only [e4, e5]
      rfl
  · refine (dif_neg h16).trans (Eq.trans ?_ (if_neg h16).symm)
    have e4 : h.val * 64 + (16 + (d.val - 16)) = h.val * 64 + d.val := by omega
    simp only [e4]

/-- The keys. -/
theorem at_k (b : Fin 16) (p : Fin 2048) (h : Fin 4) (d : Fin 64) : val_main_v121 (F := Ideal) x g wc kn (ix4 b p h d) = Spec.rope p.val (Spec.hnorm (fun n => prow x g wc (⟨b.val * 2048 + p.val, by omega⟩ : Fin 32768) (512 + n)) (fun d => kn (ix1 d))) (h.val * 64 + d.val) := by
  simp only [val_main_v121, val_main_v120, val_main_v119, val_main_v118, val_main_v117, val_main_v116, val_main_v115, val_main_v114,
    val_main_v113, val_main_v112, val_main_v111, val_main_v110, val_main_v109, val_main_v108, val_main_v107, val_main_v106,
    val_main_v105, val_main_v104, val_main_v103, val_main_v102, val_main_v101, val_main_v100, val_main_v99, val_main_v98,
    val_main_v97, val_main_v96, val_main_v95, val_main_v94, val_main_v93, val_main_v92, val_main_v91, val_main_v90,
    val_main_cst_11, val_main_v89, val_main_v88, val_main_cst_10, val_main_v87, val_main_v86, val_main_v15]
  pointwise
  have hd : val_main_v85 (F := Ideal) x g wc kn (ix4 b p h d) = _ := norm_k x g wc kn b p h d.val d.isLt
  simp only [norm_k, hd]
  have e : (h.val * 64 + d.val) % 64 = d.val := by omega
  unfold Spec.rope
  rw [e]
  by_cases h16 : d.val < 16
  · refine (dif_pos h16).trans (Eq.trans ?_ (if_pos h16).symm)
    by_cases h8 : d.val < 8
    · refine (dif_pos h8).trans (Eq.trans ?_ (if_pos h8).symm)
      have e4 : h.val * 64 + (8 + d.val) = h.val * 64 + d.val + 8 := by omega
      simp only [e4]
      rfl
    · refine (dif_neg h8).trans (Eq.trans ?_ (if_neg h8).symm)
      have e4 : h.val * 64 + (8 + (d.val - 8)) = h.val * 64 + d.val := by omega
      have e5 : h.val * 64 + (d.val - 8) = h.val * 64 + d.val - 8 := by omega
      simp only [e4, e5]
      rfl
  · refine (dif_neg h16).trans (Eq.trans ?_ (if_neg h16).symm)
    have e4 : h.val * 64 + (16 + (d.val - 16)) = h.val * 64 + d.val := by omega
    simp only [e4]

/-- The indexer's queries. -/
theorem at_qi (b : Fin 16) (p : Fin 2048) (h : Fin 8) (d : Fin 64) : val_main_v159 (F := Ideal) x g wc (ix4 b p h d) = Spec.rope p.val (fun n => prow x g wc (⟨b.val * 2048 + p.val, by omega⟩ : Fin 32768) (1024 + n)) (h.val * 64 + d.val) := by
  simp only [val_main_v159, val_main_v158, val_main_v157, val_main_v156, val_main_v155, val_main_v154, val_main_v153, val_main_v152,
    val_main_v151, val_main_v150, val_main_v149, val_main_v148, val_main_v147, val_main_v146, val_main_v145, val_main_v144,
    val_main_v143, val_main_v142, val_main_v141, val_main_v140, val_main_v139, val_main_v138, val_main_v137, val_main_v136,
    val_main_v135, val_main_v134, val_main_v133, val_main_v132, val_main_v131, val_main_v130, val_main_v129, val_main_v128,
    val_main_cst_13, val_main_v127, val_main_v126, val_main_cst_12, val_main_v125, val_main_v124, val_main_v123,
    val_main_v19, val_main_v15]
  pointwise
  simp only [hu]
  have e : (h.val * 64 + d.val) % 64 = d.val := by omega
  unfold Spec.rope
  rw [e]
  by_cases h16 : d.val < 16
  · refine (dif_pos h16).trans (Eq.trans ?_ (if_pos h16).symm)
    by_cases h8 : d.val < 8
    · refine (dif_pos h8).trans (Eq.trans ?_ (if_pos h8).symm)
      have e4 : h.val * 64 + (8 + d.val) = h.val * 64 + d.val + 8 := by omega
      simp only [e4]
      rfl
    · refine (dif_neg h8).trans (Eq.trans ?_ (if_neg h8).symm)
      have e4 : h.val * 64 + (8 + (d.val - 8)) = h.val * 64 + d.val := by omega
      have e5 : h.val * 64 + (d.val - 8) = h.val * 64 + d.val - 8 := by omega
      simp only [e4, e5]
      rfl
  · refine (dif_neg h16).trans (Eq.trans ?_ (if_neg h16).symm)
    have e4 : h.val * 64 + (16 + (d.val - 16)) = h.val * 64 + d.val := by omega
    simp only [e4]

/-- The indexer's key. -/
theorem at_ki (b : Fin 16) (p : Fin 2048) (d : Fin 64) : val_main_v210 (F := Ideal) x g wc kin (ix3 b p d) = Spec.rope p.val (Spec.hnorm (fun n => prow x g wc (⟨b.val * 2048 + p.val, by omega⟩ : Fin 32768) (1536 + n)) (fun d => kin (ix1 d))) d.val := by
  simp only [val_main_v210, val_main_v209, val_main_v208, val_main_v207, val_main_v206, val_main_v205, val_main_v204, val_main_v203,
    val_main_v202, val_main_v201, val_main_v200, val_main_v199, val_main_v198, val_main_v197, val_main_v196, val_main_v195,
    val_main_v194, val_main_v193, val_main_v192, val_main_v191, val_main_v190, val_main_v189, val_main_v188, val_main_v187,
    val_main_v186, val_main_v185, val_main_v184, val_main_v183, val_main_v182, val_main_v181, val_main_v180, val_main_v179,
    val_main_v178, val_main_cst_18, val_main_v177, val_main_v176, val_main_cst_17, val_main_v175, val_main_v174,
    val_main_v173, val_main_v15]
  pointwise
  have hd : val_main_v172 (F := Ideal) x g wc kin (ix3 b p d) = _ := norm_ki x g wc kin b p d.val d.isLt
  simp only [norm_ki, hd]
  have e : (d.val) % 64 = d.val := by omega
  unfold Spec.rope
  rw [e]
  by_cases h16 : d.val < 16
  · refine (dif_pos h16).trans (Eq.trans ?_ (if_pos h16).symm)
    by_cases h8 : d.val < 8
    · refine (dif_pos h8).trans (Eq.trans ?_ (if_pos h8).symm)
      have e4 : 8 + d.val = d.val + 8 := by omega
      simp only [e4]
      rfl
    · refine (dif_neg h8).trans (Eq.trans ?_ (if_neg h8).symm)
      have e4 : 8 + (d.val - 8) = d.val := by omega
      simp only [e4]
      rfl
  · refine (dif_neg h16).trans (Eq.trans ?_ (if_neg h16).symm)
    have e4 : 16 + (d.val - 16) = d.val := by omega
    simp only [e4]

/-- Row `r` is position `r % 2048` of sequence `r / 2048`. -/
theorem row_eq (r : Fin 32768) (h : r.val / 2048 * 2048 + r.val % 2048 < 32768) : (⟨r.val / 2048 * 2048 + r.val % 2048, h⟩ : Fin 32768) = r :=
  Fin.ext (Nat.div_add_mod' r.val 2048)

theorem val_q (r : Fin 32768) (j : Fin 512) : val_main_v213 (F := Ideal) x g wc qn (ix2 r j) = Spec.rope (r.val % 2048) (Spec.hnorm (prow x g wc r) (fun d => qn (ix1 d))) j.val := by
  simp only [val_main_v213]
  pointwise
  have e := at_q x g wc qn (⟨r.val / 2048, by omega⟩ : Fin 16) (⟨r.val % 2048, by omega⟩ : Fin 2048) (⟨j.val / 64, by omega⟩ : Fin 8) (⟨j.val % 64, by omega⟩ : Fin 64)
  simp only [row_eq, Nat.div_add_mod'] at e
  exact e

theorem val_k (r : Fin 32768) (j : Fin 256) : val_main_v214 (F := Ideal) x g wc kn (ix2 r j) = Spec.rope (r.val % 2048) (Spec.hnorm (fun n => prow x g wc r (512 + n)) (fun d => kn (ix1 d))) j.val := by
  simp only [val_main_v214]
  pointwise
  have e := at_k x g wc kn (⟨r.val / 2048, by omega⟩ : Fin 16) (⟨r.val % 2048, by omega⟩ : Fin 2048) (⟨j.val / 64, by omega⟩ : Fin 4) (⟨j.val % 64, by omega⟩ : Fin 64)
  simp only [row_eq, Nat.div_add_mod'] at e
  exact e

theorem val_qi (r : Fin 32768) (j : Fin 512) : val_main_v215 (F := Ideal) x g wc (ix2 r j) = Spec.rope (r.val % 2048) (fun n => prow x g wc r (1024 + n)) j.val := by
  simp only [val_main_v215]
  pointwise
  have e := at_qi x g wc (⟨r.val / 2048, by omega⟩ : Fin 16) (⟨r.val % 2048, by omega⟩ : Fin 2048) (⟨j.val / 64, by omega⟩ : Fin 8) (⟨j.val % 64, by omega⟩ : Fin 64)
  simp only [row_eq, Nat.div_add_mod'] at e
  exact e

theorem val_kw (r : Fin 32768) (j : Fin 128) : val_main_v216 (F := Ideal) x g wc kin (ix2 r j)
    = if j.val < 64 then Spec.rope (r.val % 2048) (Spec.hnorm (fun n => prow x g wc r (1536 + n)) (fun d => kin (ix1 d))) j.val else prow x g wc r (1536 + j.val) := by
  simp only [val_main_v216, val_main_v212, val_main_v211, val_main_cst_19, val_main_v21]
  pointwise
  by_cases h : j.val < 64
  · refine (dif_pos h).trans (Eq.trans ?_ (if_pos h).symm)
    have e := at_ki x g wc kin (⟨r.val / 2048, by omega⟩ : Fin 16) (⟨r.val % 2048, by omega⟩ : Fin 2048) (⟨j.val, h⟩ : Fin 64)
    simp only [row_eq] at e
    exact e
  · refine (dif_neg h).trans (Eq.trans ?_ (if_neg h).symm)
    simp only [hu, row_eq]
    have e : 1600 + (j.val - 64) = 1536 + j.val := by omega
    by_cases h' : j.val - 64 < 8
    · refine (dif_pos h').trans ?_
      rw [e]
    · refine (dif_neg h').trans ?_
      unfold prow Spec.proj
      rw [dif_neg (by omega)]

theorem val_kt (b : Fin 16) (l : Fin 256) (p : Fin 2048) : val_main_v218 (F := Ideal) x g wc kn (ix3 b l p) = Spec.rope p.val (Spec.hnorm (fun n => prow x g wc (⟨b.val * 2048 + p.val, by omega⟩ : Fin 32768) (512 + n)) (fun d => kn (ix1 d))) l.val := by
  simp only [val_main_v218, val_main_v217]
  pointwise
  have e := at_k x g wc kn b p (⟨l.val / 64, by omega⟩ : Fin 4) (⟨l.val % 64, by omega⟩ : Fin 64)
  simp only [Nat.div_add_mod'] at e
  exact e

theorem val_vt (b : Fin 16) (l : Fin 256) (p : Fin 2048) : val_main_v220 (F := Ideal) x g wc (ix3 b l p)
    = prow x g wc (⟨b.val * 2048 + p.val, by omega⟩ : Fin 32768) (768 + l.val) := by
  simp only [val_main_v220, val_main_v219, val_main_v122, val_main_v18]
  pointwise
  simp only [hu]

theorem val_kit (b : Fin 16) (l : Fin 64) (p : Fin 2048) : val_main_v221 (F := Ideal) x g wc kin (ix3 b l p) = Spec.rope p.val (Spec.hnorm (fun n => prow x g wc (⟨b.val * 2048 + p.val, by omega⟩ : Fin 32768) (1536 + n)) (fun d => kin (ix1 d))) l.val := by
  simp only [val_main_v221]
  pointwise
  exact at_ki x g wc kin b p l

end Cert.ProjReferenceIdeal.Proj

end
-- ==== Proof.Proj.lean ====
/-
  The attention projections: every row of the prompt projected to its queries, keys, values and indexer lanes, the heads normed, the
  positions' rotation applied, and the keys, values and indexer keys also written transposed. The kernel's seven arrays: one grid
  point handles 512 rows of one sequence, and each entry is a function of `Spec` of its row; row `b · 2048 + p` is position `p` of
  sequence `b`. The reference's arrays: the same functions. No precondition.
-/
module

public import proofs.«01_k».proof.Defs
public import proofs.«01_k».proof.Proof.Gen.ProjKernelIdeal.Value
public import proofs.«01_k».proof.Proof.ProjHost
public import proofs.«01_k».proof.Proof.ProjBlocks
public import proofs.«01_k».proof.Proof.ProjReference
public import Idealize.ShloMosaic.Lib.Pointwise
public import Idealize.ShloMosaic.Lib.Pipeline.ValueKit
public import Idealize.ShloMosaic.Lib.Pipeline.FrameTail

@[expose] public section

set_option maxRecDepth 16384

noncomputable section

open Idealize.ShloMosaic Idealize.ShloMosaic.TcCoe Idealize.SL.Sem

namespace Cert.ProjKernelIdeal.Proj

open Cert.ProjKernelIdeal Cert.ProjKernelIdeal.Gen

variable (m : (ℓ : Loc nD τ sig) → Buf (Elt Ideal) ℓ) (ρ : Dev nD → PrngReg)

/-- The projection of row `r` of device `c`'s argument. -/
def arow (c : Dev nD) (r : Fin 32768) : ℕ → EReal :=
  Spec.proj (fun k => m ((c : Thread nD τ).loc main_arg0) (ix2 r k)) (fun k => m ((c : Thread nD τ).loc main_arg1) (ix1 k)) (fun k j => m ((c : Thread nD τ).loc main_arg2) (ix2 k j))

/-- The queries, as a function of device `c`'s arguments. -/
def G10 (c : Dev nD) : Vec Ideal S32768x512 .f32 := fun i =>
  Spec.rope ((i 0).val % 2048) (Spec.hnorm (arow m c (i 0)) (fun d => m ((c : Thread nD τ).loc main_arg3) (ix1 d))) (i 1).val

/-- The keys, as a function of device `c`'s arguments. -/
def G11 (c : Dev nD) : Vec Ideal S32768x256 .f32 := fun i =>
  Spec.rope ((i 0).val % 2048) (Spec.hnorm (fun n => arow m c (i 0) (512 + n)) (fun d => m ((c : Thread nD τ).loc main_arg4) (ix1 d))) (i 1).val

/-- The indexer's queries, as a function of device `c`'s arguments. -/
def G12 (c : Dev nD) : Vec Ideal S32768x512 .f32 := fun i =>
  Spec.rope ((i 0).val % 2048) (fun n => arow m c (i 0) (1024 + n)) (i 1).val

/-- The indexer's key, then its head weights, as a function of device `c`'s arguments. -/
def G13 (c : Dev nD) : Vec Ideal S32768x128 .f32 := fun i =>
  if (i 1).val < 64 then Spec.rope ((i 0).val % 2048) (Spec.hnorm (fun n => arow m c (i 0) (1536 + n)) (fun d => m ((c : Thread nD τ).loc main_arg5) (ix1 d))) (i 1).val else arow m c (i 0) (1536 + (i 1).val)

/-- The keys, transposed, as a function of device `c`'s arguments. -/
def G14 (c : Dev nD) : Vec Ideal S16x256x2048 .f32 := fun i =>
  have h0 : (i 0).val < 16 := (i 0).isLt
  have h2 : (i 2).val < 2048 := (i 2).isLt
  Spec.rope (i 2).val (Spec.hnorm (fun n => arow m c (⟨(i 0).val * 2048 + (i 2).val, by omega⟩ : Fin 32768) (512 + n)) (fun d => m ((c : Thread nD τ).loc main_arg4) (ix1 d))) (i 1).val

/-- The values, transposed, as a function of device `c`'s arguments. -/
def G15 (c : Dev nD) : Vec Ideal S16x256x2048 .f32 := fun i =>
  have h0 : (i 0).val < 16 := (i 0).isLt
  have h2 : (i 2).val < 2048 := (i 2).isLt
  arow m c (⟨(i 0).val * 2048 + (i 2).val, by omega⟩ : Fin 32768) (768 + (i 1).val)

/-- The indexer's keys, transposed, as a function of device `c`'s arguments. -/
def G16 (c : Dev nD) : Vec Ideal S16x64x2048 .f32 := fun i =>
  have h0 : (i 0).val < 16 := (i 0).isLt
  have h2 : (i 2).val < 2048 := (i 2).isLt
  Spec.rope (i 2).val (Spec.hnorm (fun n => arow m c (⟨(i 0).val * 2048 + (i 2).val, by omega⟩ : Fin 32768) (1536 + n)) (fun d => m ((c : Thread nD τ).loc main_arg5) (ix1 d))) (i 1).val

theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val % 4, 0]
    ∧ win0_8.index t = ![t.val % 4, 0]
    ∧ win0_9.index t = ![t.val % 4, 0]
    ∧ win0_10.index t = ![t.val, 0]
    ∧ win0_11.index t = ![t.val, 0]
    ∧ win0_12.index t = ![t.val, 0]
    ∧ win0_13.index t = ![t.val, 0]
    ∧ win0_14.index t = ![t.val / 4, 0, t.val % 4]
    ∧ win0_15.index t = ![t.val / 4, 0, t.val % 4]
    ∧ win0_16.index t = ![t.val / 4, 0, t.val % 4] := by
  decide +kernel

theorem lt_N (t : Fin cfg0.N) : t.val < 64 := lt_of_lt_of_eq t.isLt (by decide +kernel)

/-- The weight the kernel is given: the argument's columns, zeros past them. -/
theorem blk_w (c : Dev nD) (t : Fin cfg0.N) (k : Fin 1024) (n : Fin 1664) : ((iblk m c 2 t : Vec Ideal S1024x1664 .bf16) (ix2 k n) : EReal)
    = if h : n.val < 1608 then m ((c : Thread nD τ).loc main_arg2) (ix2 k (⟨n.val, h⟩ : Fin 1608)) else (0 : EReal) := by
  show V m c main_v36 ((win0_2.blk t).view.emb (ix2 k n)) = _
  have e : (win0_2.blk t).view.emb (ix2 k n) = ix2 k n := by blk_ext [idx t]
  rw [e]
  exact wpad m c k n

/-- The row gain the kernel is given. -/
theorem blk_g (c : Dev nD) (t : Fin cfg0.N) (k : Fin 1024) : (iblk m c 1 t : Vec Ideal S1x1024 .f32) (ix2 0 k) = m ((c : Thread nD τ).loc main_arg1) (ix1 k) := by
  show V m c main_v34 ((win0_1.blk t).view.emb (ix2 0 k)) = _
  have e : (win0_1.blk t).view.emb (ix2 0 k) = ix2 0 k := by blk_ext [idx t]
  rw [e]
  exact gain m c k

/-- The query gain the kernel is given: the argument once a head. -/
theorem blk_q (c : Dev nD) (t : Fin cfg0.N) (j : Fin 512) : (iblk m c 3 t : Vec Ideal S1x512 .f32) (ix2 0 j) = m ((c : Thread nD τ).loc main_arg3) (ix1 (⟨j.val % 64, Nat.mod_lt _ (by decide)⟩ : Fin 64)) := by
  show V m c main_v40 ((win0_3.blk t).view.emb (ix2 0 j)) = _
  have e : (win0_3.blk t).view.emb (ix2 0 j) = ix2 0 j := by blk_ext [idx t]
  rw [e]
  exact qgain m c j

/-- The key gain the kernel is given: the argument once a head. -/
theorem blk_k (c : Dev nD) (t : Fin cfg0.N) (j : Fin 256) : (iblk m c 4 t : Vec Ideal S1x256 .f32) (ix2 0 j) = m ((c : Thread nD τ).loc main_arg4) (ix1 (⟨j.val % 64, Nat.mod_lt _ (by decide)⟩ : Fin 64)) := by
  show V m c main_v44 ((win0_4.blk t).view.emb (ix2 0 j)) = _
  have e : (win0_4.blk t).view.emb (ix2 0 j) = ix2 0 j := by blk_ext [idx t]
  rw [e]
  exact kgain m c j

/-- The indexer key's gain the kernel is given: the argument, zeros past it. -/
theorem blk_i (c : Dev nD) (t : Fin cfg0.N) (j : Fin 128) : (iblk m c 5 t : Vec Ideal S1x128 .f32) (ix2 0 j)
    = if h : j.val < 64 then m ((c : Thread nD τ).loc main_arg5) (ix1 (⟨j.val, h⟩ : Fin 64)) else (0 : EReal) := by
  show V m c main_v45 ((win0_5.blk t).view.emb (ix2 0 j)) = _
  have e : (win0_5.blk t).view.emb (ix2 0 j) = ix2 0 j := by blk_ext [idx t]
  rw [e]
  exact igain m c j

/-- The mask the kernel is given. -/
theorem blk_m (c : Dev nD) (t : Fin cfg0.N) (k j : Fin 512) : (iblk m c 6 t : Vec Ideal S512x512 .bf16) (ix2 k j) = Spec.same k.val j.val := by
  show V m c main_v54 ((win0_6.blk t).view.emb (ix2 k j)) = _
  have e : (win0_6.blk t).view.emb (ix2 k j) = ix2 k j := by blk_ext [idx t]
  rw [e]
  exact mask m c k j

/-- The block of the rotation's table: position `512 (t mod 4) + r`. -/
theorem blk_C (c : Dev nD) (t : Fin cfg0.N) (r j : Fin 512) : (iblk m c 7 t : Vec Ideal S512x512 .f32) (ix2 r j) = Spec.laneC (512 * (t.val % 4) + r.val) j.val := by
  show V m c main_v25 ((win0_7.blk t).view.emb (ix2 r j)) = _
  have e : (win0_7.blk t).view.emb (ix2 r j) = ix2 (⟨512 * (t.val % 4) + r.val, by omega⟩ : Fin 2048) j := by blk_ext [idx t]
  rw [e]
  exact tabC m c _ j

/-- The block of the rotation's table: position `512 (t mod 4) + r`. -/
theorem blk_A (c : Dev nD) (t : Fin cfg0.N) (r j : Fin 512) : (iblk m c 8 t : Vec Ideal S512x512 .f32) (ix2 r j) = Spec.laneA (512 * (t.val % 4) + r.val) j.val := by
  show V m c main_v28 ((win0_8.blk t).view.emb (ix2 r j)) = _
  have e : (win0_8.blk t).view.emb (ix2 r j) = ix2 (⟨512 * (t.val % 4) + r.val, by omega⟩ : Fin 2048) j := by blk_ext [idx t]
  rw [e]
  exact tabA m c _ j

/-- The block of the rotation's table: position `512 (t mod 4) + r`. -/
theorem blk_B (c : Dev nD) (t : Fin cfg0.N) (r j : Fin 512) : (iblk m c 9 t : Vec Ideal S512x512 .f32) (ix2 r j) = Spec.laneB (512 * (t.val % 4) + r.val) j.val := by
  show V m c main_v31 ((win0_9.blk t).view.emb (ix2 r j)) = _
  have e : (win0_9.blk t).view.emb (ix2 r j) = ix2 (⟨512 * (t.val % 4) + r.val, by omega⟩ : Fin 2048) j := by blk_ext [idx t]
  rw [e]
  exact tabB m c _ j

/-- Row `r` of grid point `t`'s block. -/
theorem blk_row (c : Dev nD) (t : Fin cfg0.N) (r : Fin 512) (h : 512 * t.val + r.val < 32768) :
    prow (iblk m c 0 t) (iblk m c 1 t) (fun k j => m ((c : Thread nD τ).loc main_arg2) (ix2 k j)) r = arow m c ⟨512 * t.val + r.val, h⟩ := by
  unfold prow arow
  congr 1
  · funext k
    blk_point [iblk, V, idx t]
  · funext k
    exact blk_g m c t k

/-- After the run the result array is `G10`. -/
theorem final10 (c : Dev nD) : (dats m 0 c).arrAt 10 cfg0.N = G10 m c := by
  refine (dats m 0 c).arrAt_eq_of_covers 10 _ (by decide +kernel) fun t hf y => ?_
  have ht := lt_N t
  blk_simp
  rw [after0_10]
  idx_vars y
  have e : (win0_10.blk t).view.emb (ix2 y0 y1) = ix2 (⟨512 * t.val + y0.val, by omega⟩ : Fin 32768) y1 := by blk_ext [idx t]
  have ep : (512 * t.val + y0.val) % 2048 = 512 * (t.val % 4) + y0.val := by omega
  refine (block10 (wc := fun k j => m ((c : Thread nD τ).loc main_arg2) (ix2 k j)) (hw := blk_w m c t) (qn := fun d => m ((c : Thread nD τ).loc main_arg3) (ix1 d)) (hq := blk_q m c t) (hbd := blk_m m c t) (p := 512 * (t.val % 4)) (hc := blk_C m c t) (ha := blk_A m c t) (hb := blk_B m c t) ..).trans (Eq.trans ?_ (congrArg (G10 m c) e).symm)
  rw [blk_row m c t y0 (by omega)]
  show _ = Spec.rope ((512 * t.val + y0.val) % 2048) (Spec.hnorm (arow m c (⟨512 * t.val + y0.val, by omega⟩ : Fin 32768)) (fun d => m ((c : Thread nD τ).loc main_arg3) (ix1 d))) y1.val
  rw [ep]

/-- After the run the result array is `G11`. -/
theorem final11 (c : Dev nD) : (dats m 0 c).arrAt 11 cfg0.N = G11 m c := by
  refine (dats m 0 c).arrAt_eq_of_covers 11 _ (by decide +kernel) fun t hf y => ?_
  have ht := lt_N t
  blk_simp
  rw [after0_11]
  idx_vars y
  have e : (win0_11.blk t).view.emb (ix2 y0 y1) = ix2 (⟨512 * t.val + y0.val, by omega⟩ : Fin 32768) y1 := by blk_ext [idx t]
  have ep : (512 * t.val + y0.val) % 2048 = 512 * (t.val % 4) + y0.val := by omega
  refine (block11 (wc := fun k j => m ((c : Thread nD τ).loc main_arg2) (ix2 k j)) (hw := blk_w m c t) (kn := fun d => m ((c : Thread nD τ).loc main_arg4) (ix1 d)) (hk := blk_k m c t) (hbd := blk_m m c t) (p := 512 * (t.val % 4)) (hc := blk_C m c t) (ha := blk_A m c t) (hb := blk_B m c t) ..).trans (Eq.trans ?_ (congrArg (G11 m c) e).symm)
  rw [blk_row m c t y0 (by omega)]
  show _ = Spec.rope ((512 * t.val + y0.val) % 2048) (Spec.hnorm (fun n => arow m c (⟨512 * t.val + y0.val, by omega⟩ : Fin 32768) (512 + n)) (fun d => m ((c : Thread nD τ).loc main_arg4) (ix1 d))) y1.val
  rw [ep]

/-- After the run the result array is `G12`. -/
theorem final12 (c : Dev nD) : (dats m 0 c).arrAt 12 cfg0.N = G12 m c := by
  refine (dats m 0 c).arrAt_eq_of_covers 12 _ (by decide +kernel) fun t hf y => ?_
  have ht := lt_N t
  blk_simp
  rw [after0_12]
  idx_vars y
  have e : (win0_12.blk t).view.emb (ix2 y0 y1) = ix2 (⟨512 * t.val + y0.val, by omega⟩ : Fin 32768) y1 := by blk_ext [idx t]
  have ep : (512 * t.val + y0.val) % 2048 = 512 * (t.val % 4) + y0.val := by omega
  refine (block12 (wc := fun k j => m ((c : Thread nD τ).loc main_arg2) (ix2 k j)) (hw := blk_w m c t) (p := 512 * (t.val % 4)) (hc := blk_C m c t) (ha := blk_A m c t) (hb := blk_B m c t) ..).trans (Eq.trans ?_ (congrArg (G12 m c) e).symm)
  rw [blk_row m c t y0 (by omega)]
  show _ = Spec.rope ((512 * t.val + y0.val) % 2048) (fun n => arow m c (⟨512 * t.val + y0.val, by omega⟩ : Fin 32768) (1024 + n)) y1.val
  rw [ep]

/-- After the run the result array is `G13`. -/
theorem final13 (c : Dev nD) : (dats m 0 c).arrAt 13 cfg0.N = G13 m c := by
  refine (dats m 0 c).arrAt_eq_of_covers 13 _ (by decide +kernel) fun t hf y => ?_
  have ht := lt_N t
  blk_simp
  rw [after0_13]
  idx_vars y
  have e : (win0_13.blk t).view.emb (ix2 y0 y1) = ix2 (⟨512 * t.val + y0.val, by omega⟩ : Fin 32768) y1 := by blk_ext [idx t]
  have ep : (512 * t.val + y0.val) % 2048 = 512 * (t.val % 4) + y0.val := by omega
  refine (block13 (wc := fun k j => m ((c : Thread nD τ).loc main_arg2) (ix2 k j)) (hw := blk_w m c t) (kin := fun d => m ((c : Thread nD τ).loc main_arg5) (ix1 d)) (hi := blk_i m c t) (p := 512 * (t.val % 4)) (hc := blk_C m c t) (ha := blk_A m c t) (hb := blk_B m c t) ..).trans (Eq.trans ?_ (congrArg (G13 m c) e).symm)
  rw [blk_row m c t y0 (by omega)]
  show _ = if y1.val < 64 then Spec.rope ((512 * t.val + y0.val) % 2048) (Spec.hnorm (fun n => arow m c (⟨512 * t.val + y0.val, by omega⟩ : Fin 32768) (1536 + n)) (fun d => m ((c : Thread nD τ).loc main_arg5) (ix1 d))) y1.val else arow m c (⟨512 * t.val + y0.val, by omega⟩ : Fin 32768) (1536 + y1.val)
  rw [ep]

/-- After the run the result array is `G14`. -/
theorem final14 (c : Dev nD) : (dats m 0 c).arrAt 14 cfg0.N = G14 m c := by
  refine (dats m 0 c).arrAt_eq_of_covers 14 _ (by decide +kernel) fun t hf y => ?_
  have ht := lt_N t
  blk_simp
  rw [after0_14]
  idx_vars y
  obtain rfl : y0 = 0 := Subsingleton.elim _ _
  have e : (win0_14.blk t).view.emb (ix3 0 y1 y2) = ix3 (⟨t.val / 4, by omega⟩ : Fin 16) y1 (⟨512 * (t.val % 4) + y2.val, by omega⟩ : Fin 2048) := by blk_ext [idx t]
  have er : (⟨512 * t.val + y2.val, by omega⟩ : Fin 32768) = ⟨t.val / 4 * 2048 + (512 * (t.val % 4) + y2.val), by omega⟩ := Fin.ext (by simp only []; omega)
  refine (block14 (wc := fun k j => m ((c : Thread nD τ).loc main_arg2) (ix2 k j)) (hw := blk_w m c t) (kn := fun d => m ((c : Thread nD τ).loc main_arg4) (ix1 d)) (hk := blk_k m c t) (hbd := blk_m m c t) (p := 512 * (t.val % 4)) (hc := blk_C m c t) (ha := blk_A m c t) (hb := blk_B m c t) ..).trans (Eq.trans ?_ (congrArg (G14 m c) e).symm)
  rw [blk_row m c t y2 (by omega), er]
  rfl

/-- After the run the result array is `G15`. -/
theorem final15 (c : Dev nD) : (dats m 0 c).arrAt 15 cfg0.N = G15 m c := by
  refine (dats m 0 c).arrAt_eq_of_covers 15 _ (by decide +kernel) fun t hf y => ?_
  have ht := lt_N t
  blk_simp
  rw [after0_15]
  idx_vars y
  obtain rfl : y0 = 0 := Subsingleton.elim _ _
  have e : (win0_15.blk t).view.emb (ix3 0 y1 y2) = ix3 (⟨t.val / 4, by omega⟩ : Fin 16) y1 (⟨512 * (t.val % 4) + y2.val, by omega⟩ : Fin 2048) := by blk_ext [idx t]
  have er : (⟨512 * t.val + y2.val, by omega⟩ : Fin 32768) = ⟨t.val / 4 * 2048 + (512 * (t.val % 4) + y2.val), by omega⟩ := Fin.ext (by simp only []; omega)
  refine (block15 (wc := fun k j => m ((c : Thread nD τ).loc main_arg2) (ix2 k j)) (hw := blk_w m c t) ..).trans (Eq.trans ?_ (congrArg (G15 m c) e).symm)
  rw [blk_row m c t y2 (by omega), er]
  rfl

/-- After the run the result array is `G16`. -/
theorem final16 (c : Dev nD) : (dats m 0 c).arrAt 16 cfg0.N = G16 m c := by
  refine (dats m 0 c).arrAt_eq_of_covers 16 _ (by decide +kernel) fun t hf y => ?_
  have ht := lt_N t
  blk_simp
  rw [after0_16]
  idx_vars y
  obtain rfl : y0 = 0 := Subsingleton.elim _ _
  have e : (win0_16.blk t).view.emb (ix3 0 y1 y2) = ix3 (⟨t.val / 4, by omega⟩ : Fin 16) y1 (⟨512 * (t.val % 4) + y2.val, by omega⟩ : Fin 2048) := by blk_ext [idx t]
  have er : (⟨512 * t.val + y2.val, by omega⟩ : Fin 32768) = ⟨t.val / 4 * 2048 + (512 * (t.val % 4) + y2.val), by omega⟩ := Fin.ext (by simp only []; omega)
  refine (block16 (wc := fun k j => m ((c : Thread nD τ).loc main_arg2) (ix2 k j)) (hw := blk_w m c t) (kin := fun d => m ((c : Thread nD τ).loc main_arg5) (ix1 d)) (hi := blk_i m c t) (p := 512 * (t.val % 4)) (hc := blk_C m c t) (ha := blk_A m c t) (hb := blk_B m c t) ..).trans (Eq.trans ?_ (congrArg (G16 m c) e).symm)
  rw [blk_row m c t y2 (by omega), er]
  rfl

/-- The run: the result arrays hold `G10` to `G16`, the arguments are unchanged. -/
theorem run : θ_run defs (onTc (τ := τ) (main (F := Ideal))) ⟨m, fun _ => 0, ρ⟩ fun r => ∀ c : Dev nD,
      r.2.mem ((c : Thread nD τ).loc main_v55_0) = G10 m c
      ∧ r.2.mem ((c : Thread nD τ).loc main_v55_1) = G11 m c
      ∧ r.2.mem ((c : Thread nD τ).loc main_v55_2) = G12 m c
      ∧ r.2.mem ((c : Thread nD τ).loc main_v55_3) = G13 m c
      ∧ r.2.mem ((c : Thread nD τ).loc main_v55_4) = G14 m c
      ∧ r.2.mem ((c : Thread nD τ).loc main_v55_5) = G15 m c
      ∧ r.2.mem ((c : Thread nD τ).loc main_v55_6) = G16 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => by
    obtain ⟨h0, h1, h2, h3, h4, h5, h6, h7⟩ := h c
    exact ⟨h0.trans (final10 m c), h1.trans (final11 m c), h2.trans (final12 m c), h3.trans (final13 m c), h4.trans (final14 m c), h5.trans (final15 m c), h6.trans (final16 m c), h7⟩) (Value.run_blocks m ρ)

end Cert.ProjKernelIdeal.Proj

namespace Cert

/-- The kernel and the reference compute one function of the arguments. -/
theorem proj_algebraic : Cert.algebraic_ProjKernelIdeal_ProjReferenceIdeal := by
  intro m ρ m' ρ' _ hagree
  refine ⟨fun c => ProjKernelIdeal.Proj.G10 m c, fun c => ProjKernelIdeal.Proj.G11 m c, fun c => ProjKernelIdeal.Proj.G12 m c, fun c => ProjKernelIdeal.Proj.G13 m c, fun c => ProjKernelIdeal.Proj.G14 m c, fun c => ProjKernelIdeal.Proj.G15 m c, fun c => ProjKernelIdeal.Proj.G16 m c, ?_, ?_⟩
  · exact (θ_run _ _ _).mono (fun _ h c => h c) (ProjKernelIdeal.Proj.run m ρ)
  · refine (θ_run ProjReferenceIdeal.defs _ _).mono (fun _ h c => ?_) (ProjReferenceIdeal.Value.run (F := Ideal) m' ρ')
    obtain ⟨h0, h1, h2, h3, h4, h5⟩ := hagree c
    have g0 : StableHlo.launchContents m' c (Proc.devRef .tc ProjReferenceIdeal.main_arg0) = m ((c.tc : Thread ProjKernelIdeal.nD ProjKernelIdeal.τ).loc ProjKernelIdeal.main_arg0) := h0
    have g1 : StableHlo.launchContents m' c (Proc.devRef .tc ProjReferenceIdeal.main_arg1) = m ((c.tc : Thread ProjKernelIdeal.nD ProjKernelIdeal.τ).loc ProjKernelIdeal.main_arg1) := h1
    have g2 : StableHlo.launchContents m' c (Proc.devRef .tc ProjReferenceIdeal.main_arg2) = m ((c.tc : Thread ProjKernelIdeal.nD ProjKernelIdeal.τ).loc ProjKernelIdeal.main_arg2) := h2
    have g3 : StableHlo.launchContents m' c (Proc.devRef .tc ProjReferenceIdeal.main_arg3) = m ((c.tc : Thread ProjKernelIdeal.nD ProjKernelIdeal.τ).loc ProjKernelIdeal.main_arg3) := h3
    have g4 : StableHlo.launchContents m' c (Proc.devRef .tc ProjReferenceIdeal.main_arg4) = m ((c.tc : Thread ProjKernelIdeal.nD ProjKernelIdeal.τ).loc ProjKernelIdeal.main_arg4) := h4
    have g5 : StableHlo.launchContents m' c (Proc.devRef .tc ProjReferenceIdeal.main_arg5) = m ((c.tc : Thread ProjKernelIdeal.nD ProjKernelIdeal.τ).loc ProjKernelIdeal.main_arg5) := h5
    obtain ⟨r0, r1, r2, r3, r4, r5, r6, r7⟩ := h c
    refine ⟨r0.trans ?_, r1.trans ?_, r2.trans ?_, r3.trans ?_, r4.trans ?_, r5.trans ?_, r6.trans ?_, r7⟩
    · rw [ProjReferenceIdeal.Read.val_main_v213_eq, g0, g1, g2, g3]
      funext i
      idx_vars i
      exact ProjReferenceIdeal.Proj.val_q _ _ _ _ i0 i1
    · rw [ProjReferenceIdeal.Read.val_main_v214_eq, g0, g1, g2, g4]
      funext i
      idx_vars i
      exact ProjReferenceIdeal.Proj.val_k _ _ _ _ i0 i1
    · rw [ProjReferenceIdeal.Read.val_main_v215_eq, g0, g1, g2]
      funext i
      idx_vars i
      exact ProjReferenceIdeal.Proj.val_qi _ _ _ i0 i1
    · rw [ProjReferenceIdeal.Read.val_main_v216_eq, g0, g1, g2, g5]
      funext i
      idx_vars i
      exact ProjReferenceIdeal.Proj.val_kw _ _ _ _ i0 i1
    · rw [ProjReferenceIdeal.Read.val_main_v218_eq, g0, g1, g2, g4]
      funext i
      idx_vars i
      exact ProjReferenceIdeal.Proj.val_kt _ _ _ _ i0 i1 i2
    · rw [ProjReferenceIdeal.Read.val_main_v220_eq, g0, g1, g2]
      funext i
      idx_vars i
      exact ProjReferenceIdeal.Proj.val_vt _ _ _ i0 i1 i2
    · rw [ProjReferenceIdeal.Read.val_main_v221_eq, g0, g1, g2, g5]
      funext i
      idx_vars i
      exact ProjReferenceIdeal.Proj.val_kit _ _ _ _ i0 i1 i2

/-- The reference changes no argument and leaves no semaphore raised. -/
theorem proj_reference_frame : Cert.quiescent_ProjReferenceIdeal := by
  intro m ρ _
  exact (θ_run ProjReferenceIdeal.defs _ _).mono (fun r h => ⟨fun c => (h c).2.2.2.2.2.2.2,
    Idealize.ShloMosaic.sem_eq_zero_of_no_sems (by decide) r.2⟩) (ProjReferenceIdeal.Value.run (F := Ideal) m ρ)

end Cert

end
-- ==== Proof.PreSpec.lean ====
/-
  What the recurrent branch's inputs are, row by row. A row's projection is mixed with the projection of the position before it
  (zeros before a sequence's first); the mixed row's lanes are the receptance, the key, the value, and three low-rank inputs. From
  them come the decay, the gates, the unit key and the bonus.
-/
module

public import proofs.«01_k».proof.Proof.Heads
public import proofs.«01_k».proof.Proof.ConvSpec

@[expose] public section

noncomputable section

open Idealize.ShloMosaic

namespace Cert.Spec

/-- Entry `j` of a row's projection. -/
def preU (x g : Fin 1024 → EReal) (w : Fin 1024 → Fin 1792 → EReal) (j : Fin 1792) : EReal := ∑ k, rms x g k * w k j

/-- A row mixed with the one before it. -/
def mixed (u up mu : Fin 1792 → EReal) (j : Fin 1792) : EReal := u j + (up j - u j) * mu j

/-- The projection one position before row `n`, zeros before a sequence's first. -/
def prevU (X : ℕ → Fin 1024 → EReal) (g : Fin 1024 → EReal) (w : Fin 1024 → Fin 1792 → EReal) (n : ℕ) (j : Fin 1792) : EReal :=
  if n % 2048 = 0 then 0 else preU (X (n - 1)) g w j

/-- The mixed row `n`. -/
def preY (X : ℕ → Fin 1024 → EReal) (g : Fin 1024 → EReal) (w : Fin 1024 → Fin 1792 → EReal) (mu : Fin 1792 → EReal) (n : ℕ) : Fin 1792 → EReal :=
  mixed (preU (X n) g w) (prevU X g w n) mu

section

variable (y : Fin 1792 → EReal)

/-- The receptance, the key and the value. -/
def rcol (l : Fin 512) : EReal := y ⟨l.val, by omega⟩

def kcol (l : Fin 512) : EReal := y ⟨512 + l.val, by omega⟩

def vcol (l : Fin 512) : EReal := y ⟨1024 + l.val, by omega⟩

def softplus (z : EReal) : EReal := max z 0 + Ideal.log (1 + Ideal.exp (-FloatOps.absf (F := Ideal) (φ := .f32) z))

/-- The logarithm of the decay. -/
def wcol (w0 : Fin 512 → EReal) (w2 : Fin 64 → Fin 512 → EReal) (l : Fin 512) : EReal :=
  -Ideal.exp (-softplus (-(w0 l + ∑ k : Fin 64, Ideal.tanh (y ⟨1536 + k.val, by omega⟩) * w2 k l)) - Ideal.ofBits FTy.f32 1056964608#32)

/-- The in-context learning rate. -/
def acol (a0 : Fin 512 → EReal) (a2 : Fin 64 → Fin 512 → EReal) (l : Fin 512) : EReal :=
  Ideal.logistic (a0 l + ∑ k : Fin 64, y ⟨1536 + (64 + k.val), by omega⟩ * a2 k l)

/-- The output gate. -/
def gcol (g2 : Fin 128 → Fin 512 → EReal) (l : Fin 512) : EReal :=
  ∑ k : Fin 128, Ideal.logistic (y ⟨1664 + k.val, by omega⟩) * g2 k l

/-- The unit key. -/
def ucol (kkw : Fin 512 → EReal) (l : Fin 512) : EReal :=
  Ideal.div (kcol y l * kkw l) (max (Ideal.sqrt (∑ d, head (fun j => kcol y j * kkw j * (kcol y j * kkw j)) l d)) (Ideal.ofBits FTy.f32 730643660#32))

/-- The key that enters the state. -/
def ecol (ka a : Fin 512 → EReal) (l : Fin 512) : EReal := kcol y l * (1 + (a l - 1) * ka l)

/-- The bonus. -/
def bcol (e rk : Fin 512 → EReal) (l : Fin 512) : EReal := (∑ d, head (fun j => rcol y j * e j * rk j) l d) * vcol y l

end

/-- A sum over two halves of 64, of which the second is weighted by zeros. -/
theorem sum_lo (f : Fin 128 → EReal) (b : Fin 64 → EReal) (w : Fin 128 → EReal)
    (h : ∀ k, w k = if h : k.val < 64 then b ⟨k.val, h⟩ else 0) : ∑ k, f k * w k = ∑ k : Fin 64, f ⟨k.val, by omega⟩ * b k := by
  rw [Fin.sum_univ_add (a := 64) (b := 64)]
  have e2 : ∑ k : Fin 64, f (Fin.natAdd 64 k) * w (Fin.natAdd 64 k) = 0 := Finset.sum_eq_zero fun k _ => by
    rw [h, dif_neg (by simp), mul_zero]
  rw [e2, add_zero]
  refine Finset.sum_congr rfl fun k _ => ?_
  rw [h, dif_pos (by simp : (Fin.castAdd 64 k).val < 64)]
  rfl

/-- The same with zeros on the first half. -/
theorem sum_hi (f : Fin 128 → EReal) (b : Fin 64 → EReal) (w : Fin 128 → EReal)
    (h : ∀ k, w k = if h : k.val < 64 then 0 else b ⟨k.val - 64, by omega⟩) : ∑ k, f k * w k = ∑ k : Fin 64, f ⟨64 + k.val, by omega⟩ * b k := by
  rw [Fin.sum_univ_add (a := 64) (b := 64)]
  have e2 : ∑ k : Fin 64, f (Fin.castAdd 64 k) * w (Fin.castAdd 64 k) = 0 := Finset.sum_eq_zero fun k _ => by
    rw [h, dif_pos (by simp), mul_zero]
  rw [e2, zero_add]
  refine Finset.sum_congr rfl fun k _ => ?_
  rw [h, dif_neg (by simp)]
  congr 2
  exact Fin.ext (by simp)

/-- The choice on a lane below 64. -/
theorem select_lt {α : Type} (k : Fin 128) (a b : α) :
    Scalar.select (IntOp.cmpi CmpIPredicate.slt (BitVec.ofNat 32 k) 64#32) a b = if k.val < 64 then a else b := by
  have e : ∀ k : Fin 128, IntOp.cmpi CmpIPredicate.slt (BitVec.ofNat 32 k) 64#32 = if k.val < 64 then 1#1 else 0#1 := by decide
  rw [e]
  split <;> rfl

theorem lora_lo (z : Fin 128 → EReal) (b : Fin 64 → EReal) (w : Fin 128 → EReal)
    (h : ∀ k, w k = if h : k.val < 64 then b ⟨k.val, h⟩ else 0) :
    ∑ x : Fin 128, Scalar.select (IntOp.cmpi CmpIPredicate.slt (BitVec.ofNat 32 x) 64#32) (Ideal.tanh (z x)) (z x) * w x
      = ∑ k : Fin 64, Ideal.tanh (z ⟨k.val, by omega⟩) * b k := by
  rw [sum_lo _ b w h]
  refine Finset.sum_congr rfl fun k _ => ?_
  rw [select_lt, if_pos k.isLt]

theorem lora_hi (z : Fin 128 → EReal) (b : Fin 64 → EReal) (w : Fin 128 → EReal)
    (h : ∀ k, w k = if h : k.val < 64 then 0 else b ⟨k.val - 64, by omega⟩) :
    ∑ x : Fin 128, Scalar.select (IntOp.cmpi CmpIPredicate.slt (BitVec.ofNat 32 x) 64#32) (Ideal.tanh (z x)) (z x) * w x
      = ∑ k : Fin 64, z ⟨64 + k.val, by omega⟩ * b k := by
  rw [sum_hi _ b w h]
  refine Finset.sum_congr rfl fun k _ => ?_
  rw [select_lt, if_neg (by dsimp only; omega)]

/-- Row `r` of a block of 256 rows the way the kernel takes it: the row before comes by rotating the block, and before the block's first
    row comes `h`. So where the block starts at row `b` and `h` is what comes before it, this is the mixed row `b + r`. -/
theorem mix_eq (X : ℕ → Fin 1024 → EReal) (x : Fin 256 → Fin 1024 → EReal) (g : Fin 1024 → EReal) (w : Fin 1024 → Fin 1792 → EReal)
    (mu h : Fin 1792 → EReal) (b : ℕ) (hb : b % 256 = 0) (hx : ∀ r, x r = X (b + r.val)) (hh : ∀ j, h j = prevU X g w b j) (r : Fin 256) (j : Fin 1792) :
    mixed (preU (x r) g w) (fun j => Scalar.select (IntOp.cmpi CmpIPredicate.eq (BitVec.ofNat 32 r) (BitVec.ofNat 32 0)) (h j)
      (preU (x ⟨(r + 256 - 1) % 256, Nat.mod_lt _ (by decide)⟩) g w j)) mu j = preY X g w mu (b + r.val) j := by
  unfold preY mixed
  dsimp only
  rw [select_row _ _ (by omega) (by omega), hx, hx, hh]
  unfold prevU
  by_cases h : r.val = 0
  · simp only [h, Nat.add_zero, if_pos]
  · simp only []
    rw [if_neg h, if_neg (by omega), show b + (r.val + 256 - 1) % 256 = b + r.val - 1 by omega]

end Cert.Spec

end
-- ==== Proof.PreTiles.lean ====
/-
  The recurrent branch's inputs, the kernel's body: a point handles two pieces of 256 rows; each entry of a piece's results is a
  function of `Spec` of its mixed row.
-/
module

public import proofs.«01_k».proof.Proof.Gen.PreKernelIdeal.Value
public import proofs.«01_k».proof.Proof.PreSpec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.PreKernelIdeal.Pre

open Cert.PreKernelIdeal Cert.PreKernelIdeal.Gen

theorem lt_lo (l : Fin 512) : l.val < 1024 := by omega

theorem lt_hi (l : Fin 512) : 512 + l.val < 1024 := by omega

theorem lt_sub (k : Fin 128) : k.val - 64 < 64 := by omega

theorem u0 (x : Vec Ideal S256x1024 .f32) (g : Vec Ideal S1x1024 .f32) (w : Vec Ideal S1024x1792 .bf16) (r : Fin 256) (j : Fin 1792) :
    k0_pay4 x g w (ix2 r j) = Spec.preU (fun k => x (ix2 r k)) (fun k => g (ix2 0 k)) (fun k j => w (ix2 k j)) j := by
  pointwise [k0_pay4]
  rfl

theorem u1 (x : Vec Ideal S256x1024 .f32) (g : Vec Ideal S1x1024 .f32) (w : Vec Ideal S1024x1792 .bf16) (r : Fin 256) (j : Fin 1792) :
    k0_pay30 (k0_pay28 x g) (k0_pay29 w) (constant S256x1792 .f32 0x00000000#32) (ix2 r j)
      = Spec.preU (fun k => x (ix2 r k)) (fun k => g (ix2 0 k)) (fun k j => w (ix2 k j)) j := by
  pointwise [k0_pay30, k0_pay28, k0_pay29]
  rfl

/-- The mixed row of the first piece. -/
theorem y0 (h : Vec Ideal S1x1792 .f32) (x : Vec Ideal S256x1024 .f32) (g : Vec Ideal S1x1024 .f32) (w : Vec Ideal S1024x1792 .bf16)
    (mu : Vec Ideal S1x1792 .f32) (r : Fin 256) (j : Fin 1792) :
    k0_pay7 (k0_pay4 x g w) (k0_pay6 h x g w) mu (ix2 r j)
      = Spec.mixed (Spec.preU (fun k => x (ix2 r k)) (fun k => g (ix2 0 k)) (fun k j => w (ix2 k j)))
          (fun j => Scalar.select (IntOp.cmpi CmpIPredicate.eq (BitVec.ofNat 32 r) (BitVec.ofNat 32 0)) (h (ix2 0 j))
            (Spec.preU (fun k => x (ix2 (⟨(r + 256 - 1) % 256, Nat.mod_lt _ (by decide)⟩ : Fin 256) k)) (fun k => g (ix2 0 k)) (fun k j => w (ix2 k j)) j))
          (fun j => mu (ix2 0 j)) j := by
  pointwise [k0_pay7, k0_pay6]
  simp only [u0]
  rfl

/-- The mixed row of the second piece. -/
theorem y1 (h : Vec Ideal S1x1792 .f32) (x : Vec Ideal S256x1024 .f32) (g : Vec Ideal S1x1024 .f32) (w : Vec Ideal S1024x1792 .bf16)
    (mu : Vec Ideal S1x1792 .f32) (r : Fin 256) (j : Fin 1792) :
    k0_pay32 h (k0_pay28 x g) (k0_pay29 w) (constant S256x1792 .f32 0x00000000#32) mu (ix2 r j)
      = Spec.mixed (Spec.preU (fun k => x (ix2 r k)) (fun k => g (ix2 0 k)) (fun k j => w (ix2 k j)))
          (fun j => Scalar.select (IntOp.cmpi CmpIPredicate.eq (BitVec.ofNat 32 r) (BitVec.ofNat 32 0)) (h (ix2 0 j))
            (Spec.preU (fun k => x (ix2 (⟨(r + 256 - 1) % 256, Nat.mod_lt _ (by decide)⟩ : Fin 256) k)) (fun k => g (ix2 0 k)) (fun k j => w (ix2 k j)) j))
          (fun j => mu (ix2 0 j)) j := by
  pointwise [k0_pay32]
  simp only [u1]
  rfl

/-- The first piece's last projected row, which it hands on. -/
theorem last0 (x : Vec Ideal S256x1024 .f32) (g : Vec Ideal S1x1024 .f32) (w : Vec Ideal S1024x1792 .bf16) (j : Fin 1792) :
    k0_pay5 x g w (ix2 0 j) = Spec.preU (fun k => x (ix2 255 k)) (fun k => g (ix2 0 k)) (fun k j => w (ix2 k j)) j := by
  pointwise [k0_pay5]
  exact u0 x g w 255 j

/-- The second piece's last projected row. -/
theorem last1 (x : Vec Ideal S256x1024 .f32) (g : Vec Ideal S1x1024 .f32) (w : Vec Ideal S1024x1792 .bf16) (j : Fin 1792) :
    k0_pay31 (k0_pay28 x g) (k0_pay29 w) (constant S256x1792 .f32 0x00000000#32) (ix2 0 j) = Spec.preU (fun k => x (ix2 255 k)) (fun k => g (ix2 0 k)) (fun k j => w (ix2 k j)) j := by
  pointwise [k0_pay31]
  exact u1 x g w 255 j

/-- As the state's block holds it, and as the scratch does. -/
theorem last1_state (u : FVec Ideal S1x1792 .f32) (j : Fin 1792) : k0_pay1 u (ix3 0 0 j) = u (ix2 0 j) := by
  pointwise [k0_pay1]

theorem last1_keep (u : FVec Ideal S1x1792 .f32) (j : Fin 1792) : k0_pay54 u (ix2 0 j) = u (ix2 0 j) := by
  pointwise [k0_pay54]

section piece0

variable (v24 v35 : FVec Ideal S256x1792 .f32) (mu : Vec Ideal S1x1792 .f32)
  (r : Fin 256) (wwa : Vec Ideal S128x1024 .bf16) (w2 a2 : Fin 64 → Fin 512 → EReal)
  (hw : ∀ (k : Fin 128) (l : Fin 512), (wwa (ix2 k (⟨l.val, lt_lo l⟩ : Fin 1024)) : EReal) = if h : k.val < 64 then w2 ⟨k.val, h⟩ l else 0)
  (ha : ∀ (k : Fin 128) (l : Fin 512), (wwa (ix2 k (⟨512 + l.val, lt_hi l⟩ : Fin 1024)) : EReal) = if h : k.val < 64 then 0 else a2 ⟨k.val - 64, lt_sub k⟩ l)
  (w0 a0 kkw ka rk : Vec Ideal S1x512 .f32) (g2 : Vec Ideal S128x512 .bf16) (bd : Vec Ideal S512x512 .bf16)
  (hbd : ∀ k j : Fin 512, bd (ix2 k j) = Spec.same k.val j.val) (l : Fin 512)

theorem r_0 : k0_pay21 (k0_pay8 v24 v35 mu) (ix2 l r) = Spec.rcol (fun j => k0_pay7 v24 v35 mu (ix2 r j)) l := by
  pointwise [k0_pay21, k0_pay8]
  rfl

theorem v_0 : k0_pay24 (k0_pay10 v24 v35 mu) (ix2 l r) = Spec.vcol (fun j => k0_pay7 v24 v35 mu (ix2 r j)) l := by
  pointwise [k0_pay24, k0_pay10]
  rfl

theorem rr_0 : k0_pay8 v24 v35 mu (ix2 r l) = Spec.rcol (fun j => k0_pay7 v24 v35 mu (ix2 r j)) l := by
  pointwise [k0_pay8]
  rfl

theorem kk_0 : k0_pay9 v24 v35 mu (ix2 r l) = Spec.kcol (fun j => k0_pay7 v24 v35 mu (ix2 r j)) l := by
  pointwise [k0_pay9]
  rfl

theorem vv_0 : k0_pay10 v24 v35 mu (ix2 r l) = Spec.vcol (fun j => k0_pay7 v24 v35 mu (ix2 r j)) l := by
  pointwise [k0_pay10]
  rfl

include hw in
theorem w_0 : k0_pay22 (k0_pay12 v24 v35 mu wwa w0) (ix2 l r) = Spec.wcol (fun j => k0_pay7 v24 v35 mu (ix2 r j)) (fun j => w0 (ix2 0 j)) w2 l := by
  pointwise [k0_pay22, k0_pay12, k0_pay11]
  rw [Spec.lora_lo _ (fun k => w2 k l) _ (fun k => hw k l)]
  simp only [zero_sub]
  rfl

include ha in
theorem a_0 : k0_pay15 (k0_pay13 v24 v35 mu wwa) (k0_pay14 a0) (ix2 r l) = Spec.acol (fun j => k0_pay7 v24 v35 mu (ix2 r j)) (fun j => a0 (ix2 0 j)) a2 l := by
  pointwise [k0_pay13, k0_pay14, k0_pay11, k0_pay15]
  rw [Spec.lora_hi _ (fun k => a2 k l) _ (fun k => ha k l)]
  rfl

theorem g_0 : k0_pay16 (k0_pay7 v24 v35 mu) g2 (ix2 r l) = Spec.gcol (fun j => k0_pay7 v24 v35 mu (ix2 r j)) (fun k l => g2 (ix2 k l)) l := by
  pointwise [k0_pay16]
  rfl

include hbd in
theorem uu_0 : k0_pay17 (k0_pay2 bd) (k0_pay9 v24 v35 mu) kkw (ix2 r l) = Spec.ucol (fun j => k0_pay7 v24 v35 mu (ix2 r j)) (fun j => kkw (ix2 0 j)) l := by
  pointwise [k0_pay17, k0_pay2]
  simp only [hbd, kk_0]
  unfold Spec.ucol
  rw [← Spec.sum_head]

include ha in
theorem ee_0 : k0_pay18 (k0_pay9 v24 v35 mu) (k0_pay13 v24 v35 mu wwa) (k0_pay14 a0) ka (ix2 r l) = Spec.ecol (fun j => k0_pay7 v24 v35 mu (ix2 r j)) (fun j => ka (ix2 0 j)) (Spec.acol (fun j => k0_pay7 v24 v35 mu (ix2 r j)) (fun j => a0 (ix2 0 j)) a2) l := by
  pointwise [k0_pay18]
  rw [a_0 (ha := ha), kk_0]
  rfl

include ha in
theorem e_0 : k0_pay23 (k0_pay9 v24 v35 mu) (k0_pay13 v24 v35 mu wwa) (k0_pay14 a0) ka (ix2 l r) = Spec.ecol (fun j => k0_pay7 v24 v35 mu (ix2 r j)) (fun j => ka (ix2 0 j)) (Spec.acol (fun j => k0_pay7 v24 v35 mu (ix2 r j)) (fun j => a0 (ix2 0 j)) a2) l := by
  pointwise [k0_pay23]
  rw [ee_0 (ha := ha)]

include hbd in
theorem na_0 : k0_pay25 (k0_pay19 (k0_pay2 bd) (k0_pay9 v24 v35 mu) kkw) (ix2 l r) = -Spec.ucol (fun j => k0_pay7 v24 v35 mu (ix2 r j)) (fun j => kkw (ix2 0 j)) l := by
  pointwise [k0_pay25, k0_pay19]
  rw [uu_0 (hbd := hbd)]
  exact zero_sub _

include hbd ha in
theorem nb_0 : k0_pay26 (k0_pay20 (k0_pay2 bd) (k0_pay9 v24 v35 mu) (k0_pay13 v24 v35 mu wwa) (k0_pay14 a0) kkw) (ix2 l r) = Spec.ucol (fun j => k0_pay7 v24 v35 mu (ix2 r j)) (fun j => kkw (ix2 0 j)) l * Spec.acol (fun j => k0_pay7 v24 v35 mu (ix2 r j)) (fun j => a0 (ix2 0 j)) a2 l := by
  pointwise [k0_pay26, k0_pay20]
  rw [uu_0 (hbd := hbd), a_0 (ha := ha)]

include hbd ha in
theorem b_0 : k0_pay27 (k0_pay2 bd) (k0_pay8 v24 v35 mu) (k0_pay10 v24 v35 mu) (k0_pay18 (k0_pay9 v24 v35 mu) (k0_pay13 v24 v35 mu wwa) (k0_pay14 a0) ka) rk (ix2 r l) = Spec.bcol (fun j => k0_pay7 v24 v35 mu (ix2 r j)) (Spec.ecol (fun j => k0_pay7 v24 v35 mu (ix2 r j)) (fun j => ka (ix2 0 j)) (Spec.acol (fun j => k0_pay7 v24 v35 mu (ix2 r j)) (fun j => a0 (ix2 0 j)) a2)) (fun j => rk (ix2 0 j)) l := by
  pointwise [k0_pay27, k0_pay2]
  simp only [hbd, rr_0, vv_0, ee_0 (ha := ha)]
  unfold Spec.bcol
  rw [← Spec.sum_head]

end piece0

section piece1

variable (v34 : FVec Ideal S1x1792 .f32) (v150 : FVec Ideal S256x1024 .bf16) (v152 : FVec Ideal S1024x1792 .bf16) (cst : FVec Ideal S256x1792 .f32) (mu : Vec Ideal S1x1792 .f32)
  (r : Fin 256) (wwa : Vec Ideal S128x1024 .bf16) (w2 a2 : Fin 64 → Fin 512 → EReal)
  (hw : ∀ (k : Fin 128) (l : Fin 512), (wwa (ix2 k (⟨l.val, lt_lo l⟩ : Fin 1024)) : EReal) = if h : k.val < 64 then w2 ⟨k.val, h⟩ l else 0)
  (ha : ∀ (k : Fin 128) (l : Fin 512), (wwa (ix2 k (⟨512 + l.val, lt_hi l⟩ : Fin 1024)) : EReal) = if h : k.val < 64 then 0 else a2 ⟨k.val - 64, lt_sub k⟩ l)
  (w0 a0 kkw ka rk : Vec Ideal S1x512 .f32) (g2 : Vec Ideal S128x512 .bf16) (bd : Vec Ideal S512x512 .bf16)
  (hbd : ∀ k j : Fin 512, bd (ix2 k j) = Spec.same k.val j.val) (l : Fin 512)

theorem r_1 : k0_pay47 (k0_pay33 v34 v150 v152 cst mu) (ix2 l r) = Spec.rcol (fun j => k0_pay32 v34 v150 v152 cst mu (ix2 r j)) l := by
  pointwise [k0_pay47, k0_pay33]
  rfl

theorem v_1 : k0_pay50 (k0_pay35 v34 v150 v152 cst mu) (ix2 l r) = Spec.vcol (fun j => k0_pay32 v34 v150 v152 cst mu (ix2 r j)) l := by
  pointwise [k0_pay50, k0_pay35]
  rfl

theorem rr_1 : k0_pay33 v34 v150 v152 cst mu (ix2 r l) = Spec.rcol (fun j => k0_pay32 v34 v150 v152 cst mu (ix2 r j)) l := by
  pointwise [k0_pay33]
  rfl

theorem kk_1 : k0_pay34 v34 v150 v152 cst mu (ix2 r l) = Spec.kcol (fun j => k0_pay32 v34 v150 v152 cst mu (ix2 r j)) l := by
  pointwise [k0_pay34]
  rfl

theorem vv_1 : k0_pay35 v34 v150 v152 cst mu (ix2 r l) = Spec.vcol (fun j => k0_pay32 v34 v150 v152 cst mu (ix2 r j)) l := by
  pointwise [k0_pay35]
  rfl

include hw in
theorem w_1 : k0_pay48 (k0_pay40 (k0_pay38 v34 v150 v152 cst mu wwa w0) (k0_pay39 v34 v150 v152 cst mu wwa w0)) (ix2 l r) = Spec.wcol (fun j => k0_pay32 v34 v150 v152 cst mu (ix2 r j)) (fun j => w0 (ix2 0 j)) w2 l := by
  pointwise [k0_pay48, k0_pay40, k0_pay38, k0_pay39, k0_pay37, k0_pay36]
  rw [Spec.lora_lo _ (fun k => w2 k l) _ (fun k => hw k l)]
  simp only [zero_sub]
  rfl

include ha in
theorem a_1 : k0_pay41 (k0_pay36 v34 v150 v152 cst mu wwa) a0 (ix2 r l) = Spec.acol (fun j => k0_pay32 v34 v150 v152 cst mu (ix2 r j)) (fun j => a0 (ix2 0 j)) a2 l := by
  pointwise [k0_pay41, k0_pay36]
  rw [Spec.lora_hi _ (fun k => a2 k l) _ (fun k => ha k l)]
  rfl

theorem g_1 : k0_pay42 (k0_pay32 v34 v150 v152 cst mu) g2 (ix2 r l) = Spec.gcol (fun j => k0_pay32 v34 v150 v152 cst mu (ix2 r j)) (fun k l => g2 (ix2 k l)) l := by
  pointwise [k0_pay42]
  rfl

include hbd in
theorem uu_1 : k0_pay43 (k0_pay2 bd) (k0_pay34 v34 v150 v152 cst mu) kkw (ix2 r l) = Spec.ucol (fun j => k0_pay32 v34 v150 v152 cst mu (ix2 r j)) (fun j => kkw (ix2 0 j)) l := by
  pointwise [k0_pay43, k0_pay2]
  simp only [hbd, kk_1]
  unfold Spec.ucol
  rw [← Spec.sum_head]

include ha in
theorem ee_1 : k0_pay44 (k0_pay34 v34 v150 v152 cst mu) (k0_pay36 v34 v150 v152 cst mu wwa) a0 ka (ix2 r l) = Spec.ecol (fun j => k0_pay32 v34 v150 v152 cst mu (ix2 r j)) (fun j => ka (ix2 0 j)) (Spec.acol (fun j => k0_pay32 v34 v150 v152 cst mu (ix2 r j)) (fun j => a0 (ix2 0 j)) a2) l := by
  pointwise [k0_pay44]
  rw [a_1 (ha := ha), kk_1]
  rfl

include ha in
theorem e_1 : k0_pay49 (k0_pay44 (k0_pay34 v34 v150 v152 cst mu) (k0_pay36 v34 v150 v152 cst mu wwa) a0 ka) (ix2 l r) = Spec.ecol (fun j => k0_pay32 v34 v150 v152 cst mu (ix2 r j)) (fun j => ka (ix2 0 j)) (Spec.acol (fun j => k0_pay32 v34 v150 v152 cst mu (ix2 r j)) (fun j => a0 (ix2 0 j)) a2) l := by
  pointwise [k0_pay49]
  rw [ee_1 (ha := ha)]

include hbd in
theorem na_1 : k0_pay51 (k0_pay45 (k0_pay2 bd) (k0_pay34 v34 v150 v152 cst mu) kkw) (ix2 l r) = -Spec.ucol (fun j => k0_pay32 v34 v150 v152 cst mu (ix2 r j)) (fun j => kkw (ix2 0 j)) l := by
  pointwise [k0_pay51, k0_pay45]
  rw [uu_1 (hbd := hbd)]
  exact zero_sub _

include hbd ha in
theorem nb_1 : k0_pay52 (k0_pay46 (k0_pay2 bd) (k0_pay34 v34 v150 v152 cst mu) (k0_pay36 v34 v150 v152 cst mu wwa) a0 kkw) (ix2 l r) = Spec.ucol (fun j => k0_pay32 v34 v150 v152 cst mu (ix2 r j)) (fun j => kkw (ix2 0 j)) l * Spec.acol (fun j => k0_pay32 v34 v150 v152 cst mu (ix2 r j)) (fun j => a0 (ix2 0 j)) a2 l := by
  pointwise [k0_pay52, k0_pay46]
  rw [uu_1 (hbd := hbd), a_1 (ha := ha)]

include hbd ha in
theorem b_1 : k0_pay53 (k0_pay2 bd) (k0_pay33 v34 v150 v152 cst mu) (k0_pay35 v34 v150 v152 cst mu) (k0_pay44 (k0_pay34 v34 v150 v152 cst mu) (k0_pay36 v34 v150 v152 cst mu wwa) a0 ka) rk (ix2 r l) = Spec.bcol (fun j => k0_pay32 v34 v150 v152 cst mu (ix2 r j)) (Spec.ecol (fun j => k0_pay32 v34 v150 v152 cst mu (ix2 r j)) (fun j => ka (ix2 0 j)) (Spec.acol (fun j => k0_pay32 v34 v150 v152 cst mu (ix2 r j)) (fun j => a0 (ix2 0 j)) a2)) (fun j => rk (ix2 0 j)) l := by
  pointwise [k0_pay53, k0_pay2]
  simp only [hbd, rr_1, vv_1, ee_1 (ha := ha)]
  unfold Spec.bcol
  rw [← Spec.sum_head]

end piece1

end Cert.PreKernelIdeal.Pre

end
-- ==== Proof.PreHost.lean ====
/-
  The arrays the kernel of the recurrent branch's inputs is given, from the arguments, and what its blocks hold of them: the weights, the
  two low-rank matrices side by side with zeros off the diagonal, and the mask of the heads.
-/
module

public import proofs.«01_k».proof.Proof.Gen.PreKernelIdeal.Value
public import proofs.«01_k».proof.Proof.PreSpec
public import Idealize.ShloMosaic.Lib.Pointwise
public import Idealize.ShloMosaic.Lib.Pipeline.ValueKit
public import Idealize.ShloMosaic.Lib.Pipeline.FrameTail

@[expose] public section

set_option maxRecDepth 16384

noncomputable section

open Idealize.ShloMosaic Idealize.ShloMosaic.TcCoe Idealize.SL.Sem

namespace Cert.PreKernelIdeal.Pre

open Cert.PreKernelIdeal Cert.PreKernelIdeal.Gen

variable (m : (ℓ : Loc nD τ sig) → Buf (Elt Ideal) ℓ) (ρ : Dev nD → PrngReg)

theorem gain (c : Dev nD) (n : Fin 1024) : (V m c main_v4 : FVec Ideal S1x1024 .f32) (ix2 0 n) = m ((c : Thread nD τ).loc main_arg1) (ix1 n) := by
  show StableHlo.after (List.flatten [hostOps0, hostOps0_1, hostOps0_2]) (fun b => m (c, b)) (Proc.devRef .tc main_v4) (ix2 0 n) = _
  simp only [hostOps0, hostOps0_1, hostOps0_2, List.flatten_cons, List.flatten_nil, List.append_nil, List.cons_append, List.nil_append]
  after_results
  pointwise

theorem hmu (c : Dev nD) (n : Fin 1792) : (V m c main_v6 : FVec Ideal S1x1792 .f32) (ix2 0 n) = m ((c : Thread nD τ).loc main_arg3) (ix1 n) := by
  show StableHlo.after (List.flatten [hostOps0, hostOps0_1, hostOps0_2]) (fun b => m (c, b)) (Proc.devRef .tc main_v6) (ix2 0 n) = _
  simp only [hostOps0, hostOps0_1, hostOps0_2, List.flatten_cons, List.flatten_nil, List.append_nil, List.cons_append, List.nil_append]
  after_results
  pointwise

theorem hw0 (c : Dev nD) (n : Fin 512) : (V m c main_v7 : FVec Ideal S1x512 .f32) (ix2 0 n) = m ((c : Thread nD τ).loc main_arg4) (ix1 n) := by
  show StableHlo.after (List.flatten [hostOps0, hostOps0_1, hostOps0_2]) (fun b => m (c, b)) (Proc.devRef .tc main_v7) (ix2 0 n) = _
  simp only [hostOps0, hostOps0_1, hostOps0_2, List.flatten_cons, List.flatten_nil, List.append_nil, List.cons_append, List.nil_append]
  after_results
  pointwise

theorem ha0 (c : Dev nD) (n : Fin 512) : (V m c main_v8 : FVec Ideal S1x512 .f32) (ix2 0 n) = m ((c : Thread nD τ).loc main_arg6) (ix1 n) := by
  show StableHlo.after (List.flatten [hostOps0, hostOps0_1, hostOps0_2]) (fun b => m (c, b)) (Proc.devRef .tc main_v8) (ix2 0 n) = _
  simp only [hostOps0, hostOps0_1, hostOps0_2, List.flatten_cons, List.flatten_nil, List.append_nil, List.cons_append, List.nil_append]
  after_results
  pointwise

theorem hkk (c : Dev nD) (n : Fin 512) : (V m c main_v11 : FVec Ideal S1x512 .f32) (ix2 0 n) = m ((c : Thread nD τ).loc main_arg9) (ix1 n) := by
  show StableHlo.after (List.flatten [hostOps0, hostOps0_1, hostOps0_2]) (fun b => m (c, b)) (Proc.devRef .tc main_v11) (ix2 0 n) = _
  simp only [hostOps0, hostOps0_1, hostOps0_2, List.flatten_cons, List.flatten_nil, List.append_nil, List.cons_append, List.nil_append]
  after_results
  pointwise

theorem hka (c : Dev nD) (n : Fin 512) : (V m c main_v12 : FVec Ideal S1x512 .f32) (ix2 0 n) = m ((c : Thread nD τ).loc main_arg10) (ix1 n) := by
  show StableHlo.after (List.flatten [hostOps0, hostOps0_1, hostOps0_2]) (fun b => m (c, b)) (Proc.devRef .tc main_v12) (ix2 0 n) = _
  simp only [hostOps0, hostOps0_1, hostOps0_2, List.flatten_cons, List.flatten_nil, List.append_nil, List.cons_append, List.nil_append]
  after_results
  pointwise

theorem hrk (c : Dev nD) (n : Fin 512) : (V m c main_v13 : FVec Ideal S1x512 .f32) (ix2 0 n) = m ((c : Thread nD τ).loc main_arg11) (ix2 (⟨n.val / 64, by omega⟩ : Fin 8) (⟨n.val % 64, Nat.mod_lt _ (by decide)⟩ : Fin 64)) := by
  show StableHlo.after (List.flatten [hostOps0, hostOps0_1, hostOps0_2]) (fun b => m (c, b)) (Proc.devRef .tc main_v13) (ix2 0 n) = _
  simp only [hostOps0, hostOps0_1, hostOps0_2, List.flatten_cons, List.flatten_nil, List.append_nil, List.cons_append, List.nil_append]
  after_results
  pointwise

theorem wproj (c : Dev nD) (k : Fin 1024) (j : Fin 1792) : ((V m c main_v5 : FVec Ideal S1024x1792 .bf16) (ix2 k j) : EReal) = m ((c : Thread nD τ).loc main_arg2) (ix2 k j) := by
  show StableHlo.after (List.flatten [hostOps0, hostOps0_1, hostOps0_2]) (fun b => m (c, b)) (Proc.devRef .tc main_v5) (ix2 k j) = _
  simp only [hostOps0, hostOps0_1, hostOps0_2, List.flatten_cons, List.flatten_nil, List.append_nil, List.cons_append, List.nil_append]
  after_results
  pointwise

theorem hg2 (c : Dev nD) (k : Fin 128) (j : Fin 512) : ((V m c main_v10 : FVec Ideal S128x512 .bf16) (ix2 k j) : EReal) = m ((c : Thread nD τ).loc main_arg8) (ix2 k j) := by
  show StableHlo.after (List.flatten [hostOps0, hostOps0_1, hostOps0_2]) (fun b => m (c, b)) (Proc.devRef .tc main_v10) (ix2 k j) = _
  simp only [hostOps0, hostOps0_1, hostOps0_2, List.flatten_cons, List.flatten_nil, List.append_nil, List.cons_append, List.nil_append]
  after_results
  pointwise

/-- The low-rank matrices: the first over the second's zeros. -/
theorem lora_w (c : Dev nD) (k : Fin 128) (l : Fin 512) : ((V m c main_v9 : FVec Ideal S128x1024 .bf16) (ix2 k (⟨l.val, by omega⟩ : Fin 1024)) : EReal)
    = if h : k.val < 64 then m ((c : Thread nD τ).loc main_arg5) (ix2 (⟨k.val, h⟩ : Fin 64) l) else (0 : EReal) := by
  show StableHlo.after (List.flatten [hostOps0, hostOps0_1, hostOps0_2]) (fun b => m (c, b)) (Proc.devRef .tc main_v9) (ix2 k (⟨l.val, by omega⟩ : Fin 1024)) = _
  simp only [hostOps0, hostOps0_1, hostOps0_2, List.flatten_cons, List.flatten_nil, List.append_nil, List.cons_append, List.nil_append]
  after_results
  pointwise

/-- The second's zeros over the second. -/
theorem lora_a (c : Dev nD) (k : Fin 128) (l : Fin 512) : ((V m c main_v9 : FVec Ideal S128x1024 .bf16) (ix2 k (⟨512 + l.val, by omega⟩ : Fin 1024)) : EReal)
    = if h : k.val < 64 then (0 : EReal) else m ((c : Thread nD τ).loc main_arg7) (ix2 (⟨k.val - 64, by omega⟩ : Fin 64) l) := by
  show StableHlo.after (List.flatten [hostOps0, hostOps0_1, hostOps0_2]) (fun b => m (c, b)) (Proc.devRef .tc main_v9) (ix2 k (⟨512 + l.val, by omega⟩ : Fin 1024)) = _
  simp only [hostOps0, hostOps0_1, hostOps0_2, List.flatten_cons, List.flatten_nil, List.append_nil, List.cons_append, List.nil_append]
  after_results
  pointwise

/-- The mask the kernel is given is 1 within a head and 0 elsewhere. -/
theorem mask (c : Dev nD) (k j : Fin 512) : (V m c main_v22 : FVec Ideal S512x512 .bf16) (ix2 k j) = Spec.same k.val j.val := by
  show StableHlo.after (List.flatten [hostOps0, hostOps0_1, hostOps0_2]) (fun b => m (c, b)) (Proc.devRef .tc main_v22) (ix2 k j) = _
  simp only [hostOps0, hostOps0_1, hostOps0_2, List.flatten_cons, List.flatten_nil, List.append_nil, List.cons_append, List.nil_append]
  after_results
  change (select (cmpi CmpIPredicate.eq
      (broadcastInDim S512x512 ![0, 1] bcast_S512x1_S512x512_0_1 (broadcastInDim S512x1 ![0] bcast_S512_S512x1_0
        (shapeCast S512 (iotaInDim S8x64 32 0) shapeCasts_S8x64_S512)))
      (broadcastInDim S512x512 ![0, 1] bcast_S1x512_S512x512_0_1 (broadcastInDim S1x512 ![1] bcast_S512_S1x512_1
        (shapeCast S512 (iotaInDim S8x64 32 0) shapeCasts_S8x64_S512))))
    (broadcastInDim S512x512 ![] bcast_S_S512x512 (constant S_ .f32 0x3F800000#32))
    (broadcastInDim S512x512 ![] bcast_S_S512x512 (constant S_ .f32 0x00000000#32)) : FVec Ideal S512x512 .f32) (ix2 k j) = _
  pointwise
  rw [Spec.select_row _ _ (by omega) (by omega)]
  rfl

theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val / 4, t.val % 4]
    ∧ win0_13.index t = ![t.val / 4, t.val % 4]
    ∧ win0_14.index t = ![t.val / 4, t.val % 4]
    ∧ win0_15.index t = ![t.val / 4, t.val % 4]
    ∧ win0_16.index t = ![t.val / 4, t.val % 4]
    ∧ win0_17.index t = ![t.val / 4, t.val % 4]
    ∧ win0_18.index t = ![t.val, 0]
    ∧ win0_19.index t = ![t.val, 0]
    ∧ win0_20.index t = ![t.val / 4, 0, 0] := by
  decide +kernel

theorem lt_N (t : Fin cfg0.N) : t.val < 64 := lt_of_lt_of_eq t.isLt (by decide +kernel)

theorem blk_gain (c : Dev nD) (t : Fin cfg0.N) : (fun n : Fin 1024 => (iblk m c 1 t : Vec Ideal S1x1024 .f32) (ix2 0 n)) = fun n => m ((c : Thread nD τ).loc main_arg1) (ix1 n) := by
  funext n
  show V m c main_v4 ((win0_1.blk t).view.emb (ix2 0 n)) = _
  have e : (win0_1.blk t).view.emb (ix2 0 n) = ix2 0 n := by blk_ext [idx t]
  rw [e]
  exact gain m c n

theorem blk_mu (c : Dev nD) (t : Fin cfg0.N) : (fun n : Fin 1792 => (iblk m c 3 t : Vec Ideal S1x1792 .f32) (ix2 0 n)) = fun n => m ((c : Thread nD τ).loc main_arg3) (ix1 n) := by
  funext n
  show V m c main_v6 ((win0_3.blk t).view.emb (ix2 0 n)) = _
  have e : (win0_3.blk t).view.emb (ix2 0 n) = ix2 0 n := by blk_ext [idx t]
  rw [e]
  exact hmu m c n

theorem blk_w0 (c : Dev nD) (t : Fin cfg0.N) : (fun n : Fin 512 => (iblk m c 4 t : Vec Ideal S1x512 .f32) (ix2 0 n)) = fun n => m ((c : Thread nD τ).loc main_arg4) (ix1 n) := by
  funext n
  show V m c main_v7 ((win0_4.blk t).view.emb (ix2 0 n)) = _
  have e : (win0_4.blk t).view.emb (ix2 0 n) = ix2 0 n := by blk_ext [idx t]
  rw [e]
  exact hw0 m c n

theorem blk_a0 (c : Dev nD) (t : Fin cfg0.N) : (fun n : Fin 512 => (iblk m c 5 t : Vec Ideal S1x512 .f32) (ix2 0 n)) = fun n => m ((c : Thread nD τ).loc main_arg6) (ix1 n) := by
  funext n
  show V m c main_v8 ((win0_5.blk t).view.emb (ix2 0 n)) = _
  have e : (win0_5.blk t).view.emb (ix2 0 n) = ix2 0 n := by blk_ext [idx t]
  rw [e]
  exact ha0 m c n

theorem blk_kk (c : Dev nD) (t : Fin cfg0.N) : (fun n : Fin 512 => (iblk m c 8 t : Vec Ideal S1x512 .f32) (ix2 0 n)) = fun n => m ((c : Thread nD τ).loc main_arg9) (ix1 n) := by
  funext n
  show V m c main_v11 ((win0_8.blk t).view.emb (ix2 0 n)) = _
  have e : (win0_8.blk t).view.emb (ix2 0 n) = ix2 0 n := by blk_ext [idx t]
  rw [e]
  exact hkk m c n

theorem blk_ka (c : Dev nD) (t : Fin cfg0.N) : (fun n : Fin 512 => (iblk m c 9 t : Vec Ideal S1x512 .f32) (ix2 0 n)) = fun n => m ((c : Thread nD τ).loc main_arg10) (ix1 n) := by
  funext n
  show V m c main_v12 ((win0_9.blk t).view.emb (ix2 0 n)) = _
  have e : (win0_9.blk t).view.emb (ix2 0 n) = ix2 0 n := by blk_ext [idx t]
  rw [e]
  exact hka m c n

theorem blk_rk (c : Dev nD) (t : Fin cfg0.N) : (fun n : Fin 512 => (iblk m c 10 t : Vec Ideal S1x512 .f32) (ix2 0 n)) = fun n => m ((c : Thread nD τ).loc main_arg11) (ix2 (⟨n.val / 64, by omega⟩ : Fin 8) (⟨n.val % 64, Nat.mod_lt _ (by decide)⟩ : Fin 64)) := by
  funext n
  show V m c main_v13 ((win0_10.blk t).view.emb (ix2 0 n)) = _
  have e : (win0_10.blk t).view.emb (ix2 0 n) = ix2 0 n := by blk_ext [idx t]
  rw [e]
  exact hrk m c n

theorem blk_wproj (c : Dev nD) (t : Fin cfg0.N) : (fun (k : Fin 1024) (j : Fin 1792) => ((iblk m c 2 t : Vec Ideal S1024x1792 .bf16) (ix2 k j) : EReal)) = fun k j => m ((c : Thread nD τ).loc main_arg2) (ix2 k j) := by
  funext k j
  show V m c main_v5 ((win0_2.blk t).view.emb (ix2 k j)) = _
  have e : (win0_2.blk t).view.emb (ix2 k j) = ix2 k j := by blk_ext [idx t]
  rw [e]
  exact wproj m c k j

theorem blk_g2 (c : Dev nD) (t : Fin cfg0.N) : (fun (k : Fin 128) (j : Fin 512) => ((iblk m c 7 t : Vec Ideal S128x512 .bf16) (ix2 k j) : EReal)) = fun k j => m ((c : Thread nD τ).loc main_arg8) (ix2 k j) := by
  funext k j
  show V m c main_v10 ((win0_7.blk t).view.emb (ix2 k j)) = _
  have e : (win0_7.blk t).view.emb (ix2 k j) = ix2 k j := by blk_ext [idx t]
  rw [e]
  exact hg2 m c k j

theorem blk_lora_w (c : Dev nD) (t : Fin cfg0.N) (k : Fin 128) (l : Fin 512) : ((iblk m c 6 t : Vec Ideal S128x1024 .bf16) (ix2 k (⟨l.val, by omega⟩ : Fin 1024)) : EReal) = if h : k.val < 64 then m ((c : Thread nD τ).loc main_arg5) (ix2 (⟨k.val, h⟩ : Fin 64) l) else (0 : EReal) := by
  show V m c main_v9 ((win0_6.blk t).view.emb (ix2 k (⟨l.val, by omega⟩ : Fin 1024))) = _
  have e : (win0_6.blk t).view.emb (ix2 k (⟨l.val, by omega⟩ : Fin 1024)) = (ix2 k (⟨l.val, by omega⟩ : Fin 1024)) := by blk_ext [idx t]
  rw [e]
  exact lora_w m c k l

theorem blk_lora_a (c : Dev nD) (t : Fin cfg0.N) (k : Fin 128) (l : Fin 512) : ((iblk m c 6 t : Vec Ideal S128x1024 .bf16) (ix2 k (⟨512 + l.val, by omega⟩ : Fin 1024)) : EReal) = if h : k.val < 64 then (0 : EReal) else m ((c : Thread nD τ).loc main_arg7) (ix2 (⟨k.val - 64, by omega⟩ : Fin 64) l) := by
  show V m c main_v9 ((win0_6.blk t).view.emb (ix2 k (⟨512 + l.val, by omega⟩ : Fin 1024))) = _
  have e : (win0_6.blk t).view.emb (ix2 k (⟨512 + l.val, by omega⟩ : Fin 1024)) = (ix2 k (⟨512 + l.val, by omega⟩ : Fin 1024)) := by blk_ext [idx t]
  rw [e]
  exact lora_a m c k l

theorem blk_bd (c : Dev nD) (t : Fin cfg0.N) (k j : Fin 512) : (iblk m c 11 t : Vec Ideal S512x512 .bf16) (ix2 k j) = Spec.same k.val j.val := by
  show V m c main_v22 ((win0_11.blk t).view.emb (ix2 k j)) = _
  have e : (win0_11.blk t).view.emb (ix2 k j) = ix2 k j := by blk_ext [idx t]
  rw [e]
  exact mask m c k j

end Cert.PreKernelIdeal.Pre

end
-- ==== Proof.PreReference.lean ====
/-
  The recurrent branch's inputs, the reference: each entry of its nine results as the functions of `Spec` of its mixed row. Row
  `b · 2048 + p` is position `p` of sequence `b`.
-/
module

public import proofs.«01_k».proof.Proof.Gen.PreReferenceIdeal.Read
public import proofs.«01_k».proof.Proof.PreSpec
public import Idealize.ShloMosaic.Lib.Pointwise

@[expose] public section

set_option maxRecDepth 16384

noncomputable section

open Idealize.ShloMosaic Idealize.ShloMosaic.TcCoe Idealize.SL.Sem

namespace Cert.PreReferenceIdeal.Pre

open Cert.PreReferenceIdeal Cert.PreReferenceIdeal.Gen Cert.PreReferenceIdeal.Read

variable (x : Vec Ideal S32768x1024 .f32) (g : Vec Ideal S1024 .f32) (wa : Vec Ideal S1024x1792 .f32) (mu : Vec Ideal S1792 .f32)
  (w0 : Vec Ideal S512 .f32) (w2 : Vec Ideal S64x512 .f32) (a0 : Vec Ideal S512 .f32) (a2 : Vec Ideal S64x512 .f32)
  (g2 : Vec Ideal S128x512 .f32) (kkw ka : Vec Ideal S512 .f32) (rk : Vec Ideal S8x64 .f32)

/-- The projection of row `n`. -/
def urow (n : ℕ) : Fin 1792 → EReal := Spec.preU (Spec.rows (fun n k => x (ix2 n k)) n) (fun k => g (ix1 k)) (fun k j => wa (ix2 k j))

/-- The mixed row `n`. -/
def yrow (n : ℕ) : Fin 1792 → EReal :=
  Spec.preY (Spec.rows fun n k => x (ix2 n k)) (fun k => g (ix1 k)) (fun k j => wa (ix2 k j)) (fun j => mu (ix1 j)) n

/-- The learning rate of row `n`. -/
def arate (n : ℕ) : Fin 512 → EReal := Spec.acol (yrow x g wa mu n) (fun l => a0 (ix1 l)) (fun k l => a2 (ix2 k l))

/-- The key that enters the state. -/
def ekey (n : ℕ) : Fin 512 → EReal := Spec.ecol (yrow x g wa mu n) (fun l => ka (ix1 l)) (arate x g wa mu a0 a2 n)

/-- The bonus' weights, lane by lane. -/
def rkl (l : Fin 512) : EReal := rk (ix2 (⟨l.val / 64, by omega⟩ : Fin 8) (⟨l.val % 64, Nat.mod_lt _ (by decide)⟩ : Fin 64))

theorem hu (b : Fin 16) (p : Fin 2048) (j : Fin 1792) : val_main_v14 (F := Ideal) x g wa (ix3 b p j) = urow x g wa (b.val * 2048 + p.val) j := by
  unfold urow
  rw [Spec.rows_eq _ _ (⟨b.val * 2048 + p.val, by omega⟩ : Fin 32768) rfl]
  simp only [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  pointwise
  rfl

theorem hy (b : Fin 16) (p : Fin 2048) (j : Fin 1792) : val_main_v23 (F := Ideal) x g wa mu (ix3 b p j) = yrow x g wa mu (b.val * 2048 + p.val) j := by
  simp only [val_main_v23, val_main_v22, val_main_v21, val_main_v20, val_main_v19, val_main_v18, val_main_v17, val_main_v16, val_main_v15, val_main_cst_2]
  pointwise
  simp only [hu]
  unfold yrow Spec.preY Spec.mixed Spec.prevU
  by_cases h : p.val < 1
  · rw [dif_pos h, if_pos (by omega)]
    rfl
  · rw [dif_neg h, if_neg (by omega)]
    have e : b.val * 2048 + (p.val - 1) = b.val * 2048 + p.val - 1 := by omega
    simp only [e]
    rfl

theorem hr (b : Fin 16) (p : Fin 2048) (l : Fin 512) : val_main_v24 (F := Ideal) x g wa mu (ix3 b p l) = Spec.rcol (yrow x g wa mu (b.val * 2048 + p.val)) l := by
  simp only [val_main_v24]
  pointwise
  simp only [hy]
  rfl

theorem hk (b : Fin 16) (p : Fin 2048) (l : Fin 512) : val_main_v25 (F := Ideal) x g wa mu (ix3 b p l) = Spec.kcol (yrow x g wa mu (b.val * 2048 + p.val)) l := by
  simp only [val_main_v25]
  pointwise
  simp only [hy]
  rfl

theorem hv (b : Fin 16) (p : Fin 2048) (l : Fin 512) : val_main_v26 (F := Ideal) x g wa mu (ix3 b p l) = Spec.vcol (yrow x g wa mu (b.val * 2048 + p.val)) l := by
  simp only [val_main_v26]
  pointwise
  simp only [hy]
  rfl

theorem hw (b : Fin 16) (p : Fin 2048) (l : Fin 512) : val_main_v41 (F := Ideal) x g wa mu w0 w2 (ix3 b p l) = Spec.wcol (yrow x g wa mu (b.val * 2048 + p.val)) (fun l => w0 (ix1 l)) (fun k l => w2 (ix2 k l)) l := by
  simp only [val_main_v41, val_main_v40, val_main_v39, val_main_v38, val_main_v37, val_main_v36, val_main_v35, val_main_v34, val_main_v33, val_main_v32, val_main_v31, val_main_v30, val_main_v27, val_main_cst_3, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11]
  pointwise
  simp only [hy]
  rw [if_neg (not_not_intro rfl)]
  rfl

theorem ha (b : Fin 16) (p : Fin 2048) (l : Fin 512) : val_main_v51 (F := Ideal) x g wa mu a0 a2 (ix3 b p l) = arate x g wa mu a0 a2 (b.val * 2048 + p.val) l := by
  simp only [val_main_v51, val_main_v50, val_main_v49, val_main_v48, val_main_v47, val_main_v46, val_main_v45, val_main_v44, val_main_v43, val_main_v42, val_main_v28, val_main_cst_4, val_main_cst_5]
  pointwise
  simp only [hy]
  have e : ∀ k : Fin 64, 1600 + k.val = 1536 + (64 + k.val) := fun k => by omega
  simp only [e]
  rfl

theorem hg (b : Fin 16) (p : Fin 2048) (l : Fin 512) : val_main_v58 (F := Ideal) x g wa mu g2 (ix3 b p l) = Spec.gcol (yrow x g wa mu (b.val * 2048 + p.val)) (fun k l => g2 (ix2 k l)) l := by
  simp only [val_main_v58, val_main_v57, val_main_v56, val_main_v55, val_main_v54, val_main_v53, val_main_v52, val_main_v29, val_main_cst_6, val_main_cst_7]
  pointwise
  simp only [hy]
  rfl

theorem huu (b : Fin 16) (p : Fin 2048) (h : Fin 8) (d : Fin 64) : val_main_v70 (F := Ideal) x g wa mu kkw (ix4 b p h d) = Spec.ucol (yrow x g wa mu (b.val * 2048 + p.val)) (fun l => kkw (ix1 l)) (⟨h.val * 64 + d.val, by omega⟩ : Fin 512) := by
  simp only [val_main_v70, val_main_v69, val_main_v68, val_main_v67, val_main_v66, val_main_v65, val_main_v64, val_main_v63, val_main_v62, val_main_v61, val_main_v60, val_main_v59, val_main_cst_8, val_main_cst_9]
  pointwise
  simp only [hk]
  have e : (h.val * 64 + d.val) / 64 = h.val := by omega
  unfold Spec.ucol Spec.head
  simp only [e, Nat.mul_comm 64 h.val]

theorem he (b : Fin 16) (p : Fin 2048) (l : Fin 512) : val_main_v78 (F := Ideal) x g wa mu a0 a2 ka (ix3 b p l) = ekey x g wa mu a0 a2 ka (b.val * 2048 + p.val) l := by
  simp only [val_main_v78, val_main_v77, val_main_v76, val_main_v75, val_main_v74, val_main_v73, val_main_v72, val_main_v71, val_main_cst_10, val_main_cst_11]
  pointwise
  simp only [hk, ha]
  rfl

theorem hb (b : Fin 16) (p : Fin 2048) (h : Fin 8) (d : Fin 64) : val_main_v90 (F := Ideal) x g wa mu a0 a2 ka rk (ix4 b p h d) = Spec.bcol (yrow x g wa mu (b.val * 2048 + p.val)) (ekey x g wa mu a0 a2 ka (b.val * 2048 + p.val)) (rkl rk) (⟨h.val * 64 + d.val, by omega⟩ : Fin 512) := by
  simp only [val_main_v90, val_main_v89, val_main_v88, val_main_v87, val_main_v86, val_main_v85, val_main_v84, val_main_v83, val_main_v79, val_main_v80, val_main_v81, val_main_cst_12]
  pointwise
  simp only [hr, hv, he]
  have e : (h.val * 64 + d.val) / 64 = h.val := by omega
  have e1 : ∀ d : Fin 64, (h.val * 64 + d.val) / 64 = h.val := fun d => by omega
  have e2 : ∀ d : Fin 64, (h.val * 64 + d.val) % 64 = d.val := fun d => by omega
  unfold Spec.bcol Spec.head rkl
  simp only [e, Nat.mul_comm 64 h.val, e1, e2, Fin.eta]

theorem at12 (R : Fin 8192) (p : Fin 2048) : val_main_v96 (F := Ideal) x g wa mu (ix2 R p) = Spec.rcol (yrow x g wa mu (R.val / 512 * 2048 + p.val)) (⟨R.val % 512, Nat.mod_lt _ (by decide)⟩ : Fin 512) := by
  simp only [val_main_v96, val_main_v95]
  pointwise
  simp only [hr]

theorem at13 (R : Fin 8192) (p : Fin 2048) : val_main_v98 (F := Ideal) x g wa mu w0 w2 (ix2 R p) = Spec.wcol (yrow x g wa mu (R.val / 512 * 2048 + p.val)) (fun l => w0 (ix1 l)) (fun k l => w2 (ix2 k l)) (⟨R.val % 512, Nat.mod_lt _ (by decide)⟩ : Fin 512) := by
  simp only [val_main_v98, val_main_v97]
  pointwise
  simp only [hw]

theorem at14 (R : Fin 8192) (p : Fin 2048) : val_main_v100 (F := Ideal) x g wa mu a0 a2 ka (ix2 R p) = ekey x g wa mu a0 a2 ka (R.val / 512 * 2048 + p.val) (⟨R.val % 512, Nat.mod_lt _ (by decide)⟩ : Fin 512) := by
  simp only [val_main_v100, val_main_v99]
  pointwise
  simp only [he]

theorem at15 (R : Fin 8192) (p : Fin 2048) : val_main_v102 (F := Ideal) x g wa mu (ix2 R p) = Spec.vcol (yrow x g wa mu (R.val / 512 * 2048 + p.val)) (⟨R.val % 512, Nat.mod_lt _ (by decide)⟩ : Fin 512) := by
  simp only [val_main_v102, val_main_v101]
  pointwise
  simp only [hv]

theorem at16 (R : Fin 8192) (p : Fin 2048) : val_main_v105 (F := Ideal) x g wa mu kkw (ix2 R p) = -Spec.ucol (yrow x g wa mu (R.val / 512 * 2048 + p.val)) (fun l => kkw (ix1 l)) (⟨R.val % 512, Nat.mod_lt _ (by decide)⟩ : Fin 512) := by
  simp only [val_main_v105, val_main_v104, val_main_v103, val_main_v91]
  pointwise
  simp only [huu]
  have e : R.val % 512 / 64 * 64 + R.val % 512 % 64 = R.val % 512 := by omega
  simp only [e]

theorem at17 (R : Fin 8192) (p : Fin 2048) : val_main_v108 (F := Ideal) x g wa mu a0 a2 kkw (ix2 R p) = Spec.ucol (yrow x g wa mu (R.val / 512 * 2048 + p.val)) (fun l => kkw (ix1 l)) (⟨R.val % 512, Nat.mod_lt _ (by decide)⟩ : Fin 512) * arate x g wa mu a0 a2 (R.val / 512 * 2048 + p.val) (⟨R.val % 512, Nat.mod_lt _ (by decide)⟩ : Fin 512) := by
  simp only [val_main_v108, val_main_v107, val_main_v106, val_main_v92, val_main_v82]
  pointwise
  simp only [huu, ha]
  have e : R.val % 512 / 64 * 64 + R.val % 512 % 64 = R.val % 512 := by omega
  simp only [e]

theorem at18 (n : Fin 32768) (l : Fin 512) : val_main_v109 (F := Ideal) x g wa mu g2 (ix2 n l) = Spec.gcol (yrow x g wa mu n.val) (fun k l => g2 (ix2 k l)) l := by
  simp only [val_main_v109]
  pointwise
  simp only [hg]
  have e : n.val / 2048 * 2048 + n.val % 2048 = n.val := by omega
  simp only [e]

theorem at19 (n : Fin 32768) (l : Fin 512) : val_main_v110 (F := Ideal) x g wa mu a0 a2 ka rk (ix2 n l) = Spec.bcol (yrow x g wa mu n.val) (ekey x g wa mu a0 a2 ka n.val) (rkl rk) l := by
  simp only [val_main_v110]
  pointwise
  simp only [hb]
  have e : n.val / 2048 * 2048 + n.val % 2048 = n.val := by omega
  have e2 : l.val / 64 * 64 + l.val % 64 = l.val := by omega
  simp only [e, e2]

theorem at20 (b : Fin 16) (j : Fin 1792) : val_main_v111 (F := Ideal) x g wa (ix3 b 0 j) = urow x g wa (b.val * 2048 + 2047) j := by
  simp only [val_main_v111, val_main_v94, val_main_v93]
  pointwise
  simp only [hu]
  rfl

end Cert.PreReferenceIdeal.Pre

end
-- ==== Proof.Pre.lean ====
/-
  The inputs of the recurrent branch. A grid point handles 512 rows in two pieces of 256; the row before a piece is the last of the piece
  before it, and that before the first piece comes from a scratch that the point before left, or is zero where a sequence starts
  (every fourth point). Here: what the scratch holds after a point, what the nine result arrays hold after the run, and that they
  are the reference's arrays. No precondition.
-/
module

public import proofs.«01_k».proof.Defs
public import proofs.«01_k».proof.Proof.PreTiles
public import proofs.«01_k».proof.Proof.PreHost
public import proofs.«01_k».proof.Proof.PreReference
public import proofs.«01_k».proof.Proof.Gen.PreReferenceIdeal.Run
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.PreKernelIdeal.Pre

open Cert.PreKernelIdeal Cert.PreKernelIdeal.Gen

variable (m : (ℓ : Loc nD τ sig) → Buf (Elt Ideal) ℓ) (ρ : Dev nD → PrngReg)

/-- The input rows of device `c`. -/
def X (c : Dev nD) : ℕ → Fin 1024 → EReal := Spec.rows fun n k => m ((c : Thread nD τ).loc main_arg0) (ix2 n k)

/-- The norm's weight. -/
def gv (c : Dev nD) : Fin 1024 → EReal := fun k => m ((c : Thread nD τ).loc main_arg1) (ix1 k)

/-- The projection. -/
def wv (c : Dev nD) : Fin 1024 → Fin 1792 → EReal := fun k j => m ((c : Thread nD τ).loc main_arg2) (ix2 k j)

/-- The mixing weights. -/
def mv (c : Dev nD) : Fin 1792 → EReal := fun j => m ((c : Thread nD τ).loc main_arg3) (ix1 j)

/-- The mixed row `n`. -/
def Y (c : Dev nD) (n : ℕ) : Fin 1792 → EReal := Spec.preY (X m c) (gv m c) (wv m c) (mv m c) n

/-- The learning rate of row `n`. -/
def ar (c : Dev nD) (n : ℕ) : Fin 512 → EReal := Spec.acol (Y m c n) (fun l => m ((c : Thread nD τ).loc main_arg6) (ix1 l)) (fun k l => m ((c : Thread nD τ).loc main_arg7) (ix2 k l))

/-- The key that enters the state. -/
def ek (c : Dev nD) (n : ℕ) : Fin 512 → EReal := Spec.ecol (Y m c n) (fun l => m ((c : Thread nD τ).loc main_arg10) (ix1 l)) (ar m c n)

/-- The logarithm of the decay. -/
def dl (c : Dev nD) (n : ℕ) : Fin 512 → EReal := Spec.wcol (Y m c n) (fun l => m ((c : Thread nD τ).loc main_arg4) (ix1 l)) (fun k l => m ((c : Thread nD τ).loc main_arg5) (ix2 k l))

/-- The unit key. -/
def uk (c : Dev nD) (n : ℕ) : Fin 512 → EReal := Spec.ucol (Y m c n) (fun l => m ((c : Thread nD τ).loc main_arg9) (ix1 l))

/-- The gate. -/
def gt (c : Dev nD) (n : ℕ) : Fin 512 → EReal := Spec.gcol (Y m c n) (fun k l => m ((c : Thread nD τ).loc main_arg8) (ix2 k l))

/-- The bonus. -/
def bn (c : Dev nD) (n : ℕ) : Fin 512 → EReal := Spec.bcol (Y m c n) (ek m c n)
  (fun l => m ((c : Thread nD τ).loc main_arg11) (ix2 (⟨l.val / 64, by omega⟩ : Fin 8) (⟨l.val % 64, Nat.mod_lt _ (by decide)⟩ : Fin 64)))

/-- Row `r` of the piece that starts at row `q` of point `t`'s block. -/
theorem row (c : Dev nD) (t : Fin cfg0.N) (q : ℕ) (hq : q + 256 ≤ 512)
    (inb : ∀ a, (![q, 0] : Fin 2 → ℕ) a + (![256, 1024] : Fin 2 → ℕ) a ≤ S512x1024.size a) (r : Fin 256) :
    (fun k : Fin 1024 => View.ld (iblk m c 0 t) (Rect.unit ![q, 0] ![256, 1024] inb) (ix2 r k)) = X m c (512 * t.val + q + r.val) := by
  have ht := lt_N t
  funext k
  simp only [X, Spec.rows]
  blk_point [iblk, V, idx t]

/-- A load of the scratch's first row. -/
theorem ld_row (Z : Vec Ideal S8x1792 .f32) (inb : ∀ a, (![0, 0] : Fin 2 → ℕ) a + (![1, 1792] : Fin 2 → ℕ) a ≤ S8x1792.size a) (j : Fin 1792) :
    View.ld Z (Rect.unit ![0, 0] ![1, 1792] inb) (ix2 0 j) = Z (ix2 0 j) := by
  pointwise

theorem keep (c : Dev nD) (t : Fin cfg0.N) (j : Fin 1792) :
    k0_pay31 (k0_pay28 (View.ld (iblk m c 0 t) (Rect.unit ![256, 0] ![256, 1024] inb_S512x1024_S256x1024_256_0)) (iblk m c 1 t)) (k0_pay29 (iblk m c 2 t)) (constant S256x1792 .f32 0x00000000#32) (ix2 0 j)
      = Spec.preU (X m c (512 * t.val + 511)) (gv m c) (wv m c) j := by
  refine (last1 _ _ _ j).trans ?_
  rw [row m c t 256 (by omega) _ 255, blk_gain, blk_wproj]
  rfl

/-- After point `t` the scratch's first row is the projection of the point's last row. -/
theorem scratch (c : Dev nD) (t : Fin cfg0.N) (j : Fin 1792) :
    (outsAt0 m c t.val t.isLt).2.2.2.2.2.2.2.2.2 (ix2 0 j) = Spec.preU (X m c (512 * t.val + 511)) (gv m c) (wv m c) j := by
  refine Eq.trans ?_ ((last1_keep _ j).trans (keep m c t j))
  by_cases h : t.val % 4 = 0
  · rw [outsAt0_A m c t h]
    frame_out
    have hy : (Rect.unit (s := S8x1792) ![0, 0] ![1, 1792] inb_S8x1792_S1x1792_0_0).emb (ix2 0 j) = ix2 0 j := by
      funext a
      match a with
      | 0 => exact Fin.ext (by show 0 + 1 * 0 = 0; omega)
      | 1 => exact Fin.ext (by show 0 + 1 * j.val = j.val; omega)
    rw [← hy]
    exact View.canon_cons_emb _ _ _ _
  · rw [outsAt0_B m c t h]
    frame_out
    exact View.read_writes_cons_rows_of_mem _ _ _ _ _ _ (ix2 0 j) rfl (Nat.zero_add _).symm rfl

/-- What point `t` leaves in the state's block: the projection of its last row. -/
theorem state (c : Dev nD) (t : Fin cfg0.N) (j : Fin 1792) :
    (outsAt0 m c t.val t.isLt).2.2.2.2.2.2.2.2.1 (ix3 0 0 j) = Spec.preU (X m c (512 * t.val + 511)) (gv m c) (wv m c) j := by
  refine Eq.trans ?_ ((last1_state _ j).trans (keep m c t j))
  by_cases h : t.val % 4 = 0
  · rw [outsAt0_A m c t h]
    frame_out
    rfl
  · rw [outsAt0_B m c t h]
    frame_out
    rfl

/-- The first piece's mixed rows, from the row before it. -/
theorem row0 (c : Dev nD) (t : Fin cfg0.N) (h : Vec Ideal S1x1792 .f32)
    (hh : ∀ j, h (ix2 0 j) = Spec.prevU (X m c) (gv m c) (wv m c) (512 * t.val) j) (r : Fin 256) :
    (fun j => k0_pay7 (k0_pay4 (View.ld (iblk m c 0 t) (Rect.unit ![0, 0] ![256, 1024] inb_S512x1024_S256x1024_0_0)) (iblk m c 1 t) (iblk m c 2 t)) (k0_pay6 h (View.ld (iblk m c 0 t) (Rect.unit ![0, 0] ![256, 1024] inb_S512x1024_S256x1024_0_0)) (iblk m c 1 t) (iblk m c 2 t)) (iblk m c 3 t) (ix2 r j))
      = Y m c (512 * t.val + r.val) := by
  funext j
  refine (y0 _ _ _ _ _ r j).trans ?_
  rw [blk_gain, blk_wproj, blk_mu]
  exact Spec.mix_eq (X m c) _ (gv m c) (wv m c) (mv m c) _ (512 * t.val) (by omega) (fun r => row m c t 0 (by omega) _ r) hh r j

/-- The second piece's mixed rows. -/
theorem row1 (c : Dev nD) (t : Fin cfg0.N) (r : Fin 256) :
    (fun j => k0_pay32 (k0_pay5 (View.ld (iblk m c 0 t) (Rect.unit ![0, 0] ![256, 1024] inb_S512x1024_S256x1024_0_0)) (iblk m c 1 t) (iblk m c 2 t)) (k0_pay28 (View.ld (iblk m c 0 t) (Rect.unit ![256, 0] ![256, 1024] inb_S512x1024_S256x1024_256_0)) (iblk m c 1 t)) (k0_pay29 (iblk m c 2 t))
      (constant S256x1792 .f32 0x00000000#32) (iblk m c 3 t) (ix2 r j))
      = Y m c (512 * t.val + 256 + r.val) := by
  funext j
  refine (y1 _ _ _ _ _ r j).trans ?_
  rw [blk_gain, blk_wproj, blk_mu]
  refine Spec.mix_eq (X m c) _ (gv m c) (wv m c) (mv m c) _ (512 * t.val + 256) (by omega) (fun r => row m c t 256 (by omega) _ r) (fun j => ?_) r j
  refine (last0 _ _ _ j).trans ?_
  rw [row m c t 0 (by omega) _ 255, blk_gain, blk_wproj, Spec.prevU, if_neg (by omega)]
  rfl

/-- What comes before a point's first row: zeros where a sequence starts, else the scratch. -/
theorem before_A (c : Dev nD) (t : Fin cfg0.N) (h : t.val % 4 = 0) (j : Fin 1792) :
    Spec.prevU (X m c) (gv m c) (wv m c) (512 * t.val) j = 0 := by
  rw [Spec.prevU, if_pos (by omega)]

theorem before_B (c : Dev nD) (t : Fin cfg0.N) (h : ¬ t.val % 4 = 0) (j : Fin 1792) :
    (outsAt0 m c (t.val - 1) (Nat.lt_of_le_of_lt (Nat.sub_le _ _) t.isLt)).2.2.2.2.2.2.2.2.2 (ix2 0 j)
      = Spec.prevU (X m c) (gv m c) (wv m c) (512 * t.val) j := by
  refine (scratch m c ⟨t.val - 1, by omega⟩ j).trans ?_
  rw [Spec.prevU, if_neg (by omega), show 512 * t.val - 1 = 512 * (t.val - 1) + 511 by omega]

theorem out12 (c : Dev nD) (t : Fin cfg0.N) (l r : Fin 512) : (outsAt0 m c t.val t.isLt).1 (ix2 l r) = Spec.rcol (Y m c (512 * t.val + r.val)) l := by
  by_cases h : t.val % 4 = 0
  · have hb := before_A m c t h
    rw [outsAt0_A m c t h]
    frame_out
    clear h
    canon_tiles x h
    case piece0 =>
      idx_vars x
      have e : r.val = 256 + x1.val := h1
      have e' : l = x0 := Fin.ext h0
      rw [e, e', ← Nat.add_assoc]
      refine (r_1 (r := x1) (l := x0)  ..).trans ?_
      erw [row1 m c t x1]
    case piece1 =>
      idx_vars x
      have e : r.val = x1.val := h1
      have e' : l = x0 := Fin.ext h0
      rw [e, e']
      refine (r_0 (r := x1) (l := x0)  ..).trans ?_
      erw [row0 m c t _ (fun j => ((congrFun (View.readCov_fill _ _ _ _ _ (by decide)) _).trans ((ld_row _ _ j).trans (by pointwise [k0_pay3]))).trans (hb j).symm) x1]
  · have hb := before_B m c t h
    rw [outsAt0_B m c t h]
    frame_out
    clear h
    canon_tiles x h
    case piece0 =>
      idx_vars x
      have e : r.val = 256 + x1.val := h1
      have e' : l = x0 := Fin.ext h0
      rw [e, e', ← Nat.add_assoc]
      refine (r_1 (r := x1) (l := x0)  ..).trans ?_
      erw [row1 m c t x1]
    case piece1 =>
      idx_vars x
      have e : r.val = x1.val := h1
      have e' : l = x0 := Fin.ext h0
      rw [e, e']
      simp only [read_unread_whole]
      refine (r_0 (r := x1) (l := x0)  ..).trans ?_
      erw [row0 m c t _ (fun j => (ld_row _ inb_S8x1792_S1x1792_0_0 j).trans (hb j)) x1]

theorem out13 (c : Dev nD) (t : Fin cfg0.N) (l r : Fin 512) : (outsAt0 m c t.val t.isLt).2.1 (ix2 l r) = dl m c (512 * t.val + r.val) l := by
  by_cases h : t.val % 4 = 0
  · have hb := before_A m c t h
    rw [outsAt0_A m c t h]
    frame_out
    clear h
    canon_tiles x h
    case piece0 =>
      idx_vars x
      have e : r.val = 256 + x1.val := h1
      have e' : l = x0 := Fin.ext h0
      rw [e, e', ← Nat.add_assoc]
      refine (w_1 (r := x1) (l := x0) (w2 := fun k l => m ((c : Thread nD τ).loc main_arg5) (ix2 k l)) (hw := blk_lora_w m c t) ..).trans ?_
      erw [row1 m c t x1]
      rw [blk_w0]
      rfl
    case piece1 =>
      idx_vars x
      have e : r.val = x1.val := h1
      have e' : l = x0 := Fin.ext h0
      rw [e, e']
      refine (w_0 (r := x1) (l := x0) (w2 := fun k l => m ((c : Thread nD τ).loc main_arg5) (ix2 k l)) (hw := blk_lora_w m c t) ..).trans ?_
      erw [row0 m c t _ (fun j => ((congrFun (View.readCov_fill _ _ _ _ _ (by decide)) _).trans ((ld_row _ _ j).trans (by pointwise [k0_pay3]))).trans (hb j).symm) x1]
      rw [blk_w0]
      rfl
  · have hb := before_B m c t h
    rw [outsAt0_B m c t h]
    frame_out
    clear h
    canon_tiles x h
    case piece0 =>
      idx_vars x
      have e : r.val = 256 + x1.val := h1
      have e' : l = x0 := Fin.ext h0
      rw [e, e', ← Nat.add_assoc]
      refine (w_1 (r := x1) (l := x0) (w2 := fun k l => m ((c : Thread nD τ).loc main_arg5) (ix2 k l)) (hw := blk_lora_w m c t) ..).trans ?_
      erw [row1 m c t x1]
      rw [blk_w0]
      rfl
    case piece1 =>
      idx_vars x
      have e : r.val = x1.val := h1
      have e' : l = x0 := Fin.ext h0
      rw [e, e']
      simp only [read_unread_whole]
      refine (w_0 (r := x1) (l := x0) (w2 := fun k l => m ((c : Thread nD τ).loc main_arg5) (ix2 k l)) (hw := blk_lora_w m c t) ..).trans ?_
      erw [row0 m c t _ (fun j => (ld_row _ inb_S8x1792_S1x1792_0_0 j).trans (hb j)) x1]
      rw [blk_w0]
      rfl

theorem out14 (c : Dev nD) (t : Fin cfg0.N) (l r : Fin 512) : (outsAt0 m c t.val t.isLt).2.2.1 (ix2 l r) = ek m c (512 * t.val + r.val) l := by
  by_cases h : t.val % 4 = 0
  · have hb := before_A m c t h
    rw [outsAt0_A m c t h]
    frame_out
    clear h
    canon_tiles x h
    case piece0 =>
      idx_vars x
      have e : r.val = 256 + x1.val := h1
      have e' : l = x0 := Fin.ext h0
      rw [e, e', ← Nat.add_assoc]
      refine (e_1 (r := x1) (l := x0) (a2 := fun k l => m ((c : Thread nD τ).loc main_arg7) (ix2 k l)) (ha := blk_lora_a m c t) ..).trans ?_
      erw [row1 m c t x1]
      rw [blk_ka, blk_a0]
      rfl
    case piece1 =>
      idx_vars x
      have e : r.val = x1.val := h1
      have e' : l = x0 := Fin.ext h0
      rw [e, e']
      refine (e_0 (r := x1) (l := x0) (a2 := fun k l => m ((c : Thread nD τ).loc main_arg7) (ix2 k l)) (ha := blk_lora_a m c t) ..).trans ?_
      erw [row0 m c t _ (fun j => ((congrFun (View.readCov_fill _ _ _ _ _ (by decide)) _).trans ((ld_row _ _ j).trans (by pointwise [k0_pay3]))).trans (hb j).symm) x1]
      rw [blk_ka, blk_a0]
      rfl
  · have hb := before_B m c t h
    rw [outsAt0_B m c t h]
    frame_out
    clear h
    canon_tiles x h
    case piece0 =>
      idx_vars x
      have e : r.val = 256 + x1.val := h1
      have e' : l = x0 := Fin.ext h0
      rw [e, e', ← Nat.add_assoc]
      refine (e_1 (r := x1) (l := x0) (a2 := fun k l => m ((c : Thread nD τ).loc main_arg7) (ix2 k l)) (ha := blk_lora_a m c t) ..).trans ?_
      erw [row1 m c t x1]
      rw [blk_ka, blk_a0]
      rfl
    case piece1 =>
      idx_vars x
      have e : r.val = x1.val := h1
      have e' : l = x0 := Fin.ext h0
      rw [e, e']
      simp only [read_unread_whole]
      refine (e_0 (r := x1) (l := x0) (a2 := fun k l => m ((c : Thread nD τ).loc main_arg7) (ix2 k l)) (ha := blk_lora_a m c t) ..).trans ?_
      erw [row0 m c t _ (fun j => (ld_row _ inb_S8x1792_S1x1792_0_0 j).trans (hb j)) x1]
      rw [blk_ka, blk_a0]
      rfl

theorem out15 (c : Dev nD) (t : Fin cfg0.N) (l r : Fin 512) : (outsAt0 m c t.val t.isLt).2.2.2.1 (ix2 l r) = Spec.vcol (Y m c (512 * t.val + r.val)) l := by
  by_cases h : t.val % 4 = 0
  · have hb := before_A m c t h
    rw [outsAt0_A m c t h]
    frame_out
    clear h
    canon_tiles x h
    case piece0 =>
      idx_vars x
      have e : r.val = 256 + x1.val := h1
      have e' : l = x0 := Fin.ext h0
      rw [e, e', ← Nat.add_assoc]
      refine (v_1 (r := x1) (l := x0)  ..).trans ?_
      erw [row1 m c t x1]
    case piece1 =>
      idx_vars x
      have e : r.val = x1.val := h1
      have e' : l = x0 := Fin.ext h0
      rw [e, e']
      refine (v_0 (r := x1) (l := x0)  ..).trans ?_
      erw [row0 m c t _ (fun j => ((congrFun (View.readCov_fill _ _ _ _ _ (by decide)) _).trans ((ld_row _ _ j).trans (by pointwise [k0_pay3]))).trans (hb j).symm) x1]
  · have hb := before_B m c t h
    rw [outsAt0_B m c t h]
    frame_out
    clear h
    canon_tiles x h
    case piece0 =>
      idx_vars x
      have e : r.val = 256 + x1.val := h1
      have e' : l = x0 := Fin.ext h0
      rw [e, e', ← Nat.add_assoc]
      refine (v_1 (r := x1) (l := x0)  ..).trans ?_
      erw [row1 m c t x1]
    case piece1 =>
      idx_vars x
      have e : r.val = x1.val := h1
      have e' : l = x0 := Fin.ext h0
      rw [e, e']
      simp only [read_unread_whole]
      refine (v_0 (r := x1) (l := x0)  ..).trans ?_
      erw [row0 m c t _ (fun j => (ld_row _ inb_S8x1792_S1x1792_0_0 j).trans (hb j)) x1]

theorem out16 (c : Dev nD) (t : Fin cfg0.N) (l r : Fin 512) : (outsAt0 m c t.val t.isLt).2.2.2.2.1 (ix2 l r) = -uk m c (512 * t.val + r.val) l := by
  by_cases h : t.val % 4 = 0
  · have hb := before_A m c t h
    rw [outsAt0_A m c t h]
    frame_out
    clear h
    canon_tiles x h
    case piece0 =>
      idx_vars x
      have e : r.val = 256 + x1.val := h1
      have e' : l = x0 := Fin.ext h0
      rw [e, e', ← Nat.add_assoc]
      refine (na_1 (r := x1) (l := x0) (hbd := blk_bd m c t) ..).trans ?_
      erw [row1 m c t x1]
      rw [blk_kk]
      rfl
    case piece1 =>
      idx_vars x
      have e : r.val = x1.val := h1
      have e' : l = x0 := Fin.ext h0
      rw [e, e']
      refine (na_0 (r := x1) (l := x0) (hbd := blk_bd m c t) ..).trans ?_
      erw [row0 m c t _ (fun j => ((congrFun (View.readCov_fill _ _ _ _ _ (by decide)) _).trans ((ld_row _ _ j).trans (by pointwise [k0_pay3]))).trans (hb j).symm) x1]
      rw [blk_kk]
      rfl
  · have hb := before_B m c t h
    rw [outsAt0_B m c t h]
    frame_out
    clear h
    canon_tiles x h
    case piece0 =>
      idx_vars x
      have e : r.val = 256 + x1.val := h1
      have e' : l = x0 := Fin.ext h0
      rw [e, e', ← Nat.add_assoc]
      refine (na_1 (r := x1) (l := x0) (hbd := blk_bd m c t) ..).trans ?_
      erw [row1 m c t x1]
      rw [blk_kk]
      rfl
    case piece1 =>
      idx_vars x
      have e : r.val = x1.val := h1
      have e' : l = x0 := Fin.ext h0
      rw [e, e']
      simp only [read_unread_whole]
      refine (na_0 (r := x1) (l := x0) (hbd := blk_bd m c t) ..).trans ?_
      erw [row0 m c t _ (fun j => (ld_row _ inb_S8x1792_S1x1792_0_0 j).trans (hb j)) x1]
      rw [blk_kk]
      rfl

theorem out17 (c : Dev nD) (t : Fin cfg0.N) (l r : Fin 512) : (outsAt0 m c t.val t.isLt).2.2.2.2.2.1 (ix2 l r) = uk m c (512 * t.val + r.val) l * ar m c (512 * t.val + r.val) l := by
  by_cases h : t.val % 4 = 0
  · have hb := before_A m c t h
    rw [outsAt0_A m c t h]
    frame_out
    clear h
    canon_tiles x h
    case piece0 =>
      idx_vars x
      have e : r.val = 256 + x1.val := h1
      have e' : l = x0 := Fin.ext h0
      rw [e, e', ← Nat.add_assoc]
      refine (nb_1 (r := x1) (l := x0) (hbd := blk_bd m c t) (a2 := fun k l => m ((c : Thread nD τ).loc main_arg7) (ix2 k l)) (ha := blk_lora_a m c t) ..).trans ?_
      erw [row1 m c t x1]
      rw [blk_kk, blk_a0]
      rfl
    case piece1 =>
      idx_vars x
      have e : r.val = x1.val := h1
      have e' : l = x0 := Fin.ext h0
      rw [e, e']
      refine (nb_0 (r := x1) (l := x0) (hbd := blk_bd m c t) (a2 := fun k l => m ((c : Thread nD τ).loc main_arg7) (ix2 k l)) (ha := blk_lora_a m c t) ..).trans ?_
      erw [row0 m c t _ (fun j => ((congrFun (View.readCov_fill _ _ _ _ _ (by decide)) _).trans ((ld_row _ _ j).trans (by pointwise [k0_pay3]))).trans (hb j).symm) x1]
      rw [blk_kk, blk_a0]
      rfl
  · have hb := before_B m c t h
    rw [outsAt0_B m c t h]
    frame_out
    clear h
    canon_tiles x h
    case piece0 =>
      idx_vars x
      have e : r.val = 256 + x1.val := h1
      have e' : l = x0 := Fin.ext h0
      rw [e, e', ← Nat.add_assoc]
      refine (nb_1 (r := x1) (l := x0) (hbd := blk_bd m c t) (a2 := fun k l => m ((c : Thread nD τ).loc main_arg7) (ix2 k l)) (ha := blk_lora_a m c t) ..).trans ?_
      erw [row1 m c t x1]
      rw [blk_kk, blk_a0]
      rfl
    case piece1 =>
      idx_vars x
      have e : r.val = x1.val := h1
      have e' : l = x0 := Fin.ext h0
      rw [e, e']
      simp only [read_unread_whole]
      refine (nb_0 (r := x1) (l := x0) (hbd := blk_bd m c t) (a2 := fun k l => m ((c : Thread nD τ).loc main_arg7) (ix2 k l)) (ha := blk_lora_a m c t) ..).trans ?_
      erw [row0 m c t _ (fun j => (ld_row _ inb_S8x1792_S1x1792_0_0 j).trans (hb j)) x1]
      rw [blk_kk, blk_a0]
      rfl

theorem out18 (c : Dev nD) (t : Fin cfg0.N) (l r : Fin 512) : (outsAt0 m c t.val t.isLt).2.2.2.2.2.2.1 (ix2 r l) = gt m c (512 * t.val + r.val) l := by
  by_cases h : t.val % 4 = 0
  · have hb := before_A m c t h
    rw [outsAt0_A m c t h]
    frame_out
    clear h
    canon_tiles x h
    case piece0 =>
      idx_vars x
      have e : r.val = 256 + x0.val := h0
      have e' : l = x1 := Fin.ext h1
      rw [e, e', ← Nat.add_assoc]
      refine (g_1 (r := x0) (l := x1)  ..).trans ?_
      erw [row1 m c t x0]
      rw [blk_g2]
      rfl
    case piece1 =>
      idx_vars x
      have e : r.val = x0.val := h0
      have e' : l = x1 := Fin.ext h1
      rw [e, e']
      refine (g_0 (r := x0) (l := x1)  ..).trans ?_
      erw [row0 m c t _ (fun j => ((congrFun (View.readCov_fill _ _ _ _ _ (by decide)) _).trans ((ld_row _ _ j).trans (by pointwise [k0_pay3]))).trans (hb j).symm) x0]
      rw [blk_g2]
      rfl
  · have hb := before_B m c t h
    rw [outsAt0_B m c t h]
    frame_out
    clear h
    canon_tiles x h
    case piece0 =>
      idx_vars x
      have e : r.val = 256 + x0.val := h0
      have e' : l = x1 := Fin.ext h1
      rw [e, e', ← Nat.add_assoc]
      refine (g_1 (r := x0) (l := x1)  ..).trans ?_
      erw [row1 m c t x0]
      rw [blk_g2]
      rfl
    case piece1 =>
      idx_vars x
      have e : r.val = x0.val := h0
      have e' : l = x1 := Fin.ext h1
      rw [e, e']
      simp only [read_unread_whole]
      refine (g_0 (r := x0) (l := x1)  ..).trans ?_
      erw [row0 m c t _ (fun j => (ld_row _ inb_S8x1792_S1x1792_0_0 j).trans (hb j)) x0]
      rw [blk_g2]
      rfl

theorem out19 (c : Dev nD) (t : Fin cfg0.N) (l r : Fin 512) : (outsAt0 m c t.val t.isLt).2.2.2.2.2.2.2.1 (ix2 r l) = bn m c (512 * t.val + r.val) l := by
  by_cases h : t.val % 4 = 0
  · have hb := before_A m c t h
    rw [outsAt0_A m c t h]
    frame_out
    clear h
    canon_tiles x h
    case piece0 =>
      idx_vars x
      have e : r.val = 256 + x0.val := h0
      have e' : l = x1 := Fin.ext h1
      rw [e, e', ← Nat.add_assoc]
      refine (b_1 (r := x0) (l := x1) (hbd := blk_bd m c t) (a2 := fun k l => m ((c : Thread nD τ).loc main_arg7) (ix2 k l)) (ha := blk_lora_a m c t) ..).trans ?_
      erw [row1 m c t x0]
      rw [blk_ka, blk_a0, blk_rk]
      rfl
    case piece1 =>
      idx_vars x
      have e : r.val = x0.val := h0
      have e' : l = x1 := Fin.ext h1
      rw [e, e']
      refine (b_0 (r := x0) (l := x1) (hbd := blk_bd m c t) (a2 := fun k l => m ((c : Thread nD τ).loc main_arg7) (ix2 k l)) (ha := blk_lora_a m c t) ..).trans ?_
      erw [row0 m c t _ (fun j => ((congrFun (View.readCov_fill _ _ _ _ _ (by decide)) _).trans ((ld_row _ _ j).trans (by pointwise [k0_pay3]))).trans (hb j).symm) x0]
      rw [blk_ka, blk_a0, blk_rk]
      rfl
  · have hb := before_B m c t h
    rw [outsAt0_B m c t h]
    frame_out
    clear h
    canon_tiles x h
    case piece0 =>
      idx_vars x
      have e : r.val = 256 + x0.val := h0
      have e' : l = x1 := Fin.ext h1
      rw [e, e', ← Nat.add_assoc]
      refine (b_1 (r := x0) (l := x1) (hbd := blk_bd m c t) (a2 := fun k l => m ((c : Thread nD τ).loc main_arg7) (ix2 k l)) (ha := blk_lora_a m c t) ..).trans ?_
      erw [row1 m c t x0]
      rw [blk_ka, blk_a0, blk_rk]
      rfl
    case piece1 =>
      idx_vars x
      have e : r.val = x0.val := h0
      have e' : l = x1 := Fin.ext h1
      rw [e, e']
      simp only [read_unread_whole]
      refine (b_0 (r := x0) (l := x1) (hbd := blk_bd m c t) (a2 := fun k l => m ((c : Thread nD τ).loc main_arg7) (ix2 k l)) (ha := blk_lora_a m c t) ..).trans ?_
      erw [row0 m c t _ (fun j => (ld_row _ inb_S8x1792_S1x1792_0_0 j).trans (hb j)) x0]
      rw [blk_ka, blk_a0, blk_rk]
      rfl

/-- The transposed layout: head and lane within the batch entry's 512 rows, by position. -/
def lay (f : ℕ → Fin 512 → EReal) : Vec Ideal S8192x2048 .f32 := fun i =>
  f ((i 0).val / 512 * 2048 + (i 1).val) (⟨(i 0).val % 512, Nat.mod_lt _ (by decide)⟩ : Fin 512)

theorem lay_at (f : ℕ → Fin 512 → EReal) (t : ℕ) (ht : t < 64) (l r : Fin 512) :
    lay f (ix2 (⟨512 * (t / 4) + l.val, by omega⟩ : Fin 8192) (⟨512 * (t % 4) + r.val, by omega⟩ : Fin 2048)) = f (512 * t + r.val) l := by
  show f ((512 * (t / 4) + l.val) / 512 * 2048 + (512 * (t % 4) + r.val)) (⟨(512 * (t / 4) + l.val) % 512, Nat.mod_lt _ (by decide)⟩ : Fin 512) = _
  have e : (⟨(512 * (t / 4) + l.val) % 512, Nat.mod_lt _ (by decide)⟩ : Fin 512) = l := Fin.ext (by show (512 * (t / 4) + l.val) % 512 = l.val; omega)
  rw [e, show (512 * (t / 4) + l.val) / 512 * 2048 + (512 * (t % 4) + r.val) = 512 * t + r.val by omega]

/-- Row by row. -/
def rowwise (f : ℕ → Fin 512 → EReal) : Vec Ideal S32768x512 .f32 := fun i => f (i 0).val (i 1)

/-- The state left for the next step. -/
def G20 (c : Dev nD) : Vec Ideal S16x1x1792 .f32 := fun i => Spec.preU (X m c ((i 0).val * 2048 + 2047)) (gv m c) (wv m c) (i 2)

/-- Result array 1. -/
def G12 (c : Dev nD) : Vec Ideal S8192x2048 .f32 := lay fun n l => Spec.rcol (Y m c n) l

/-- Result array 2. -/
def G13 (c : Dev nD) : Vec Ideal S8192x2048 .f32 := lay fun n l => dl m c n l

/-- Result array 3. -/
def G14 (c : Dev nD) : Vec Ideal S8192x2048 .f32 := lay fun n l => ek m c n l

/-- Result array 4. -/
def G15 (c : Dev nD) : Vec Ideal S8192x2048 .f32 := lay fun n l => Spec.vcol (Y m c n) l

/-- Result array 5. -/
def G16 (c : Dev nD) : Vec Ideal S8192x2048 .f32 := lay fun n l => -uk m c n l

/-- Result array 6. -/
def G17 (c : Dev nD) : Vec Ideal S8192x2048 .f32 := lay fun n l => uk m c n l * ar m c n l

/-- Result array 7. -/
def G18 (c : Dev nD) : Vec Ideal S32768x512 .f32 := rowwise fun n l => gt m c n l

/-- Result array 8. -/
def G19 (c : Dev nD) : Vec Ideal S32768x512 .f32 := rowwise fun n l => bn m c n l

theorem final12 (c : Dev nD) : (dats m 0 c).arrAt 12 cfg0.N = G12 m c := by
  refine (dats m 0 c).arrAt_eq_of_covers 12 _ (by decide +kernel) fun t hf y => ?_
  have ht := lt_N t
  blk_simp
  rw [after0_12]
  idx_vars y
  have e : (win0_12.blk t).view.emb (ix2 y0 y1) = ix2 (⟨512 * (t.val / 4) + y0.val, by omega⟩ : Fin 8192) (⟨512 * (t.val % 4) + y1.val, by omega⟩ : Fin 2048) := by blk_ext [idx t]
  exact (out12 m c t y0 y1).trans ((congrArg (G12 m c) e).trans (lay_at _ t.val ht y0 y1)).symm

theorem final13 (c : Dev nD) : (dats m 0 c).arrAt 13 cfg0.N = G13 m c := by
  refine (dats m 0 c).arrAt_eq_of_covers 13 _ (by decide +kernel) fun t hf y => ?_
  have ht := lt_N t
  blk_simp
  rw [after0_13]
  idx_vars y
  have e : (win0_13.blk t).view.emb (ix2 y0 y1) = ix2 (⟨512 * (t.val / 4) + y0.val, by omega⟩ : Fin 8192) (⟨512 * (t.val % 4) + y1.val, by omega⟩ : Fin 2048) := by blk_ext [idx t]
  exact (out13 m c t y0 y1).trans ((congrArg (G13 m c) e).trans (lay_at _ t.val ht y0 y1)).symm

theorem final14 (c : Dev nD) : (dats m 0 c).arrAt 14 cfg0.N = G14 m c := by
  refine (dats m 0 c).arrAt_eq_of_covers 14 _ (by decide +kernel) fun t hf y => ?_
  have ht := lt_N t
  blk_simp
  rw [after0_14]
  idx_vars y
  have e : (win0_14.blk t).view.emb (ix2 y0 y1) = ix2 (⟨512 * (t.val / 4) + y0.val, by omega⟩ : Fin 8192) (⟨512 * (t.val % 4) + y1.val, by omega⟩ : Fin 2048) := by blk_ext [idx t]
  exact (out14 m c t y0 y1).trans ((congrArg (G14 m c) e).trans (lay_at _ t.val ht y0 y1)).symm

theorem final15 (c : Dev nD) : (dats m 0 c).arrAt 15 cfg0.N = G15 m c := by
  refine (dats m 0 c).arrAt_eq_of_covers 15 _ (by decide +kernel) fun t hf y => ?_
  have ht := lt_N t
  blk_simp
  rw [after0_15]
  idx_vars y
  have e : (win0_15.blk t).view.emb (ix2 y0 y1) = ix2 (⟨512 * (t.val / 4) + y0.val, by omega⟩ : Fin 8192) (⟨512 * (t.val % 4) + y1.val, by omega⟩ : Fin 2048) := by blk_ext [idx t]
  exact (out15 m c t y0 y1).trans ((congrArg (G15 m c) e).trans (lay_at _ t.val ht y0 y1)).symm

theorem final16 (c : Dev nD) : (dats m 0 c).arrAt 16 cfg0.N = G16 m c := by
  refine (dats m 0 c).arrAt_eq_of_covers 16 _ (by decide +kernel) fun t hf y => ?_
  have ht := lt_N t
  blk_simp
  rw [after0_16]
  idx_vars y
  have e : (win0_16.blk t).view.emb (ix2 y0 y1) = ix2 (⟨512 * (t.val / 4) + y0.val, by omega⟩ : Fin 8192) (⟨512 * (t.val % 4) + y1.val, by omega⟩ : Fin 2048) := by blk_ext [idx t]
  exact (out16 m c t y0 y1).trans ((congrArg (G16 m c) e).trans (lay_at _ t.val ht y0 y1)).symm

theorem final17 (c : Dev nD) : (dats m 0 c).arrAt 17 cfg0.N = G17 m c := by
  refine (dats m 0 c).arrAt_eq_of_covers 17 _ (by decide +kernel) fun t hf y => ?_
  have ht := lt_N t
  blk_simp
  rw [after0_17]
  idx_vars y
  have e : (win0_17.blk t).view.emb (ix2 y0 y1) = ix2 (⟨512 * (t.val / 4) + y0.val, by omega⟩ : Fin 8192) (⟨512 * (t.val % 4) + y1.val, by omega⟩ : Fin 2048) := by blk_ext [idx t]
  exact (out17 m c t y0 y1).trans ((congrArg (G17 m c) e).trans (lay_at _ t.val ht y0 y1)).symm

theorem final18 (c : Dev nD) : (dats m 0 c).arrAt 18 cfg0.N = G18 m c := by
  refine (dats m 0 c).arrAt_eq_of_covers 18 _ (by decide +kernel) fun t hf y => ?_
  have ht := lt_N t
  blk_simp
  rw [after0_18]
  idx_vars y
  have e : (win0_18.blk t).view.emb (ix2 y0 y1) = ix2 (⟨512 * t.val + y0.val, by omega⟩ : Fin 32768) y1 := by blk_ext [idx t]
  exact (out18 m c t y1 y0).trans (congrArg (G18 m c) e).symm

theorem final19 (c : Dev nD) : (dats m 0 c).arrAt 19 cfg0.N = G19 m c := by
  refine (dats m 0 c).arrAt_eq_of_covers 19 _ (by decide +kernel) fun t hf y => ?_
  have ht := lt_N t
  blk_simp
  rw [after0_19]
  idx_vars y
  have e : (win0_19.blk t).view.emb (ix2 y0 y1) = ix2 (⟨512 * t.val + y0.val, by omega⟩ : Fin 32768) y1 := by blk_ext [idx t]
  exact (out19 m c t y1 y0).trans (congrArg (G19 m c) e).symm

theorem flush : ∀ t : Fin cfg0.N, (cfg0.win 20).flush t = true → t.val % 4 = 3 := by
  decide +kernel

theorem final20 (c : Dev nD) : (dats m 0 c).arrAt 20 cfg0.N = G20 m c := by
  refine (dats m 0 c).arrAt_eq_of_covers 20 _ (by decide +kernel) fun t hf y => ?_
  have ht := lt_N t
  have h3 := flush t hf
  blk_simp
  rw [after0_20]
  idx_vars y
  obtain rfl : y0 = 0 := Subsingleton.elim _ _
  obtain rfl : y1 = 0 := Subsingleton.elim _ _
  have e : (win0_20.blk t).view.emb (ix3 0 0 y2) = ix3 (⟨t.val / 4, by omega⟩ : Fin 16) (0 : Fin 1) y2 := by blk_ext [idx t]
  refine (state m c t y2).trans (Eq.trans ?_ (congrArg (G20 m c) e).symm)
  show _ = Spec.preU (X m c (t.val / 4 * 2048 + 2047)) (gv m c) (wv m c) y2
  rw [show t.val / 4 * 2048 + 2047 = 512 * t.val + 511 by omega]

/-- The run: the result arrays hold `G12` to `G20`, the arguments are unchanged. -/
theorem run : θ_run defs (onTc (τ := τ) (main (F := Ideal))) ⟨m, fun _ => 0, ρ⟩ fun r => ∀ c : Dev nD,
      r.2.mem ((c : Thread nD τ).loc main_v23_0) = G12 m c
      ∧ r.2.mem ((c : Thread nD τ).loc main_v23_1) = G13 m c
      ∧ r.2.mem ((c : Thread nD τ).loc main_v23_2) = G14 m c
      ∧ r.2.mem ((c : Thread nD τ).loc main_v23_3) = G15 m c
      ∧ r.2.mem ((c : Thread nD τ).loc main_v23_4) = G16 m c
      ∧ r.2.mem ((c : Thread nD τ).loc main_v23_5) = G17 m c
      ∧ r.2.mem ((c : Thread nD τ).loc main_v23_6) = G18 m c
      ∧ r.2.mem ((c : Thread nD τ).loc main_v23_7) = G19 m c
      ∧ r.2.mem ((c : Thread nD τ).loc main_v23_8) = G20 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => by
    obtain ⟨h0, h1, h2, h3, h4, h5, h6, h7, h8, h9⟩ := h c
    exact ⟨h0.trans (final12 m c), h1.trans (final13 m c), h2.trans (final14 m c), h3.trans (final15 m c), h4.trans (final16 m c), h5.trans (final17 m c), h6.trans (final18 m c), h7.trans (final19 m c), h8.trans (final20 m c), h9⟩) (Value.run_blocks m ρ)

end Cert.PreKernelIdeal.Pre

namespace Cert

/-- The kernel and the reference compute one function of the arguments. -/
theorem pre_algebraic : Cert.algebraic_PreKernelIdeal_PreReferenceIdeal := by
  intro m ρ m' ρ' _ hagree
  refine ⟨fun c => PreKernelIdeal.Pre.G12 m c, fun c => PreKernelIdeal.Pre.G13 m c, fun c => PreKernelIdeal.Pre.G14 m c, fun c => PreKernelIdeal.Pre.G15 m c, fun c => PreKernelIdeal.Pre.G16 m c, fun c => PreKernelIdeal.Pre.G17 m c, fun c => PreKernelIdeal.Pre.G18 m c, fun c => PreKernelIdeal.Pre.G19 m c, fun c => PreKernelIdeal.Pre.G20 m c, ?_, ?_⟩
  · exact (θ_run _ _ _).mono (fun _ h c => h c) (PreKernelIdeal.Pre.run m ρ)
  · refine (θ_run PreReferenceIdeal.defs _ _).mono (fun _ h c => ?_) (PreReferenceIdeal.Value.run (F := Ideal) m' ρ')
    obtain ⟨h0, h1, h2, h3, h4, h5, h6, h7, h8, h9, h10, h11⟩ := hagree c
    obtain ⟨r0, r1, r2, r3, r4, r5, r6, r7, r8, r9⟩ := h c
    refine ⟨r0.trans ?_, r1.trans ?_, r2.trans ?_, r3.trans ?_, r4.trans ?_, r5.trans ?_, r6.trans ?_, r7.trans ?_, r8.trans ?_, r9⟩
    · refine (PreReferenceIdeal.Read.val_main_v96_eq ..).trans ?_
      rw [h0, h1, h2, h3]
      funext i
      idx_vars i
      exact PreReferenceIdeal.Pre.at12 _ _ _ _ i0 i1
    · refine (PreReferenceIdeal.Read.val_main_v98_eq m' c).trans ?_
      rw [h0, h1, h2, h3, h4, h5]
      funext i
      idx_vars i
      exact PreReferenceIdeal.Pre.at13 _ _ _ _ _ _ i0 i1
    · refine (PreReferenceIdeal.Read.val_main_v100_eq m' c).trans ?_
      rw [h0, h1, h2, h3, h6, h7, h10]
      funext i
      idx_vars i
      exact PreReferenceIdeal.Pre.at14 _ _ _ _ _ _ _ i0 i1
    · refine (PreReferenceIdeal.Read.val_main_v102_eq ..).trans ?_
      rw [h0, h1, h2, h3]
      funext i
      idx_vars i
      exact PreReferenceIdeal.Pre.at15 _ _ _ _ i0 i1
    · refine (PreReferenceIdeal.Read.val_main_v105_eq m' c).trans ?_
      rw [h0, h1, h2, h3, h9]
      funext i
      idx_vars i
      exact PreReferenceIdeal.Pre.at16 _ _ _ _ _ i0 i1
    · refine (PreReferenceIdeal.Read.val_main_v108_eq m' c).trans ?_
      rw [h0, h1, h2, h3, h6, h7, h9]
      funext i
      idx_vars i
      exact PreReferenceIdeal.Pre.at17 _ _ _ _ _ _ _ i0 i1
    · refine (PreReferenceIdeal.Read.val_main_v109_eq ..).trans ?_
      rw [h0, h1, h2, h3, h8]
      funext i
      idx_vars i
      exact PreReferenceIdeal.Pre.at18 _ _ _ _ _ i0 i1
    · refine (PreReferenceIdeal.Read.val_main_v110_eq m' c).trans ?_
      rw [h0, h1, h2, h3, h6, h7, h10, h11]
      funext i
      idx_vars i
      exact PreReferenceIdeal.Pre.at19 _ _ _ _ _ _ _ _ i0 i1
    · refine (PreReferenceIdeal.Read.val_main_v111_eq ..).trans ?_
      rw [h0, h1, h2]
      funext i
      idx_vars i
      obtain rfl : i1 = 0 := Subsingleton.elim _ _
      exact PreReferenceIdeal.Pre.at20 _ _ _ i0 i2

/-- The reference changes no argument and leaves no semaphore raised. -/
theorem pre_reference_frame : Cert.quiescent_PreReferenceIdeal := by
  intro m ρ _
  exact (θ_run PreReferenceIdeal.defs _ _).mono (fun r h => ⟨fun c => (h c).2.2.2.2.2.2.2.2.2,
    Idealize.ShloMosaic.sem_eq_zero_of_no_sems (by decide) r.2⟩) (PreReferenceIdeal.Value.run (F := Ideal) m ρ)

end Cert

end
-- ==== Proof.lean ====
/-
  The claims, assembled. Each kernel's frame is the generated one; each reference's frame and each value claim is proved in the
  modules under Proof/, one set per call.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.PleKernel
public import proofs.«01_k».proof.Proof.Gen.PleKernel.Skeleton
public import proofs.«01_k».proof.Proof.Gen.PleKernel.Launch
public import proofs.«01_k».proof.Proof.Gen.PleKernel.Points
public import proofs.«01_k».proof.Proof.Gen.PleKernel.Frame
public import proofs.«01_k».proof.Proof.Gen.PleKernelIdeal
public import proofs.«01_k».proof.Proof.Gen.PleKernelIdeal.Skeleton
public import proofs.«01_k».proof.Proof.Gen.PleKernelIdeal.Launch
public import proofs.«01_k».proof.Proof.Gen.PleKernelIdeal.Points
public import proofs.«01_k».proof.Proof.Gen.PleKernelIdeal.Frame
public import proofs.«01_k».proof.Proof.Gen.PleReferenceIdeal
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.PreKernel
public import proofs.«01_k».proof.Proof.Gen.PreKernel.Skeleton
public import proofs.«01_k».proof.Proof.Gen.PreKernel.Launch
public import proofs.«01_k».proof.Proof.Gen.PreKernel.Points
public import proofs.«01_k».proof.Proof.Gen.PreKernel.Frame
public import proofs.«01_k».proof.Proof.Gen.PreKernelIdeal
public import proofs.«01_k».proof.Proof.Gen.PreKernelIdeal.Skeleton
public import proofs.«01_k».proof.Proof.Gen.PreKernelIdeal.Launch
public import proofs.«01_k».proof.Proof.Gen.PreKernelIdeal.Points
public import proofs.«01_k».proof.Proof.Gen.PreKernelIdeal.Frame
public import proofs.«01_k».proof.Proof.Gen.PreReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Ffn
public import proofs.«01_k».proof.Proof.Gen.PleKernelIdeal.Value
public import proofs.«01_k».proof.Proof.Gen.PleReferenceIdeal.Run
public import proofs.«01_k».proof.Proof.Gen.PleReferenceIdeal.Read
public import proofs.«01_k».proof.Proof.Ple
public import proofs.«01_k».proof.Proof.Gen.ConvKernelIdeal.Value
public import proofs.«01_k».proof.Proof.Gen.ConvReferenceIdeal.Run
public import proofs.«01_k».proof.Proof.Gen.ConvReferenceIdeal.Read
public import proofs.«01_k».proof.Proof.Conv
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Merge
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Proj
public import proofs.«01_k».proof.Proof.Gen.PreKernelIdeal.Value
public import proofs.«01_k».proof.Proof.Gen.PreReferenceIdeal.Run
public import proofs.«01_k».proof.Proof.Gen.PreReferenceIdeal.Read
public import proofs.«01_k».proof.Proof.Pre
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts,
    Cert.KernelIdeal.Gen.facts,
    Cert.ReferenceIdeal.Gen.facts,
    Cert.PleKernel.Gen.facts,
    Cert.PleKernelIdeal.Gen.facts,
    Cert.PleReferenceIdeal.Gen.facts,
    Cert.ConvKernel.Gen.facts,
    Cert.ConvKernelIdeal.Gen.facts,
    Cert.ConvReferenceIdeal.Gen.facts,
    Cert.MergeKernel.Gen.facts,
    Cert.MergeKernelIdeal.Gen.facts,
    Cert.MergeReferenceIdeal.Gen.facts,
    Cert.ProjKernel.Gen.facts,
    Cert.ProjKernelIdeal.Gen.facts,
    Cert.ProjReferenceIdeal.Gen.facts,
    Cert.PreKernel.Gen.facts,
    Cert.PreKernelIdeal.Gen.facts,
    Cert.PreReferenceIdeal.Gen.facts,
    fun m ρ _ => Cert.Kernel.Gen.frame m ρ,
    fun m ρ _ => Cert.KernelIdeal.Gen.frame m ρ,
    Cert.ffn_reference_frame,
    fun m ρ _ => Cert.PleKernel.Gen.frame m ρ,
    fun m ρ _ => Cert.PleKernelIdeal.Gen.frame m ρ,
    Cert.ple_reference_frame,
    fun m ρ _ => Cert.ConvKernel.Gen.frame m ρ,
    fun m ρ _ => Cert.ConvKernelIdeal.Gen.frame m ρ,
    Cert.conv_reference_frame,
    fun m ρ _ => Cert.MergeKernel.Gen.frame m ρ,
    fun m ρ _ => Cert.MergeKernelIdeal.Gen.frame m ρ,
    Cert.merge_reference_frame,
    fun m ρ _ => Cert.ProjKernel.Gen.frame m ρ,
    fun m ρ _ => Cert.ProjKernelIdeal.Gen.frame m ρ,
    Cert.proj_reference_frame,
    fun m ρ _ => Cert.PreKernel.Gen.frame m ρ,
    fun m ρ _ => Cert.PreKernelIdeal.Gen.frame m ρ,
    Cert.pre_reference_frame,
    trivial,
    Cert.ffn_algebraic,
    trivial,
    Cert.ple_algebraic,
    trivial,
    Cert.conv_algebraic,
    trivial,
    Cert.merge_algebraic,
    trivial,
    Cert.proj_algebraic,
    trivial,
    Cert.pre_algebraic⟩

end Cert.Proof

end
